-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v29) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v56_0)) (v1 : (c : Dev Cert.Kernel3Ideal.nD) → Buf (Elt Ideal) ((c.tc : Thread Cert.Kernel3Ideal.nD Cert.Kernel3Ideal.τ).loc Cert.Kernel3Ideal.main_v56_1)) (v2 : (c : Dev Cert.Kernel3Ideal.nD) → Buf (Elt Ideal) ((c.tc : Thread Cert.Kernel3Ideal.nD Cert.Kernel3Ideal.τ).loc Cert.Kernel3Ideal.main_v56_2)) (v3 : (c : Dev Cert.Kernel3Ideal.nD) → Buf (Elt Ideal) ((c.tc : Thread Cert.Kernel3Ideal.nD Cert.Kernel3Ideal.τ).loc Cert.Kernel3Ideal.main_v56_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v56_0) = v0 c
          ∧ r.2.mem ((c.tc : Thread Cert.Kernel3Ideal.nD Cert.Kernel3Ideal.τ).loc Cert.Kernel3Ideal.main_v56_1) = v1 c
          ∧ r.2.mem ((c.tc : Thread Cert.Kernel3Ideal.nD Cert.Kernel3Ideal.τ).loc Cert.Kernel3Ideal.main_v56_2) = v2 c
          ∧ r.2.mem ((c.tc : Thread Cert.Kernel3Ideal.nD Cert.Kernel3Ideal.τ).loc Cert.Kernel3Ideal.main_v56_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v104) = v0 c
          ∧ r.2.mem ((c.tc : Thread Cert.Reference3Ideal.nD Cert.Reference3Ideal.τ).loc Cert.Reference3Ideal.main_v106) = v1 c
          ∧ r.2.mem ((c.tc : Thread Cert.Reference3Ideal.nD Cert.Reference3Ideal.τ).loc Cert.Reference3Ideal.main_v108) = v2 c
          ∧ r.2.mem ((c.tc : Thread Cert.Reference3Ideal.nD Cert.Reference3Ideal.τ).loc Cert.Reference3Ideal.main_v109) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S2x8320x1024 : Shape := ⟨3, ![2, 8320, 1024]⟩
abbrev S2x8320x512 : Shape := ⟨3, ![2, 8320, 512]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S16640x1024 : Shape := ⟨2, ![16640, 1024]⟩
abbrev S1024 : Shape := ⟨1, ![1024]⟩
abbrev S16640x512 : Shape := ⟨2, ![16640, 512]⟩
abbrev S16384x1024 : Shape := ⟨2, ![16384, 1024]⟩
abbrev S512x1024 : Shape := ⟨2, ![512, 1024]⟩
abbrev S512x512 : Shape := ⟨2, ![512, 512]⟩
abbrev S512x2816 : Shape := ⟨2, ![512, 2816]⟩
abbrev S1024x2816 : Shape := ⟨2, ![1024, 2816]⟩
abbrev S2816x1024 : Shape := ⟨2, ![2816, 1024]⟩
abbrev S1024x1024 : Shape := ⟨2, ![1024, 1024]⟩
abbrev S2x256x2816 : Shape := ⟨3, ![2, 256, 2816]⟩
abbrev S2x256x1024 : Shape := ⟨3, ![2, 256, 1024]⟩
abbrev S2 : Shape := ⟨1, ![2]⟩
abbrev S1 : Shape := ⟨1, ![1]⟩
abbrev S_ : Shape := ⟨0, ![]⟩
abbrev S1x256x2816 : Shape := ⟨3, ![1, 256, 2816]⟩
abbrev S256x2816 : Shape := ⟨2, ![256, 2816]⟩
abbrev S1x256x1024 : Shape := ⟨3, ![1, 256, 1024]⟩
abbrev S256x1024 : Shape := ⟨2, ![256, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩

abbrev nBuf : Space → Nat
  | .hbm => 14
  | .vmem => 17
  | .smem => 0
  | _ => 0

abbrev bufTy : (tb : Table) → Fin (tcTables nBuf tb) → BufTy
  | .hbm, ⟨0, _⟩ => ⟨S2x8320x1024, .f32⟩
  | .hbm, ⟨1, _⟩ => ⟨S2x8320x512, .bf16⟩
  | .hbm, ⟨2, _⟩ => ⟨S2x8320x512, .bf16⟩
  | .hbm, ⟨3, _⟩ => ⟨S1x1024x1024, .f32⟩
  | .hbm, ⟨4, _⟩ => ⟨S1x1024, .f32⟩
  | .hbm, ⟨5, _⟩ => ⟨S1x1024x2816, .f32⟩
  | .hbm, ⟨6, _⟩ => ⟨S1x1024x2816, .f32⟩
  | .hbm, ⟨7, _⟩ => ⟨S1x2816x1024, .f32⟩
  | .hbm, ⟨8, _⟩ => ⟨S16640x1024, .f32⟩
  | .hbm, ⟨9, _⟩ => ⟨S1024, .f32⟩
  | .hbm, ⟨10, _⟩ => ⟨S16640x512, .bf16⟩
  | .hbm, ⟨11, _⟩ => ⟨S16640x512, .bf16⟩
  | .hbm, ⟨12, _⟩ => ⟨S1x1024, .f32⟩
  | .hbm, ⟨13, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x2816, .bf16⟩
  | .local _ .vmem, ⟨11, _⟩ => ⟨S1024x2816, .bf16⟩
  | .local _ .vmem, ⟨12, _⟩ => ⟨S1024x2816, .bf16⟩
  | .local _ .vmem, ⟨13, _⟩ => ⟨S2816x1024, .bf16⟩
  | .local _ .vmem, ⟨14, _⟩ => ⟨S1024x1024, .bf16⟩
  | .local _ .vmem, ⟨15, _⟩ => ⟨S2x256x2816, .f32⟩
  | .local _ .vmem, ⟨16, _⟩ => ⟨S2x256x1024, .f32⟩
  | _, _ => ⟨S2x8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_scratch6 : Ref sig .tc := ⟨.vmem, 15, rfl⟩
abbrev cc0_scratch7 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def k0_mult1 (i : grid0.Coords) : BitVec 32 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c16_i32 : BitVec 32 := 16#32
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let v0 : BitVec 32 := Scalar.divsi arg0 c16_i32
  let c1_i32 : BitVec 32 := 1#32
  let v15 : BitVec 32 := Scalar.subi v0 c1_i32
  let v16 : BitVec 32 := Scalar.select v14 v15 v0
  let c8320_i32 : BitVec 32 := 8320#32
  let v17 : BitVec 32 := Scalar.muli v16 c8320_i32
  let c16_i32_4 : BitVec 32 := 16#32
  let v18 : BitVec 32 := Scalar.addi v17 c16_i32_4
  let c16_i32_5 : BitVec 32 := 16#32
  let c0_i32_6 : BitVec 32 := 0#32
  let v19 : BitVec 1 := Scalar.cmpi .eq c16_i32_5 c0_i32_6
  let c1_i32_7 : BitVec 32 := 1#32
  let v20 : BitVec 32 := Scalar.select v19 c1_i32_7 c16_i32_5
  let v21 : BitVec 32 := Scalar.remsi arg0 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let v30 : BitVec 32 := Scalar.addi v18 v29
  v30
def k0_mult2 (i : grid0.Coords) : BitVec 32 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c16_i32 : BitVec 32 := 16#32
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let v0 : BitVec 32 := Scalar.divsi arg0 c16_i32
  let c1_i32 : BitVec 32 := 1#32
  let v15 : BitVec 32 := Scalar.subi v0 c1_i32
  let v16 : BitVec 32 := Scalar.select v14 v15 v0
  let c8320_i32 : BitVec 32 := 8320#32
  let v17 : BitVec 32 := Scalar.muli v16 c8320_i32
  let c16_i32_4 : BitVec 32 := 16#32
  let v18 : BitVec 32 := Scalar.addi v17 c16_i32_4
  let c16_i32_5 : BitVec 32 := 16#32
  let c0_i32_6 : BitVec 32 := 0#32
  let v19 : BitVec 1 := Scalar.cmpi .eq c16_i32_5 c0_i32_6
  let c1_i32_7 : BitVec 32 := 1#32
  let v20 : BitVec 32 := Scalar.select v19 c1_i32_7 c16_i32_5
  let v21 : BitVec 32 := Scalar.remsi arg0 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let v30 : BitVec 32 := Scalar.addi v18 v29
  v30
def k0_mult3 (i : grid0.Coords) : BitVec 32 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c16_i32 : BitVec 32 := 16#32
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let v0 : BitVec 32 := Scalar.divsi arg0 c16_i32
  let c1_i32 : BitVec 32 := 1#32
  let v15 : BitVec 32 := Scalar.subi v0 c1_i32
  let v16 : BitVec 32 := Scalar.select v14 v15 v0
  let c8320_i32 : BitVec 32 := 8320#32
  let v17 : BitVec 32 := Scalar.muli v16 c8320_i32
  let c16_i32_4 : BitVec 32 := 16#32
  let v18 : BitVec 32 := Scalar.addi v17 c16_i32_4
  let c16_i32_5 : BitVec 32 := 16#32
  let c0_i32_6 : BitVec 32 := 0#32
  let v19 : BitVec 1 := Scalar.cmpi .eq c16_i32_5 c0_i32_6
  let c1_i32_7 : BitVec 32 := 1#32
  let v20 : BitVec 32 := Scalar.select v19 c1_i32_7 c16_i32_5
  let v21 : BitVec 32 := Scalar.remsi arg0 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let v30 : BitVec 32 := Scalar.addi v18 v29
  v30
def cc0_transform_0 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8320_i32 : BitVec 32 := 8320#32
  let v17 : BitVec 32 := Scalar.muli v16 c8320_i32
  let c16_i32_4 : BitVec 32 := 16#32
  let v18 : BitVec 32 := Scalar.addi v17 c16_i32_4
  let c16_i32_5 : BitVec 32 := 16#32
  let c0_i32_6 : BitVec 32 := 0#32
  let v19 : BitVec 1 := Scalar.cmpi .eq c16_i32_5 c0_i32_6
  let c1_i32_7 : BitVec 32 := 1#32
  let v20 : BitVec 32 := Scalar.select v19 c1_i32_7 c16_i32_5
  let v21 : BitVec 32 := Scalar.remsi arg0 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let v30 : BitVec 32 := Scalar.addi v18 v29
  let v31 : BitVec 32 := v30
  let c0_i32_11 : BitVec 32 := 0#32
  let c0_i32_12 : BitVec 32 := 0#32
  ![v31.toNat, c0_i32_11.toNat]

def cc0_transform_1 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8320_i32 : BitVec 32 := 8320#32
  let v17 : BitVec 32 := Scalar.muli v16 c8320_i32
  let c16_i32_4 : BitVec 32 := 16#32
  let v18 : BitVec 32 := Scalar.addi v17 c16_i32_4
  let c16_i32_5 : BitVec 32 := 16#32
  let c0_i32_6 : BitVec 32 := 0#32
  let v19 : BitVec 1 := Scalar.cmpi .eq c16_i32_5 c0_i32_6
  let c1_i32_7 : BitVec 32 := 1#32
  let v20 : BitVec 32 := Scalar.select v19 c1_i32_7 c16_i32_5
  let v21 : BitVec 32 := Scalar.remsi arg0 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let v30 : BitVec 32 := Scalar.addi v18 v29
  let v31 : BitVec 32 := v30
  let c0_i32_11 : BitVec 32 := 0#32
  let c0_i32_12 : BitVec 32 := 0#32
  ![v31.toNat, c0_i32_11.toNat]

def cc0_transform_2 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8320_i32 : BitVec 32 := 8320#32
  let v17 : BitVec 32 := Scalar.muli v16 c8320_i32
  let c16_i32_4 : BitVec 32 := 16#32
  let v18 : BitVec 32 := Scalar.addi v17 c16_i32_4
  let c16_i32_5 : BitVec 32 := 16#32
  let c0_i32_6 : BitVec 32 := 0#32
  let v19 : BitVec 1 := Scalar.cmpi .eq c16_i32_5 c0_i32_6
  let c1_i32_7 : BitVec 32 := 1#32
  let v20 : BitVec 32 := Scalar.select v19 c1_i32_7 c16_i32_5
  let v21 : BitVec 32 := Scalar.remsi arg0 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let v30 : BitVec 32 := Scalar.addi v18 v29
  let v31 : BitVec 32 := v30
  let c0_i32_11 : BitVec 32 := 0#32
  let c0_i32_12 : BitVec 32 := 0#32
  ![v31.toNat, c0_i32_11.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S2x8320x1024 : Shape := ⟨3, ![2, 8320, 1024]⟩
abbrev S2x8320x512 : Shape := ⟨3, ![2, 8320, 512]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024x1024 : Shape := ⟨2, ![1024, 1024]⟩
abbrev S1024 : Shape := ⟨1, ![1024]⟩
abbrev S_ : Shape := ⟨0, ![]⟩
abbrev S2x8320 : Shape := ⟨2, ![2, 8320]⟩
abbrev S2x8320x1 : Shape := ⟨3, ![2, 8320, 1]⟩
abbrev S1x1x1024 : Shape := ⟨3, ![1, 1, 1024]⟩
abbrev S1024x2816 : Shape := ⟨2, ![1024, 2816]⟩
abbrev S2816x1024 : Shape := ⟨2, ![2816, 1024]⟩
abbrev S2x8320x2816 : Shape := ⟨3, ![2, 8320, 2816]⟩
abbrev S2x8192x1024 : Shape := ⟨3, ![2, 8192, 1024]⟩
abbrev S16384x1024 : Shape := ⟨2, ![16384, 1024]⟩

abbrev nBuf : Space → Nat
  | .hbm => 53
  | .vmem => 0
  | .smem => 0
  | _ => 0

abbrev bufTy : (tb : Table) → Fin (tcTables nBuf tb) → BufTy
  | .hbm, ⟨0, _⟩ => ⟨S2x8320x1024, .f32⟩
  | .hbm, ⟨1, _⟩ => ⟨S2x8320x512, .bf16⟩
  | .hbm, ⟨2, _⟩ => ⟨S2x8320x512, .bf16⟩
  | .hbm, ⟨3, _⟩ => ⟨S1x1024x1024, .f32⟩
  | .hbm, ⟨4, _⟩ => ⟨S1x1024, .f32⟩
  | .hbm, ⟨5, _⟩ => ⟨S1x1024x2816, .f32⟩
  | .hbm, ⟨6, _⟩ => ⟨S1x1024x2816, .f32⟩
  | .hbm, ⟨7, _⟩ => ⟨S1x2816x1024, .f32⟩
  | .hbm, ⟨8, _⟩ => ⟨S2x8320x512, .f32⟩
  | .hbm, ⟨9, _⟩ => ⟨S2x8320x512, .f32⟩
  | .hbm, ⟨10, _⟩ => ⟨S2x8320x1024, .f32⟩
  | .hbm, ⟨11, _⟩ => ⟨S1024x1024, .f32⟩
  | .hbm, ⟨12, _⟩ => ⟨S2x8320x1024, .f32⟩
  | .hbm, ⟨13, _⟩ => ⟨S2x8320x1024, .f32⟩
  | .hbm, ⟨14, _⟩ => ⟨S1024, .f32⟩
  | .hbm, ⟨15, _⟩ => ⟨S2x8320x1024, .f32⟩
  | .hbm, ⟨16, _⟩ => ⟨S_, .f32⟩
  | .hbm, ⟨17, _⟩ => ⟨S2x8320, .f32⟩
  | .hbm, ⟨18, _⟩ => ⟨S2x8320x1, .f32⟩
  | .hbm, ⟨19, _⟩ => ⟨S_, .f32⟩
  | .hbm, ⟨20, _⟩ => ⟨S2x8320x1, .f32⟩
  | .hbm, ⟨21, _⟩ => ⟨S2x8320x1, .f32⟩
  | .hbm, ⟨22, _⟩ => ⟨S_, .f32⟩
  | .hbm, ⟨23, _⟩ => ⟨S2x8320x1, .f32⟩
  | .hbm, ⟨24, _⟩ => ⟨S2x8320x1, .f32⟩
  | .hbm, ⟨25, _⟩ => ⟨S2x8320x1, .f32⟩
  | .hbm, ⟨26, _⟩ => ⟨S2x8320x1024, .f32⟩
  | .hbm, ⟨27, _⟩ => ⟨S2x8320x1024, .f32⟩
  | .hbm, ⟨28, _⟩ => ⟨S1x1x1024, .f32⟩
  | .hbm, ⟨29, _⟩ => ⟨S2x8320x1024, .f32⟩
  | .hbm, ⟨30, _⟩ => ⟨S2x8320x1024, .f32⟩
  | .hbm, ⟨31, _⟩ => ⟨S1024x2816, .f32⟩
  | .hbm, ⟨32, _⟩ => ⟨S1024x2816, .f32⟩
  | .hbm, ⟨33, _⟩ => ⟨S2816x1024, .f32⟩
  | .hbm, ⟨34, _⟩ => ⟨S2x8320x2816, .f32⟩
  | .hbm, ⟨35, _⟩ => ⟨S2x8320x2816, .f32⟩
  | .hbm, ⟨36, _⟩ => ⟨S2x8320x2816, .f32⟩
  | .hbm, ⟨37, _⟩ => ⟨S_, .f32⟩
  | .hbm, ⟨38, _⟩ => ⟨S2x8320x2816, .f32⟩
  | .hbm, ⟨39, _⟩ => ⟨S2x8320x2816, .f32⟩
  | .hbm, ⟨40, _⟩ => ⟨S_, .f32⟩
  | .hbm, ⟨41, _⟩ => ⟨S2x8320x2816, .f32⟩
  | .hbm, ⟨42, _⟩ => ⟨S2x8320x2816, .f32⟩
  | .hbm, ⟨43, _⟩ => ⟨S2x8320x2816, .f32⟩
  | .hbm, ⟨44, _⟩ => ⟨S2x8320x2816, .f32⟩
  | .hbm, ⟨45, _⟩ => ⟨S2x8320x2816, .f32⟩
  | .hbm, ⟨46, _⟩ => ⟨S2x8320x1024, .f32⟩
  | .hbm, ⟨47, _⟩ => ⟨S_, .f32⟩
  | .hbm, ⟨48, _⟩ => ⟨S2x8320x1024, .f32⟩
  | .hbm, ⟨49, _⟩ => ⟨S2x8320x1024, .f32⟩
  | .hbm, ⟨50, _⟩ => ⟨S2x8320x1024, .f32⟩
  | .hbm, ⟨51, _⟩ => ⟨S2x8192x1024, .f32⟩
  | .hbm, ⟨52, _⟩ => ⟨S16384x1024, .f32⟩
  | _, _ => ⟨S2x8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_2 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩

abbrev nD : Nat := 1
abbrev τ : Topo := Topo.v7x

variable {F : FTy → Type} [FloatOps F]
-- ==== Kernel2.lean ====
abbrev S2x8192x1024 : Shape := ⟨3, ![2, 8192, 1024]⟩
abbrev S16x1024 : Shape := ⟨2, ![16, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S16384x1024 : Shape := ⟨2, ![16384, 1024]⟩
abbrev S1024 : Shape := ⟨1, ![1024]⟩
abbrev S16640x1024 : Shape := ⟨2, ![16640, 1024]⟩
abbrev S640x1024 : Shape := ⟨2, ![640, 1024]⟩
abbrev S640x2816 : Shape := ⟨2, ![640, 2816]⟩
abbrev S1024x2816 : Shape := ⟨2, ![1024, 2816]⟩
abbrev S2816x1024 : Shape := ⟨2, ![2816, 1024]⟩
abbrev S2x256x2816 : Shape := ⟨3, ![2, 256, 2816]⟩
abbrev S2x256x1024 : Shape := ⟨3, ![2, 256, 1024]⟩
abbrev S2 : Shape := ⟨1, ![2]⟩
abbrev S1 : Shape := ⟨1, ![1]⟩
abbrev S_ : Shape := ⟨0, ![]⟩
abbrev S1x256x2816 : Shape := ⟨3, ![1, 256, 2816]⟩
abbrev S256x2816 : Shape := ⟨2, ![256, 2816]⟩
abbrev S1x256x1024 : Shape := ⟨3, ![1, 256, 1024]⟩
abbrev S256x1024 : Shape := ⟨2, ![256, 1024]⟩
abbrev S624x1024 : Shape := ⟨2, ![624, 1024]⟩
abbrev S640 : Shape := ⟨1, ![640]⟩
abbrev S640x1 : Shape := ⟨2, ![640, 1]⟩
abbrev S1024x256 : Shape := ⟨2, ![1024, 256]⟩
abbrev S640x256 : Shape := ⟨2, ![640, 256]⟩

abbrev nBuf : Space → Nat
  | .hbm => 10
  | .vmem => 13
  | .smem => 0
  | _ => 0

abbrev bufTy : (tb : Table) → Fin (tcTables nBuf tb) → BufTy
  | .hbm, ⟨0, _⟩ => ⟨S2x8192x1024, .f32⟩
  | .hbm, ⟨1, _⟩ => ⟨S16x1024, .f32⟩
  | .hbm, ⟨2, _⟩ => ⟨S1x1024, .f32⟩
  | .hbm, ⟨3, _⟩ => ⟨S1x1024x2816, .f32⟩
  | .hbm, ⟨4, _⟩ => ⟨S1x1024x2816, .f32⟩
  | .hbm, ⟨5, _⟩ => ⟨S1x2816x1024, .f32⟩
  | .hbm, ⟨6, _⟩ => ⟨S16384x1024, .f32⟩
  | .hbm, ⟨7, _⟩ => ⟨S1024, .f32⟩
  | .hbm, ⟨8, _⟩ => ⟨S1x1024, .f32⟩
  | .hbm, ⟨9, _⟩ => ⟨S16640x1024, .f32⟩
  | .local _ .vmem, ⟨0, _⟩ => ⟨S640x1024, .f32⟩
  | .local _ .vmem, ⟨1, _⟩ => ⟨S640x1024, .f32⟩
  | .local _ .vmem, ⟨2, _⟩ => ⟨S16x1024, .f32⟩
  | .local _ .vmem, ⟨3, _⟩ => ⟨S1x1024, .f32⟩
  | .local _ .vmem, ⟨4, _⟩ => ⟨S640x1024, .f32⟩
  | .local _ .vmem, ⟨5, _⟩ => ⟨S640x1024, .f32⟩
  | .local _ .vmem, ⟨6, _⟩ => ⟨S640x1024, .bf16⟩
  | .local _ .vmem, ⟨7, _⟩ => ⟨S640x2816, .bf16⟩
  | .local _ .vmem, ⟨8, _⟩ => ⟨S1024x2816, .bf16⟩
  | .local _ .vmem, ⟨9, _⟩ => ⟨S1024x2816, .bf16⟩
  | .local _ .vmem, ⟨10, _⟩ => ⟨S2816x1024, .bf16⟩
  | .local _ .vmem, ⟨11, _⟩ => ⟨S2x256x2816, .f32⟩
  | .local _ .vmem, ⟨12, _⟩ => ⟨S2x256x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![26], ![false]⟩

def k0_mult1 (i : grid0.Coords) : BitVec 32 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c13_i32 : BitVec 32 := 13#32
  let c0_i32_1 : BitVec 32 := 0#32
  let v6 : BitVec 1 := Scalar.cmpi .sgt c13_i32 c0_i32_1
  let v7 : BitVec 32 := Scalar.extui v6
  let c0_i32_2 : BitVec 32 := 0#32
  let v8 : BitVec 1 := Scalar.cmpi .slt c13_i32 c0_i32_2
  let v9 : BitVec 32 := Scalar.extui v8
  let v10 : BitVec 32 := Scalar.subi v7 v9
  let v11 : BitVec 1 := Scalar.cmpi .ne v5 v10
  let v12 : BitVec 32 := Scalar.remsi arg0 c13_i32
  let c0_i32_3 : BitVec 32 := 0#32
  let v13 : BitVec 1 := Scalar.cmpi .ne v12 c0_i32_3
  let v14 : BitVec 1 := Scalar.andi v11 v13
  let v0 : BitVec 32 := Scalar.divsi arg0 c13_i32
  let c1_i32 : BitVec 32 := 1#32
  let v15 : BitVec 32 := Scalar.subi v0 c1_i32
  let v16 : BitVec 32 := Scalar.select v14 v15 v0
  let c8192_i32 : BitVec 32 := 8192#32
  let v17 : BitVec 32 := Scalar.muli v16 c8192_i32
  let c7552_i32 : BitVec 32 := 7552#32
  let c0_i32_10 : BitVec 32 := 0#32
  let c13_i32_4 : BitVec 32 := 13#32
  let c0_i32_5 : BitVec 32 := 0#32
  let v18 : BitVec 1 := Scalar.cmpi .eq c13_i32_4 c0_i32_5
  let c1_i32_6 : BitVec 32 := 1#32
  let v19 : BitVec 32 := Scalar.select v18 c1_i32_6 c13_i32_4
  let v20 : BitVec 32 := Scalar.remsi arg0 v19
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let c0_i32_7 : BitVec 32 := 0#32
  let v21 : BitVec 1 := Scalar.cmpi .ne v20 c0_i32_7
  let v25 : BitVec 1 := Scalar.andi v24 v21
  let v26 : BitVec 32 := Scalar.addi v20 v19
  let v27 : BitVec 32 := Scalar.select v25 v26 v20
  let c640_i32 : BitVec 32 := 640#32
  let v28 : BitVec 32 := Scalar.muli v27 c640_i32
  let c16_i32 : BitVec 32 := 16#32
  let v29 : BitVec 32 := Scalar.subi v28 c16_i32
  let v30 : BitVec 32 := Scalar.maxsi c0_i32_10 v29
  let v31 : BitVec 32 := Scalar.minsi c7552_i32 v30
  let v32 : BitVec 32 := Scalar.addi v17 v31
  v32
def cc0_transform_0 (i : grid0.Coords) : Fin 2 → Nat :=
  let arg0 : BitVec 32 := BitVec.ofNat 32 (i 0).val
  let c13_i32 : BitVec 32 := 13#32
  let v0 : BitVec 32 := Scalar.divsi arg0 c13_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c13_i32 c0_i32_1
  let v7 : BitVec 32 := Scalar.extui v6
  let c0_i32_2 : BitVec 32 := 0#32
  let v8 : BitVec 1 := Scalar.cmpi .slt c13_i32 c0_i32_2
  let v9 : BitVec 32 := Scalar.extui v8
  let v10 : BitVec 32 := Scalar.subi v7 v9
  let v11 : BitVec 1 := Scalar.cmpi .ne v5 v10
  let v12 : BitVec 32 := Scalar.remsi arg0 c13_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8192_i32 : BitVec 32 := 8192#32
  let v17 : BitVec 32 := Scalar.muli v16 c8192_i32
  let c13_i32_4 : BitVec 32 := 13#32
  let c0_i32_5 : BitVec 32 := 0#32
  let v18 : BitVec 1 := Scalar.cmpi .eq c13_i32_4 c0_i32_5
  let c1_i32_6 : BitVec 32 := 1#32
  let v19 : BitVec 32 := Scalar.select v18 c1_i32_6 c13_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c640_i32 : BitVec 32 := 640#32
  let v28 : BitVec 32 := Scalar.muli v27 c640_i32
  let c16_i32 : BitVec 32 := 16#32
  let v29 : BitVec 32 := Scalar.subi v28 c16_i32
  let c0_i32_10 : BitVec 32 := 0#32
  let c7552_i32 : BitVec 32 := 7552#32
  let v30 : BitVec 32 := Scalar.maxsi c0_i32_10 v29
  let v31 : BitVec 32 := Scalar.minsi c7552_i32 v30
  let v32 : BitVec 32 := Scalar.addi v17 v31
  let v33 : BitVec 32 := v32
  let c0_i32_11 : BitVec 32 := 0#32
  let c0_i32_12 : BitVec 32 := 0#32
  ![v33.toNat, c0_i32_11.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S640x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference2Ideal.lean ====
abbrev S2x8192x1024 : Shape := ⟨3, ![2, 8192, 1024]⟩
abbrev S16x1024 : Shape := ⟨2, ![16, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1x16x1024 : Shape := ⟨3, ![1, 16, 1024]⟩
abbrev S2x16x1024 : Shape := ⟨3, ![2, 16, 1024]⟩
abbrev S2x8208x1024 : Shape := ⟨3, ![2, 8208, 1024]⟩
abbrev S_ : Shape := ⟨0, ![]⟩
abbrev S2x8320x1024 : Shape := ⟨3, ![2, 8320, 1024]⟩
abbrev S1024 : Shape := ⟨1, ![1024]⟩
abbrev S2x8320 : Shape := ⟨2, ![2, 8320]⟩
abbrev S2x8320x1 : Shape := ⟨3, ![2, 8320, 1]⟩
abbrev S1x1x1024 : Shape := ⟨3, ![1, 1, 1024]⟩
abbrev S1024x2816 : Shape := ⟨2, ![1024, 2816]⟩
abbrev S2816x1024 : Shape := ⟨2, ![2816, 1024]⟩
abbrev S2x8320x2816 : Shape := ⟨3, ![2, 8320, 2816]⟩
abbrev S16640x1024 : Shape := ⟨2, ![16640, 1024]⟩

abbrev nBuf : Space → Nat
  | .hbm => 50
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S16x1024, .f32⟩
  | .hbm, ⟨2, _⟩ => ⟨S1x1024, .f32⟩
  | .hbm, ⟨3, _⟩ => ⟨S1x1024x2816, .f32⟩
  | .hbm, ⟨4, _⟩ => ⟨S1x1024x2816, .f32⟩
  | .hbm, ⟨5, _⟩ => ⟨S1x2816x1024, .f32⟩
  | .hbm, ⟨6, _⟩ => ⟨S1x16x1024, .f32⟩
  | .hbm, ⟨7, _⟩ => ⟨S2x16x1024, .f32⟩
  | .hbm, ⟨8, _⟩ => ⟨S2x8208x1024, .f32⟩
  | .hbm, ⟨9, _⟩ => ⟨S_, .i32⟩
  | .hbm, ⟨10, _⟩ => ⟨S_, .f32⟩
  | .hbm, ⟨11, _⟩ => ⟨S2x8320x1024, .f32⟩
  | .hbm, ⟨12, _⟩ => ⟨S1024, .f32⟩
  | .hbm, ⟨13, _⟩ => ⟨S2x8320x1024, .f32⟩
  | .hbm, ⟨14, _⟩ => ⟨S_, .f32⟩
  | .hbm, ⟨15, _⟩ => ⟨S2x8320, .f32⟩
  | .hbm, ⟨16, _⟩ => ⟨S2x8320x1, .f32⟩
  | .hbm, ⟨17, _⟩ => ⟨S_, .f32⟩
  | .hbm, ⟨18, _⟩ => ⟨S2x8320x1, .f32⟩
  | .hbm, ⟨19, _⟩ => ⟨S2x8320x1, .f32⟩
  | .hbm, ⟨20, _⟩ => ⟨S_, .f32⟩
  | .hbm, ⟨21, _⟩ => ⟨S2x8320x1, .f32⟩
  | .hbm, ⟨22, _⟩ => ⟨S2x8320x1, .f32⟩
  | .hbm, ⟨23, _⟩ => ⟨S2x8320x1, .f32⟩
  | .hbm, ⟨24, _⟩ => ⟨S2x8320x1024, .f32⟩
  | .hbm, ⟨25, _⟩ => ⟨S2x8320x1024, .f32⟩
  | .hbm, ⟨26, _⟩ => ⟨S1x1x1024, .f32⟩
  | .hbm, ⟨27, _⟩ => ⟨S2x8320x1024, .f32⟩
  | .hbm, ⟨28, _⟩ => ⟨S2x8320x1024, .f32⟩
  | .hbm, ⟨29, _⟩ => ⟨S1024x2816, .f32⟩
  | .hbm, ⟨30, _⟩ => ⟨S1024x2816, .f32⟩
  | .hbm, ⟨31, _⟩ => ⟨S2816x1024, .f32⟩
  | .hbm, ⟨32, _⟩ => ⟨S2x8320x2816, .f32⟩
  | .hbm, ⟨33, _⟩ => ⟨S2x8320x2816, .f32⟩
  | .hbm, ⟨34, _⟩ => ⟨S2x8320x2816, .f32⟩
  | .hbm, ⟨35, _⟩ => ⟨S_, .f32⟩
  | .hbm, ⟨36, _⟩ => ⟨S2x8320x2816, .f32⟩
  | .hbm, ⟨37, _⟩ => ⟨S2x8320x2816, .f32⟩
  | .hbm, ⟨38, _⟩ => ⟨S_, .f32⟩
  | .hbm, ⟨39, _⟩ => ⟨S2x8320x2816, .f32⟩
  | .hbm, ⟨40, _⟩ => ⟨S2x8320x2816, .f32⟩
  | .hbm, ⟨41, _⟩ => ⟨S2x8320x2816, .f32⟩
  | .hbm, ⟨42, _⟩ => ⟨S2x8320x2816, .f32⟩
  | .hbm, ⟨43, _⟩ => ⟨S2x8320x2816, .f32⟩
  | .hbm, ⟨44, _⟩ => ⟨S2x8320x1024, .f32⟩
  | .hbm, ⟨45, _⟩ => ⟨S_, .f32⟩
  | .hbm, ⟨46, _⟩ => ⟨S2x8320x1024, .f32⟩
  | .hbm, ⟨47, _⟩ => ⟨S2x8320x1024, .f32⟩
  | .hbm, ⟨48, _⟩ => ⟨S2x8320x1024, .f32⟩
  | .hbm, ⟨49, _⟩ => ⟨S16640x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call1_v0 : Ref sig .tc := ⟨.hbm, 33, rfl⟩
abbrev main_call1_v1 : Ref sig .tc := ⟨.hbm, 34, rfl⟩
abbrev main_call1_cst : Ref sig .tc := ⟨.hbm, 35, rfl⟩
abbrev main_call1_v2 : Ref sig .tc := ⟨.hbm, 36, rfl⟩
abbrev main_call1_v3 : Ref sig .tc := ⟨.hbm, 37, rfl⟩
abbrev main_call1_cst_0 : Ref sig .tc := ⟨.hbm, 38, rfl⟩
abbrev main_call1_v4 : Ref sig .tc := ⟨.hbm, 39, rfl⟩
abbrev main_call1_v5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_2 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩

abbrev nD : Nat := 1
abbrev τ : Topo := Topo.v7x

variable {F : FTy → Type} [FloatOps F]
-- ==== Kernel3.lean ====
abbrev S2x8320x1024 : Shape := ⟨3, ![2, 8320, 1024]⟩
abbrev S1x1024 : Shape := ⟨2, ![1, 1024]⟩
abbrev S1x1024x3360 : Shape := ⟨3, ![1, 1024, 3360]⟩
abbrev S1x64 : Shape := ⟨2, ![1, 64]⟩
abbrev S8320 : Shape := ⟨1, ![8320]⟩
abbrev S8 : Shape := ⟨1, ![8]⟩
abbrev S_ : Shape := ⟨0, ![]⟩
abbrev S8320x1 : Shape := ⟨2, ![8320, 1]⟩
abbrev S1x8 : Shape := ⟨2, ![1, 8]⟩
abbrev S8320x8 : Shape := ⟨2, ![8320, 8]⟩
abbrev S8320x48 : Shape := ⟨2, ![8320, 48]⟩
abbrev S8320x64 : Shape := ⟨2, ![8320, 64]⟩
abbrev S8320x56 : Shape := ⟨2, ![8320, 56]⟩
abbrev S1x8320x1x64 : Shape := ⟨4, ![1, 8320, 1, 64]⟩
abbrev S1x8320x2x64 : Shape := ⟨4, ![1, 8320, 2, 64]⟩
abbrev S8320x128 : Shape := ⟨2, ![8320, 128]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S64 : Shape := ⟨1, ![64]⟩
abbrev S8x64 : Shape := ⟨2, ![8, 64]⟩
abbrev S512 : Shape := ⟨1, ![512]⟩
abbrev S1x512 : Shape := ⟨2, ![1, 512]⟩
abbrev S16640x1024 : Shape := ⟨2, ![16640, 1024]⟩
abbrev S1024 : Shape := ⟨1, ![1024]⟩
abbrev S16640x512 : Shape := ⟨2, ![16640, 512]⟩
abbrev S16640x1920 : Shape := ⟨2, ![16640, 1920]⟩
abbrev S640x1024 : Shape := ⟨2, ![640, 1024]⟩
abbrev S640x128 : Shape := ⟨2, ![640, 128]⟩
abbrev S640x512 : Shape := ⟨2, ![640, 512]⟩
abbrev S640x1920 : Shape := ⟨2, ![640, 1920]⟩
abbrev S1024x3456 : Shape := ⟨2, ![1024, 3456]⟩
abbrev S2x256x3360 : Shape := ⟨3, ![2, 256, 3360]⟩
abbrev S2 : Shape := ⟨1, ![2]⟩
abbrev S1 : Shape := ⟨1, ![1]⟩
abbrev S1x256x3360 : Shape := ⟨3, ![1, 256, 3360]⟩
abbrev S256x3360 : Shape := ⟨2, ![256, 3360]⟩
abbrev S1024x3360 : Shape := ⟨2, ![1024, 3360]⟩
abbrev S1024x96 : Shape := ⟨2, ![1024, 96]⟩
abbrev S640 : Shape := ⟨1, ![640]⟩
abbrev S640x1 : Shape := ⟨2, ![640, 1]⟩
abbrev S1024x512 : Shape := ⟨2, ![1024, 512]⟩
abbrev S640x256 : Shape := ⟨2, ![640, 256]⟩
abbrev S1024x1920 : Shape := ⟨2, ![1024, 1920]⟩

abbrev nBuf : Space → Nat
  | .hbm => 90
  | .vmem => 22
  | .smem => 0
  | _ => 0

abbrev bufTy : (tb : Table) → Fin (tcTables nBuf tb) → BufTy
  | .hbm, ⟨0, _⟩ => ⟨S2x8320x1024, .f32⟩
  | .hbm, ⟨1, _⟩ => ⟨S1x1024, .f32⟩
  | .hbm, ⟨2, _⟩ => ⟨S1x1024x3360, .f32⟩
  | .hbm, ⟨3, _⟩ => ⟨S1x64, .f32⟩
  | .hbm, ⟨4, _⟩ => ⟨S1x64, .f32⟩
  | .hbm, ⟨5, _⟩ => ⟨S8320, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S_, .f32⟩
  | .hbm, ⟨18, _⟩ => ⟨S8, .f32⟩
  | .hbm, ⟨19, _⟩ => ⟨S8, .f32⟩
  | .hbm, ⟨20, _⟩ => ⟨S8320x1, .f32⟩
  | .hbm, ⟨21, _⟩ => ⟨S1x8, .f32⟩
  | .hbm, ⟨22, _⟩ => ⟨S8320x8, .f32⟩
  | .hbm, ⟨23, _⟩ => ⟨S8320x8, .f32⟩
  | .hbm, ⟨24, _⟩ => ⟨S8320x8, .f32⟩
  | .hbm, ⟨25, _⟩ => ⟨S8320x8, .f32⟩
  | .hbm, ⟨26, _⟩ => ⟨S8320x8, .f32⟩
  | .hbm, ⟨27, _⟩ => ⟨S_, .f32⟩
  | .hbm, ⟨28, _⟩ => ⟨S8320x48, .f32⟩
  | .hbm, ⟨29, _⟩ => ⟨S8320x64, .f32⟩
  | .hbm, ⟨30, _⟩ => ⟨S8320x8, .f32⟩
  | .hbm, ⟨31, _⟩ => ⟨S_, .f32⟩
  | .hbm, ⟨32, _⟩ => ⟨S8320x56, .f32⟩
  | .hbm, ⟨33, _⟩ => ⟨S8320x64, .f32⟩
  | .hbm, ⟨34, _⟩ => ⟨S_, .f32⟩
  | .hbm, ⟨35, _⟩ => ⟨S8320x8, .f32⟩
  | .hbm, ⟨36, _⟩ => ⟨S_, .f32⟩
  | .hbm, ⟨37, _⟩ => ⟨S8320x48, .f32⟩
  | .hbm, ⟨38, _⟩ => ⟨S8320x64, .f32⟩
  | .hbm, ⟨39, _⟩ => ⟨S1x8320x1x64, .f32⟩
  | .hbm, ⟨40, _⟩ => ⟨S1x8320x2x64, .f32⟩
  | .hbm, ⟨41, _⟩ => ⟨S8320x128, .f32⟩
  | .hbm, ⟨42, _⟩ => ⟨S1x8320x1x64, .f32⟩
  | .hbm, ⟨43, _⟩ => ⟨S1x8320x2x64, .f32⟩
  | .hbm, ⟨44, _⟩ => ⟨S8320x128, .f32⟩
  | .hbm, ⟨45, _⟩ => ⟨S1x8320x1x64, .f32⟩
  | .hbm, ⟨46, _⟩ => ⟨S1x8320x2x64, .f32⟩
  | .hbm, ⟨47, _⟩ => ⟨S8320x128, .f32⟩
  | .hbm, ⟨48, _⟩ => ⟨S256, .i32⟩
  | .hbm, ⟨49, _⟩ => ⟨S_, .i32⟩
  | .hbm, ⟨50, _⟩ => ⟨S_, .i32⟩
  | .hbm, ⟨51, _⟩ => ⟨S256, .i32⟩
  | .hbm, ⟨52, _⟩ => ⟨S256, .i32⟩
  | .hbm, ⟨53, _⟩ => ⟨S256, .i32⟩
  | .hbm, ⟨54, _⟩ => ⟨S_, .i32⟩
  | .hbm, ⟨55, _⟩ => ⟨S256, .i32⟩
  | .hbm, ⟨56, _⟩ => ⟨S256, .i1⟩
  | .hbm, ⟨57, _⟩ => ⟨S256, .i32⟩
  | .hbm, ⟨58, _⟩ => ⟨S256, .i32⟩
  | .hbm, ⟨59, _⟩ => ⟨S_, .i32⟩
  | .hbm, ⟨60, _⟩ => ⟨S256, .i32⟩
  | .hbm, ⟨61, _⟩ => ⟨S256, .i1⟩
  | .hbm, ⟨62, _⟩ => ⟨S256, .i1⟩
  | .hbm, ⟨63, _⟩ => ⟨S_, .i32⟩
  | .hbm, ⟨64, _⟩ => ⟨S256, .i32⟩
  | .hbm, ⟨65, _⟩ => ⟨S256, .i32⟩
  | .hbm, ⟨66, _⟩ => ⟨S256, .i32⟩
  | .hbm, ⟨67, _⟩ => ⟨S256x1, .i32⟩
  | .hbm, ⟨68, _⟩ => ⟨S1x256, .i32⟩
  | .hbm, ⟨69, _⟩ => ⟨S256x256, .i32⟩
  | .hbm, ⟨70, _⟩ => ⟨S256x256, .i32⟩
  | .hbm, ⟨71, _⟩ => ⟨S256x256, .i1⟩
  | .hbm, ⟨72, _⟩ => ⟨S256x256, .bf16⟩
  | .hbm, ⟨73, _⟩ => ⟨S64, .f32⟩
  | .hbm, ⟨74, _⟩ => ⟨S1x64, .f32⟩
  | .hbm, ⟨75, _⟩ => ⟨S8x64, .f32⟩
  | .hbm, ⟨76, _⟩ => ⟨S512, .f32⟩
  | .hbm, ⟨77, _⟩ => ⟨S1x512, .f32⟩
  | .hbm, ⟨78, _⟩ => ⟨S64, .f32⟩
  | .hbm, ⟨79, _⟩ => ⟨S1x64, .f32⟩
  | .hbm, ⟨80, _⟩ => ⟨S8x64, .f32⟩
  | .hbm, ⟨81, _⟩ => ⟨S512, .f32⟩
  | .hbm, ⟨82, _⟩ => ⟨S1x512, .f32⟩
  | .hbm, ⟨83, _⟩ => ⟨S16640x1024, .f32⟩
  | .hbm, ⟨84, _⟩ => ⟨S1024, .f32⟩
  | .hbm, ⟨85, _⟩ => ⟨S1x1024, .f32⟩
  | .hbm, ⟨86, _⟩ => ⟨S16640x512, .bf16⟩
  | .hbm, ⟨87, _⟩ => ⟨S16640x512, .bf16⟩
  | .hbm, ⟨88, _⟩ => ⟨S16640x512, .bf16⟩
  | .hbm, ⟨89, _⟩ => ⟨S16640x1920, .f32⟩
  | .local _ .vmem, ⟨0, _⟩ => ⟨S640x1024, .f32⟩
  | .local _ .vmem, ⟨1, _⟩ => ⟨S640x1024, .f32⟩
  | .local _ .vmem, ⟨2, _⟩ => ⟨S1x1024, .f32⟩
  | .local _ .vmem, ⟨3, _⟩ => ⟨S1x512, .f32⟩
  | .local _ .vmem, ⟨4, _⟩ => ⟨S1x512, .f32⟩
  | .local _ .vmem, ⟨5, _⟩ => ⟨S640x128, .f32⟩
  | .local _ .vmem, ⟨6, _⟩ => ⟨S640x128, .f32⟩
  | .local _ .vmem, ⟨7, _⟩ => ⟨S640x128, .f32⟩
  | .local _ .vmem, ⟨8, _⟩ => ⟨S640x128, .f32⟩
  | .local _ .vmem, ⟨9, _⟩ => ⟨S640x128, .f32⟩
  | .local _ .vmem, ⟨10, _⟩ => ⟨S640x128, .f32⟩
  | .local _ .vmem, ⟨11, _⟩ => ⟨S256x256, .bf16⟩
  | .local _ .vmem, ⟨12, _⟩ => ⟨S640x512, .bf16⟩
  | .local _ .vmem, ⟨13, _⟩ => ⟨S640x512, .bf16⟩
  | .local _ .vmem, ⟨14, _⟩ => ⟨S640x512, .bf16⟩
  | .local _ .vmem, ⟨15, _⟩ => ⟨S640x512, .bf16⟩
  | .local _ .vmem, ⟨16, _⟩ => ⟨S640x512, .bf16⟩
  | .local _ .vmem, ⟨17, _⟩ => ⟨S640x512, .bf16⟩
  | .local _ .vmem, ⟨18, _⟩ => ⟨S640x1920, .f32⟩
  | .local _ .vmem, ⟨19, _⟩ => ⟨S640x1920, .f32⟩
  | .local _ .vmem, ⟨20, _⟩ => ⟨S1024x3456, .bf16⟩
  | .local _ .vmem, ⟨21, _⟩ => ⟨S2x256x3360, .f32⟩
  | _, _ => ⟨S2x8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_c : Ref sig .tc := ⟨.hbm, 49, rfl⟩
abbrev main_call0_v0 : Ref sig .tc := ⟨.hbm, 50, rfl⟩
abbrev main_call0_v1 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_call0_v5 : Ref sig .tc := ⟨.hbm, 55, rfl⟩
abbrev main_call0_v6 : Ref sig .tc := ⟨.hbm, 56, rfl⟩
abbrev main_call0_v7 : Ref sig .tc := ⟨.hbm, 57, rfl⟩
abbrev main_call0_v8 : Ref sig .tc := ⟨.hbm, 58, rfl⟩
abbrev main_call0_c : Ref sig .tc := ⟨.hbm, 59, rfl⟩
abbrev main_call0_v9 : Ref sig .tc := ⟨.hbm, 60, rfl⟩
abbrev main_call0_v10 : Ref sig .tc := ⟨.hbm, 61, rfl⟩
abbrev main_call0_v11 : Ref sig .tc := ⟨.hbm, 62, rfl⟩
abbrev main_call0_c_0 : Ref sig .tc := ⟨.hbm, 63, rfl⟩
abbrev main_call0_v12 : Ref sig .tc := ⟨.hbm, 64, rfl⟩
abbrev main_call0_v13 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56_0 : Ref sig .tc := ⟨.hbm, 86, rfl⟩
abbrev main_v56_1 : Ref sig .tc := ⟨.hbm, 87, rfl⟩
abbrev main_v56_2 : Ref sig .tc := ⟨.hbm, 88, rfl⟩
abbrev main_v56_3 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c13_i32 : BitVec 32 := 13#32
  let c0_i32 : BitVec 32 := 0#32
  let v0 : BitVec 1 := Scalar.cmpi .eq c13_i32 c0_i32
  let c1_i32 : BitVec 32 := 1#32
  let v1 : BitVec 32 := Scalar.select v0 c1_i32 c13_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c13_i32 : BitVec 32 := 13#32
  let c0_i32 : BitVec 32 := 0#32
  let v0 : BitVec 1 := Scalar.cmpi .eq c13_i32 c0_i32
  let c1_i32 : BitVec 32 := 1#32
  let v1 : BitVec 32 := Scalar.select v0 c1_i32 c13_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c13_i32 : BitVec 32 := 13#32
  let c0_i32 : BitVec 32 := 0#32
  let v0 : BitVec 1 := Scalar.cmpi .eq c13_i32 c0_i32
  let c1_i32 : BitVec 32 := 1#32
  let v1 : BitVec 32 := Scalar.select v0 c1_i32 c13_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S640x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S640x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S640x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S640x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S640x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S640x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S640x1920 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3Ideal.lean ====
abbrev S2x8320x1024 : Shape := ⟨3, ![2, 8320, 1024]⟩
abbrev S1x1024 : Shape := ⟨2, ![1, 1024]⟩
abbrev S1x1024x3360 : Shape := ⟨3, ![1, 1024, 3360]⟩
abbrev S1x64 : Shape := ⟨2, ![1, 64]⟩
abbrev S8320 : Shape := ⟨1, ![8320]⟩
abbrev S8 : Shape := ⟨1, ![8]⟩
abbrev S_ : Shape := ⟨0, ![]⟩
abbrev S8320x1 : Shape := ⟨2, ![8320, 1]⟩
abbrev S1x8 : Shape := ⟨2, ![1, 8]⟩
abbrev S8320x8 : Shape := ⟨2, ![8320, 8]⟩
abbrev S1024 : Shape := ⟨1, ![1024]⟩
abbrev S2x8320 : Shape := ⟨2, ![2, 8320]⟩
abbrev S2x8320x1 : Shape := ⟨3, ![2, 8320, 1]⟩
abbrev S1x1x1024 : Shape := ⟨3, ![1, 1, 1024]⟩
abbrev S1024x3360 : Shape := ⟨2, ![1024, 3360]⟩
abbrev S2x8320x3360 : Shape := ⟨3, ![2, 8320, 3360]⟩
abbrev S2x8320x512 : Shape := ⟨3, ![2, 8320, 512]⟩
abbrev S2x8320x1824 : Shape := ⟨3, ![2, 8320, 1824]⟩
abbrev S2x8320x4x2x64 : Shape := ⟨5, ![2, 8320, 4, 2, 64]⟩
abbrev S64 : Shape := ⟨1, ![64]⟩
abbrev S2x8320x4x2 : Shape := ⟨4, ![2, 8320, 4, 2]⟩
abbrev S2x8320x4x2x1 : Shape := ⟨5, ![2, 8320, 4, 2, 1]⟩
abbrev S1x1x1x1x64 : Shape := ⟨5, ![1, 1, 1, 1, 64]⟩
abbrev S1x8320x1x1x8 : Shape := ⟨5, ![1, 8320, 1, 1, 8]⟩
abbrev S2x8320x4x2x8 : Shape := ⟨5, ![2, 8320, 4, 2, 8]⟩
abbrev S2x8320x4x2x48 : Shape := ⟨5, ![2, 8320, 4, 2, 48]⟩
abbrev S2x8320x1920 : Shape := ⟨3, ![2, 8320, 1920]⟩
abbrev S16640x512 : Shape := ⟨2, ![16640, 512]⟩
abbrev S16640x1920 : Shape := ⟨2, ![16640, 1920]⟩

abbrev nBuf : Space → Nat
  | .hbm => 131
  | .vmem => 0
  | .smem => 0
  | _ => 0

abbrev hbmTy0_0 (i : Nat) : BufTy := match i % 128 with
  | 0 => ⟨S2x8320x1024, .f32⟩
  | 1 => ⟨S1x1024, .f32⟩
  | 2 => ⟨S1x1024x3360, .f32⟩
  | 3 => ⟨S1x64, .f32⟩
  | 4 => ⟨S1x64, .f32⟩
  | 5 => ⟨S8320, .f32⟩
  | 6 => ⟨S8, .f32⟩
  | 7 => ⟨S_, .f32⟩
  | 8 => ⟨S8, .f32⟩
  | 9 => ⟨S8, .f32⟩
  | 10 => ⟨S_, .f32⟩
  | 11 => ⟨S8, .f32⟩
  | 12 => ⟨S8, .f32⟩
  | 13 => ⟨S8, .f32⟩
  | 14 => ⟨S_, .f32⟩
  | 15 => ⟨S8, .f32⟩
  | 16 => ⟨S8, .f32⟩
  | 17 => ⟨S_, .f32⟩
  | 18 => ⟨S8, .f32⟩
  | 19 => ⟨S8, .f32⟩
  | 20 => ⟨S8320x1, .f32⟩
  | 21 => ⟨S1x8, .f32⟩
  | 22 => ⟨S8320x8, .f32⟩
  | 23 => ⟨S8320x8, .f32⟩
  | 24 => ⟨S8320x8, .f32⟩
  | 25 => ⟨S8320x8, .f32⟩
  | 26 => ⟨S8320x8, .f32⟩
  | 27 => ⟨S1024, .f32⟩
  | 28 => ⟨S2x8320x1024, .f32⟩
  | 29 => ⟨S_, .f32⟩
  | 30 => ⟨S2x8320, .f32⟩
  | 31 => ⟨S2x8320x1, .f32⟩
  | 32 => ⟨S_, .f32⟩
  | 33 => ⟨S2x8320x1, .f32⟩
  | 34 => ⟨S2x8320x1, .f32⟩
  | 35 => ⟨S_, .f32⟩
  | 36 => ⟨S2x8320x1, .f32⟩
  | 37 => ⟨S2x8320x1, .f32⟩
  | 38 => ⟨S2x8320x1, .f32⟩
  | 39 => ⟨S2x8320x1024, .f32⟩
  | 40 => ⟨S2x8320x1024, .f32⟩
  | 41 => ⟨S1x1x1024, .f32⟩
  | 42 => ⟨S2x8320x1024, .f32⟩
  | 43 => ⟨S2x8320x1024, .f32⟩
  | 44 => ⟨S1024x3360, .f32⟩
  | 45 => ⟨S2x8320x3360, .f32⟩
  | 46 => ⟨S2x8320x512, .f32⟩
  | 47 => ⟨S2x8320x512, .f32⟩
  | 48 => ⟨S2x8320x512, .f32⟩
  | 49 => ⟨S2x8320x1824, .f32⟩
  | 50 => ⟨S2x8320x4x2x64, .f32⟩
  | 51 => ⟨S64, .f32⟩
  | 52 => ⟨S2x8320x4x2x64, .f32⟩
  | 53 => ⟨S_, .f32⟩
  | 54 => ⟨S2x8320x4x2, .f32⟩
  | 55 => ⟨S2x8320x4x2x1, .f32⟩
  | 56 => ⟨S_, .f32⟩
  | 57 => ⟨S2x8320x4x2x1, .f32⟩
  | 58 => ⟨S2x8320x4x2x1, .f32⟩
  | 59 => ⟨S_, .f32⟩
  | 60 => ⟨S2x8320x4x2x1, .f32⟩
  | 61 => ⟨S2x8320x4x2x1, .f32⟩
  | 62 => ⟨S2x8320x4x2x1, .f32⟩
  | 63 => ⟨S2x8320x4x2x64, .f32⟩
  | 64 => ⟨S2x8320x4x2x64, .f32⟩
  | 65 => ⟨S1x1x1x1x64, .f32⟩
  | 66 => ⟨S2x8320x4x2x64, .f32⟩
  | 67 => ⟨S2x8320x4x2x64, .f32⟩
  | 68 => ⟨S1x8320x1x1x8, .f32⟩
  | 69 => ⟨S1x8320x1x1x8, .f32⟩
  | 70 => ⟨S2x8320x4x2x8, .f32⟩
  | 71 => ⟨S2x8320x4x2x8, .f32⟩
  | 72 => ⟨S2x8320x4x2x48, .f32⟩
  | 73 => ⟨S2x8320x4x2x8, .f32⟩
  | 74 => ⟨S2x8320x4x2x8, .f32⟩
  | 75 => ⟨S2x8320x4x2x8, .f32⟩
  | 76 => ⟨S2x8320x4x2x8, .f32⟩
  | 77 => ⟨S2x8320x4x2x8, .f32⟩
  | 78 => ⟨S2x8320x4x2x8, .f32⟩
  | 79 => ⟨S2x8320x4x2x8, .f32⟩
  | 80 => ⟨S2x8320x4x2x8, .f32⟩
  | 81 => ⟨S2x8320x4x2x8, .f32⟩
  | 82 => ⟨S2x8320x4x2x8, .f32⟩
  | 83 => ⟨S2x8320x4x2x64, .f32⟩
  | 84 => ⟨S2x8320x4x2x64, .f32⟩
  | 85 => ⟨S64, .f32⟩
  | 86 => ⟨S2x8320x4x2x64, .f32⟩
  | 87 => ⟨S_, .f32⟩
  | 88 => ⟨S2x8320x4x2, .f32⟩
  | 89 => ⟨S2x8320x4x2x1, .f32⟩
  | 90 => ⟨S_, .f32⟩
  | 91 => ⟨S2x8320x4x2x1, .f32⟩
  | 92 => ⟨S2x8320x4x2x1, .f32⟩
  | 93 => ⟨S_, .f32⟩
  | 94 => ⟨S2x8320x4x2x1, .f32⟩
  | 95 => ⟨S2x8320x4x2x1, .f32⟩
  | 96 => ⟨S2x8320x4x2x1, .f32⟩
  | 97 => ⟨S2x8320x4x2x64, .f32⟩
  | 98 => ⟨S2x8320x4x2x64, .f32⟩
  | 99 => ⟨S1x1x1x1x64, .f32⟩
  | 100 => ⟨S2x8320x4x2x64, .f32⟩
  | 101 => ⟨S2x8320x4x2x64, .f32⟩
  | 102 => ⟨S1x8320x1x1x8, .f32⟩
  | 103 => ⟨S1x8320x1x1x8, .f32⟩
  | 104 => ⟨S2x8320x4x2x8, .f32⟩
  | 105 => ⟨S2x8320x4x2x8, .f32⟩
  | 106 => ⟨S2x8320x4x2x48, .f32⟩
  | 107 => ⟨S2x8320x4x2x8, .f32⟩
  | 108 => ⟨S2x8320x4x2x8, .f32⟩
  | 109 => ⟨S2x8320x4x2x8, .f32⟩
  | 110 => ⟨S2x8320x4x2x8, .f32⟩
  | 111 => ⟨S2x8320x4x2x8, .f32⟩
  | 112 => ⟨S2x8320x4x2x8, .f32⟩
  | 113 => ⟨S2x8320x4x2x8, .f32⟩
  | 114 => ⟨S2x8320x4x2x8, .f32⟩
  | 115 => ⟨S2x8320x4x2x8, .f32⟩
  | 116 => ⟨S2x8320x4x2x8, .f32⟩
  | 117 => ⟨S2x8320x4x2x64, .f32⟩
  | 118 => ⟨S_, .f32⟩
  | 119 => ⟨S2x8320x4x2x64, .f32⟩
  | 120 => ⟨S2x8320x4x2x64, .f32⟩
  | 121 => ⟨S_, .i32⟩
  | 122 => ⟨S_, .f32⟩
  | 123 => ⟨S2x8320x1920, .f32⟩
  | 124 => ⟨S16640x512, .f32⟩
  | 125 => ⟨S16640x512, .bf16⟩
  | 126 => ⟨S16640x512, .f32⟩
  | 127 => ⟨S16640x512, .bf16⟩
  | _ => ⟨S2x8320x1024, .f32⟩

abbrev hbmTy0_1 (i : Nat) : BufTy := match i % 128 with
  | 0 => ⟨S16640x512, .f32⟩
  | 1 => ⟨S16640x512, .bf16⟩
  | 2 => ⟨S16640x1920, .f32⟩
  | _ => ⟨S2x8320x1024, .f32⟩

abbrev hbmTy (i : Nat) : BufTy := match i / 128 with
  | 0 => hbmTy0_0 i
  | 1 => hbmTy0_1 i
  | _ => ⟨S2x8320x1024, .f32⟩

abbrev bufTy : (tb : Table) → Fin (tcTables nBuf tb) → BufTy
  | .hbm, ⟨i, _⟩ => hbmTy i
  | _, _ => ⟨S2x8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_6 : Ref sig .tc := ⟨.hbm, 53, rfl⟩
abbrev main_v41 : Ref sig .tc := ⟨.hbm, 54, rfl⟩
abbrev main_v42 : Ref sig .tc := ⟨.hbm, 55, rfl⟩
abbrev main_cst_7 : Ref sig .tc := ⟨.hbm, 56, rfl⟩
abbrev main_v43 : Ref sig .tc := ⟨.hbm, 57, rfl⟩
abbrev main_v44 : Ref sig .tc := ⟨.hbm, 58, rfl⟩
abbrev main_cst_8 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_cst_9 : Ref sig .tc := ⟨.hbm, 87, rfl⟩
abbrev main_v72 : Ref sig .tc := ⟨.hbm, 88, rfl⟩
abbrev main_v73 : Ref sig .tc := ⟨.hbm, 89, rfl⟩
abbrev main_cst_10 : Ref sig .tc := ⟨.hbm, 90, rfl⟩
abbrev main_v74 : Ref sig .tc := ⟨.hbm, 91, rfl⟩
abbrev main_v75 : Ref sig .tc := ⟨.hbm, 92, rfl⟩
abbrev main_cst_11 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_cst_12 : Ref sig .tc := ⟨.hbm, 118, rfl⟩
abbrev main_v100 : Ref sig .tc := ⟨.hbm, 119, rfl⟩
abbrev main_v101 : Ref sig .tc := ⟨.hbm, 120, rfl⟩
abbrev main_c : Ref sig .tc := ⟨.hbm, 121, rfl⟩
abbrev main_call0_v0 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩

abbrev nD : Nat := 1
abbrev τ : Topo := Topo.v7x

variable {F : FTy → Type} [FloatOps F]
-- ==== Proof.Mix.Kit.lean ====
module

public import proofs.«01_k».proof.Proof.Gen.KernelIdeal.Frame
public import proofs.«01_k».proof.Proof.Gen.KernelIdeal.Skeleton

@[expose] public section

set_option maxRecDepth 16384

/-! The set-up of the last call's launch: names of the staging memrefs, the scratch, the arrays left in HBM and the
    body's own semaphores, and the invariant of the launch conjunct by conjunct. -/

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 800000 in
/-- The program up to its one region, for a proof whose body makes transfers of its own. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [cond0_0, e0]
    word_cmp
   : ∀ t : Fin grid0.N, cond0_0 (grid0.coords t) ↔ t.val % 32 = 0)

/-! ## The kernel body on any staging memrefs: a subtype the run finds -/

/-- Each window's current staging memref at point `t`, spelled as the pipeline passes it (`bodyAt0`), and its wholeness. -/
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1024 .f32 := win0_4.stage (cfg0.slots t 4)
abbrev hs0_4 (t : Fin cfg0.N) : (ms0_4 t).IsWhole := hstage0_4 ((cfg0.slots t 4).cast nbuf0_4)
/-- The scratch operands: whole scoped buffers of the kernel's own, passed beside the windows. -/
abbrev scM0_0 : Memref sig .tc .vmem S512x1024 .bf16 := Memref.whole cc0_scratch0
abbrev scM0_1 : Memref sig .tc .vmem S512x2816 .bf16 := Memref.whole cc0_scratch1
abbrev scM0_2 : Memref sig .tc .vmem S1024x2816 .bf16 := Memref.whole cc0_scratch2
abbrev scM0_3 : Memref sig .tc .vmem S1024x2816 .bf16 := Memref.whole cc0_scratch3
abbrev scM0_4 : Memref sig .tc .vmem S2816x1024 .bf16 := Memref.whole cc0_scratch4
abbrev scM0_5 : Memref sig .tc .vmem S1024x1024 .bf16 := Memref.whole cc0_scratch5
abbrev scM0_6 : Memref sig .tc .vmem S2x256x2816 .f32 := Memref.whole cc0_scratch6
abbrev scM0_7 : Memref sig .tc .vmem S2x256x1024 .f32 := Memref.whole cc0_scratch7
/-- The scratch `arg12` the kernel carries between points, as a view: what it holds is stated through it. -/
abbrev VS0_2 : View sig .tc .vmem S1024x2816 .bf16 := scM0_2.view
/-- The scratch `arg13` the kernel carries between points, as a view: what it holds is stated through it. -/
abbrev VS0_3 : View sig .tc .vmem S1024x2816 .bf16 := scM0_3.view
/-- The scratch `arg15` the kernel carries between points, as a view: what it holds is stated through it. -/
abbrev VS0_5 : View sig .tc .vmem S1024x1024 .bf16 := scM0_5.view
/-- The operands left in HBM that the body copies into scratch itself, whole. -/
abbrev hbM0_0 : Memref sig .tc .hbm S1x1024x2816 .f32 := Memref.whole main_arg5
abbrev hbM0_1 : Memref sig .tc .hbm S1x1024x2816 .f32 := Memref.whole main_arg6
abbrev hbM0_2 : Memref sig .tc .hbm S1x2816x1024 .f32 := Memref.whole main_arg7
abbrev hbM0_3 : Memref sig .tc .hbm S1x1024x1024 .f32 := Memref.whole main_arg3
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 4 → SemLoc sig := fun j => (![SemLoc.dma 9, SemLoc.dma 10, SemLoc.dma 11, SemLoc.dma 12] : Fin 4 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0) := by
  rw [Pipeline.ownSems0_eq_of_list c osem0 [0, 1, 2, 3] (by decide) (by decide)]; rfl
/-- The HBM operands the body moves, as references: unscoped, no window's array (`Pipeline.restRefs`). -/
def H0 : Finset (Ref sig .tc) := {main_arg5, main_arg6, main_arg7, main_arg3}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_arg5) ∗ hbPt0 c hbM0_1 (V m c main_arg6) ∗ hbPt0 c hbM0_2 (V m c main_arg7) ∗ hbPt0 c hbM0_3 (V m c main_arg3)) := by
  rw [BI.bigSep_eq_bigSepL_of_eq [main_arg5, main_arg6, main_arg7, main_arg3] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r) ∗ iprop(semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0) ∗ iprop(hbPt0 c hbM0_0 (V m c main_arg5) ∗ hbPt0 c hbM0_1 (V m c main_arg6) ∗ hbPt0 c hbM0_2 (V m c main_arg7) ∗ hbPt0 c hbM0_3 (V m c main_arg3))) := by
  rw [Pipeline.ΦD_eq, scopedRest0_eq, ownSems00_eq, hbmPts0_eq]; simp only [scM0_0, scM0_1, scM0_2, scM0_3, scM0_4, scM0_5, scM0_6, scM0_7, owns_whole]; try rfl

end Cert.KernelIdeal.Hand

end
-- ==== Proof.Mix.Slab.lean ====
module

public import Idealize.ShloMosaic.Lib.Pipeline.Frame
public import Idealize.ShloMosaic.Lib.Pipeline.Value
public import Idealize.ShloMosaic.Lib.Writes
public import Idealize.ShloMosaic.Lib.Exec
public import Idealize.ShloMosaic.Lib.VecWindow
public import Idealize.ShloMosaic.Lib.Pipeline.ValueKit.Basic

@[expose] public section

/-! What a load of one slot of a staging buffer reads after copies have landed in the buffer's slots through squeezed
    slices: the payload of the copy into that slot, narrowed where the body narrows it. -/

noncomputable section

namespace Cert.Slab

open Idealize.ShloMosaic

variable {F : FTy → Type} [FloatOps F] {sig : RefSig} {κ : Kind} {cs : Space} {s s' : Shape}

/-- A load of the slot just landed in, recast to the slab's shape, is what the copy carried. -/
theorem cast_read_hit (M : Memref sig κ cs s .f32) (r : Rect s) (hr : ∀ a, r.stride a = 1) (hq : r.shape.Squeezes s')
    (hc : r.shape.ShapeCasts s') (f : M.view.ty.Contents (Elt F)) (w : s'.Idx → Elt F .f32) :
    shapeCast s' (M.view.readAt (Elt F) r.toLoadRect
      (((M.slice r hr).squeeze s' hq).view.write (Elt F) f w Finset.univ)) hc = w := by
  rw [← Memref.read_squeeze_slice M r hr hq hc]
  exact View.read_write_univ _ _

/-- A copy landed in another slot leaves a load of this one as it was. -/
theorem read_miss (M : Memref sig κ cs s .f32) (r r' : Rect s) (hr' : ∀ a, r'.stride a = 1) (hq' : r'.shape.Squeezes s')
    (hd : Disjoint r.set r'.set) (f : M.view.ty.Contents (Elt F)) (w : s'.Idx → Elt F .f32) :
    M.view.readAt (Elt F) r.toLoadRect (((M.slice r' hr').squeeze s' hq').view.write (Elt F) f w Finset.univ)
      = M.view.readAt (Elt F) r.toLoadRect f := by
  funext x
  rw [View.readAt_apply, View.readAt_apply]
  rw [show ((M.slice r' hr').squeeze s' hq').view.write (Elt F) f w Finset.univ
      = (M.view.slice r').write (Elt F) f (fun x => w ((Shape.reshapeEquiv _).symm x)) Finset.univ from
    View.write_reshape_univ (v := M.view.slice r') _ f w]
  refine View.read_slice_write_of_not_mem r' f _ _ ?_
  rw [Rect.map_emb_univ]
  exact fun h => Finset.disjoint_left.mp hd (by rw [← Rect.map_emb_univ]; exact Finset.mem_map_of_mem _ (Finset.mem_univ x)) h

/-- A slab of a matrix, narrowed, is the narrowed matrix at the slab's rows. -/
theorem narrow_rows (V : Memref sig κ cs s .f32) (r : Rect s) (hr : ∀ a, r.stride a = 1) (h : FTy.bf16.bits < FTy.f32.bits)
    (f : V.view.ty.Contents (Elt F)) (x : r.shape.Idx) :
    truncf (F := F) .bf16 (φ := .f32) (ReadAs.same.apply ((V.slice r hr).view.read (Elt F) f)) h x
      = truncf (F := F) .bf16 (φ := .f32) (V.view.read (Elt F) f) h (r.emb x) := rfl

/-- A store of the whole buffer, last, leaves its payload to be read. -/
theorem read_writes_full {e : EltTy} (v : View sig κ cs s e) (f : v.ty.Contents (Elt F)) {off : Fin s.rank → ℕ} (h : ∀ a, off a = 0)
    (inb : ∀ a, off a + s.size a ≤ s.size a) (w : s.Idx → Elt F e) (L : List (View.Piece (Elt F) s e)) :
    v.read (Elt F) (v.writes (Elt F) f (⟨Rect.unit off s.size inb, w⟩ :: L)) = w :=
  funext fun y => View.read_writes_cons_hit v f (Rect.unit off s.size inb) w L y y (Rect.emb_unit_full inb y)

end Cert.Slab

end
-- ==== Proof.Mix.Fetch.lean ====
module

public import proofs.«01_k».proof.Proof.Mix.Kit
public import proofs.«01_k».proof.Proof.Mix.Slab

@[expose] public section

set_option maxRecDepth 16384

/-! The first point's fetch of the weights, as a program of its own, and its run. -/

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- What the first point does before the rest of the body: every weight copied in slabs from HBM, narrowed and
    stored into its scratch. -/
def fetchP (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S1x1024 .f32) (harg4 : arg4.IsWhole) (arg5 : Memref sig .tc .hbm S1x1024x2816 .f32) (harg5 : arg5.IsWhole) (arg6 : Memref sig .tc .hbm S1x1024x2816 .f32) (harg6 : arg6.IsWhole) (arg7 : Memref sig .tc .hbm S1x2816x1024 .f32) (harg7 : arg7.IsWhole) (arg8 : Memref sig .tc .hbm S1x1024x1024 .f32) (harg8 : arg8.IsWhole) (arg9 : Memref sig .tc .vmem S512x1024 .f32) (harg9 : arg9.IsWhole) (arg10 : Memref sig .tc .vmem S512x1024 .bf16) (harg10 : arg10.IsWhole) (arg11 : Memref sig .tc .vmem S512x2816 .bf16) (harg11 : arg11.IsWhole) (arg12 : Memref sig .tc .vmem S1024x2816 .bf16) (harg12 : arg12.IsWhole) (arg13 : Memref sig .tc .vmem S1024x2816 .bf16) (harg13 : arg13.IsWhole) (arg14 : Memref sig .tc .vmem S2816x1024 .bf16) (harg14 : arg14.IsWhole) (arg15 : Memref sig .tc .vmem S1024x1024 .bf16) (harg15 : arg15.IsWhole) (arg16 : Memref sig .tc .vmem S2x256x2816 .f32) (harg16 : arg16.IsWhole) (arg17 : Memref sig .tc .vmem S2x256x1024 .f32) (harg17 : arg17.IsWhole) (arg18 : DmaSems sig S2) (arg19 : DmaSems sig S2) :
    Prog (TpuEff nD τ sig (Elt F) Λ₀ .tc) PUnit := do
  let v640 : Vec F S1x256x1024 .f32 ← k0_part17 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19
  let v643 : Vec F S256x1024 .bf16 ← Prog.lift (.load arg15 (Rect.unit (s := S1024x1024) ![768, 0] S256x1024.size inb_S1024x1024_S256x1024_768_0).toLoadRect (View.loadsAt_vmem h_S256x1024))
  Prog.lift (.store arg15 (Rect.unit (s := S1024x1024) ![768, 0] S256x1024.size inb_S1024x1024_S256x1024_768_0) (k0_pay25 v640) Finset.univ (View.stores_vmem h_S256x1024 (harg15.storeExact_slice rfl _ packedbf16_S1024x1024_S256x1024_768_0) (fun _ => rfl)) (.inl rfl))
  pure ⟨⟩

/-- At the first point the body is the fetch, then what any later point does. -/
theorem body_split (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S1x1024 .f32) (harg4 : arg4.IsWhole) (arg5 : Memref sig .tc .hbm S1x1024x2816 .f32) (harg5 : arg5.IsWhole) (arg6 : Memref sig .tc .hbm S1x1024x2816 .f32) (harg6 : arg6.IsWhole) (arg7 : Memref sig .tc .hbm S1x2816x1024 .f32) (harg7 : arg7.IsWhole) (arg8 : Memref sig .tc .hbm S1x1024x1024 .f32) (harg8 : arg8.IsWhole) (arg9 : Memref sig .tc .vmem S512x1024 .f32) (harg9 : arg9.IsWhole) (arg10 : Memref sig .tc .vmem S512x1024 .bf16) (harg10 : arg10.IsWhole) (arg11 : Memref sig .tc .vmem S512x2816 .bf16) (harg11 : arg11.IsWhole) (arg12 : Memref sig .tc .vmem S1024x2816 .bf16) (harg12 : arg12.IsWhole) (arg13 : Memref sig .tc .vmem S1024x2816 .bf16) (harg13 : arg13.IsWhole) (arg14 : Memref sig .tc .vmem S2816x1024 .bf16) (harg14 : arg14.IsWhole) (arg15 : Memref sig .tc .vmem S1024x1024 .bf16) (harg15 : arg15.IsWhole) (arg16 : Memref sig .tc .vmem S2x256x2816 .f32) (harg16 : arg16.IsWhole) (arg17 : Memref sig .tc .vmem S2x256x1024 .f32) (harg17 : arg17.IsWhole) (arg18 : DmaSems sig S2) (arg19 : DmaSems sig S2) (j : grid0.Coords) (hi : cond0_0 i) (hj : ¬cond0_0 j) :
    cc0_ffn_mix (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 = (fetchP i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19 >>= fun _ => cc0_ffn_mix j arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 arg19) := by
  simp only [cc0_ffn_mix_eq_skeleton]; unfold cc0_ffn_mix_skel
  simp only [k0_part18_eq_skeleton]; unfold k0_part18_skel
  simp only [dif_pos hi, dif_neg hj]
  rfl

/-- The gate weight as a matrix: the array the launch left in HBM without its leading unit axis. -/
def wg32 (c : Dev nD) (fh : HbBuf0 (F := F) c hbM0_0) : Vec F S1024x2816 .f32 :=
  ((hbM0_0.slice (Rect.unit (s := S1x1024x2816) ![0, 0, 0] S1x1024x2816.size inb_S1x1024x2816_S1x1024x2816_0_0_0) (fun _ => rfl)).squeeze S1024x2816 squeezes_S1x1024x2816_S1024x2816).view.read (Elt F) fh
/-- The gate weight narrowed: what its scratch holds from the first point on. -/
def wg16 (c : Dev nD) (fh : HbBuf0 (F := F) c hbM0_0) : Vec F S1024x2816 .bf16 :=
  truncf .bf16 (φ := .f32) (wg32 c fh) bitsLt_bf16_f32

/-- The up weight as a matrix: the array the launch left in HBM without its leading unit axis. -/
def wu32 (c : Dev nD) (fh : HbBuf0 (F := F) c hbM0_1) : Vec F S1024x2816 .f32 :=
  ((hbM0_1.slice (Rect.unit (s := S1x1024x2816) ![0, 0, 0] S1x1024x2816.size inb_S1x1024x2816_S1x1024x2816_0_0_0) (fun _ => rfl)).squeeze S1024x2816 squeezes_S1x1024x2816_S1024x2816).view.read (Elt F) fh
/-- The up weight narrowed: what its scratch holds from the first point on. -/
def wu16 (c : Dev nD) (fh : HbBuf0 (F := F) c hbM0_1) : Vec F S1024x2816 .bf16 :=
  truncf .bf16 (φ := .f32) (wu32 c fh) bitsLt_bf16_f32

/-- The down weight as a matrix: the array the launch left in HBM without its leading unit axis. -/
def wd32 (c : Dev nD) (fh : HbBuf0 (F := F) c hbM0_2) : Vec F S2816x1024 .f32 :=
  ((hbM0_2.slice (Rect.unit (s := S1x2816x1024) ![0, 0, 0] S1x2816x1024.size inb_S1x2816x1024_S1x2816x1024_0_0_0) (fun _ => rfl)).squeeze S2816x1024 squeezes_S1x2816x1024_S2816x1024).view.read (Elt F) fh
/-- The down weight narrowed: what its scratch holds from the first point on. -/
def wd16 (c : Dev nD) (fh : HbBuf0 (F := F) c hbM0_2) : Vec F S2816x1024 .bf16 :=
  truncf .bf16 (φ := .f32) (wd32 c fh) bitsLt_bf16_f32

/-- The output weight as a matrix: the array the launch left in HBM without its leading unit axis. -/
def wo32 (c : Dev nD) (fh : HbBuf0 (F := F) c hbM0_3) : Vec F S1024x1024 .f32 :=
  ((hbM0_3.slice (Rect.unit (s := S1x1024x1024) ![0, 0, 0] S1x1024x1024.size inb_S1x1024x1024_S1x1024x1024_0_0_0) (fun _ => rfl)).squeeze S1024x1024 squeezes_S1x1024x1024_S1024x1024).view.read (Elt F) fh
/-- The output weight narrowed: what its scratch holds from the first point on. -/
def wo16 (c : Dev nD) (fh : HbBuf0 (F := F) c hbM0_3) : Vec F S1024x1024 .bf16 :=
  truncf .bf16 (φ := .f32) (wo32 c fh) bitsLt_bf16_f32

set_option maxHeartbeats 20000000 in
set_option sl_exec.dmaWindow true in
set_option sl_exec.dmaWindowSet true in
/-- The fetch's run: from any contents of the weights' scratch and of the staging buffers, the four scratch buffers end at
    the weights narrowed, the arrays in HBM and the semaphores as they were. -/
theorem fetch_run (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S1x1024 .f32) (harg4 : arg4.IsWhole) (arg9 : Memref sig .tc .vmem S512x1024 .f32) (harg9 : arg9.IsWhole) (arg10 : Memref sig .tc .vmem S512x1024 .bf16) (harg10 : arg10.IsWhole) (arg11 : Memref sig .tc .vmem S512x2816 .bf16) (harg11 : arg11.IsWhole) (arg12 : Memref sig .tc .vmem S1024x2816 .bf16) (harg12 : arg12.IsWhole) (arg13 : Memref sig .tc .vmem S1024x2816 .bf16) (harg13 : arg13.IsWhole) (arg14 : Memref sig .tc .vmem S2816x1024 .bf16) (harg14 : arg14.IsWhole) (arg15 : Memref sig .tc .vmem S1024x1024 .bf16) (harg15 : arg15.IsWhole) (arg16 : Memref sig .tc .vmem S2x256x2816 .f32) (harg16 : arg16.IsWhole) (arg17 : Memref sig .tc .vmem S2x256x1024 .f32) (harg17 : arg17.IsWhole) (fh0 : HbBuf0 (F := F) c hbM0_0) (fh1 : HbBuf0 (F := F) c hbM0_1) (fh2 : HbBuf0 (F := F) c hbM0_2) (fh3 : HbBuf0 (F := F) c hbM0_3)
    (W : Waits sig Unit) (K : PUnit → sProp 𝕄) :
    iprop((∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ hbPt0 c hbM0_0 fh0 ∗ hbPt0 c hbM0_1 fh1 ∗ hbPt0 c hbM0_2 fh2 ∗ hbPt0 c hbM0_3 fh3 ∗ owes (c : Thread nD τ) 0 W ∗ (iprop(owns (c : Thread nD τ) arg12 fullShare (wg16 c fh0) ∗ owns (c : Thread nD τ) arg13 fullShare (wu16 c fh1) ∗ owns (c : Thread nD τ) arg14 fullShare (wd16 c fh2) ∗ owns (c : Thread nD τ) arg15 fullShare (wo16 c fh3) ∗ (∃ d, owns (c : Thread nD τ) arg16 fullShare d) ∗ (∃ d, owns (c : Thread nD τ) arg17 fullShare d) ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ hbPt0 c hbM0_0 fh0 ∗ hbPt0 c hbM0_1 fh1 ∗ hbPt0 c hbM0_2 fh2 ∗ hbPt0 c hbM0_3 fh3 ∗ (∃ W', owes (c : Thread nD τ) 0 W')) -∗ K ⟨⟩))
      ⊢ wp frame (wpE (defs₀ (F := F)) Variants.none c none) Set.univ (fetchP i arg1 harg1 arg2 harg2 arg3 harg3 arg4 harg4 (Memref.whole main_arg5) (Memref.isWhole_whole _) (Memref.whole main_arg6) (Memref.isWhole_whole _) (Memref.whole main_arg7) (Memref.isWhole_whole _) (Memref.whole main_arg3) (Memref.isWhole_whole _) arg9 harg9 arg10 harg10 arg11 harg11 arg12 harg12 arg13 harg13 arg14 harg14 arg15 harg15 arg16 harg16 arg17 harg17 cc0_scratch8 cc0_scratch9) K := by
  unfold fetchP
  simp only [k0_part17_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
  unfold owns
  iintro ⟨⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, Hq0, Hq1, Hq2, Hq3, Hh0, Hh1, Hh2, Hh3, HW, Hk⟩
  sl_exec
  sl_step
  iapply Hk
  isplitl [HS2]
  · iexists _; isplitr
    swap; · iexact HS2
    ipureintro
    refine funext fun y => View.read_writes_apply_of_pieces _ _ _ _ ?_ y (View.cover_of_tiledL (s := S1024x2816) _ S256x2816.size (by sl_kernel_rfl) y)
    iterate 4 refine List.forall_mem_cons.mpr ⟨by (
        intro x
        simp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, shapeCast_self]
        try (delta fetch_run.sl.r; simp only [k0_pay13, shapeCast_self])
        first | delta fetch_run.sl.v207 | delta fetch_run.sl.v227 | delta fetch_run.sl.v247 | delta fetch_run.sl.v267 | delta fetch_run.sl.v287 | delta fetch_run.sl.v307 | delta fetch_run.sl.v327 | delta fetch_run.sl.v | delta fetch_run.sl.v367 | delta fetch_run.sl.v387 | delta fetch_run.sl.v407 | delta fetch_run.sl.v427 | delta fetch_run.sl.v447 | delta fetch_run.sl.v467 | delta fetch_run.sl.v487 | delta fetch_run.sl.v507 | delta fetch_run.sl.v527 | delta fetch_run.sl.v547 | delta fetch_run.sl.v567 | delta fetch_run.sl.v587 | delta fetch_run.sl.v607 | delta fetch_run.sl.v627 | delta fetch_run.sl.v_1
        first
          | (rw [Cert.Slab.read_miss, Cert.Slab.cast_read_hit]; swap; · exact Rect.unit_disjoint 0 (by decide))
          | rw [Cert.Slab.cast_read_hit]
        first | delta fetch_run.sl.dma0 | delta fetch_run.sl.dma0_1 | delta fetch_run.sl.dma3 | delta fetch_run.sl.dma6 | delta fetch_run.sl.dma9 | delta fetch_run.sl.dma12 | delta fetch_run.sl.dma15 | delta fetch_run.sl.dma18 | delta fetch_run.sl.dma21 | delta fetch_run.sl.dma24 | delta fetch_run.sl.dma27 | delta fetch_run.sl.dma30 | delta fetch_run.sl.dma33 | delta fetch_run.sl.dma36 | delta fetch_run.sl.dma39 | delta fetch_run.sl.dma42 | delta fetch_run.sl.dma45 | delta fetch_run.sl.dma48 | delta fetch_run.sl.dma51 | delta fetch_run.sl.dma54 | delta fetch_run.sl.dma57 | delta fetch_run.sl.dma60 | delta fetch_run.sl.dma63
        exact Cert.Slab.narrow_rows _ _ _ _ _ _), ?_⟩
    exact fun _ h => absurd h List.not_mem_nil
  isplitl [HS3]
  · iexists _; isplitr
    swap; · iexact HS3
    ipureintro
    refine funext fun y => View.read_writes_apply_of_pieces _ _ _ _ ?_ y (View.cover_of_tiledL (s := S1024x2816) _ S256x2816.size (by sl_kernel_rfl) y)
    iterate 4 refine List.forall_mem_cons.mpr ⟨by (
        intro x
        simp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, shapeCast_self]
        try (delta fetch_run.sl.r; simp only [k0_pay13, shapeCast_self])
        first | delta fetch_run.sl.v207 | delta fetch_run.sl.v227 | delta fetch_run.sl.v247 | delta fetch_run.sl.v267 | delta fetch_run.sl.v287 | delta fetch_run.sl.v307 | delta fetch_run.sl.v327 | delta fetch_run.sl.v | delta fetch_run.sl.v367 | delta fetch_run.sl.v387 | delta fetch_run.sl.v407 | delta fetch_run.sl.v427 | delta fetch_run.sl.v447 | delta fetch_run.sl.v467 | delta fetch_run.sl.v487 | delta fetch_run.sl.v507 | delta fetch_run.sl.v527 | delta fetch_run.sl.v547 | delta fetch_run.sl.v567 | delta fetch_run.sl.v587 | delta fetch_run.sl.v607 | delta fetch_run.sl.v627 | delta fetch_run.sl.v_1
        first
          | (rw [Cert.Slab.read_miss, Cert.Slab.cast_read_hit]; swap; · exact Rect.unit_disjoint 0 (by decide))
          | rw [Cert.Slab.cast_read_hit]
        first | delta fetch_run.sl.dma0 | delta fetch_run.sl.dma0_1 | delta fetch_run.sl.dma3 | delta fetch_run.sl.dma6 | delta fetch_run.sl.dma9 | delta fetch_run.sl.dma12 | delta fetch_run.sl.dma15 | delta fetch_run.sl.dma18 | delta fetch_run.sl.dma21 | delta fetch_run.sl.dma24 | delta fetch_run.sl.dma27 | delta fetch_run.sl.dma30 | delta fetch_run.sl.dma33 | delta fetch_run.sl.dma36 | delta fetch_run.sl.dma39 | delta fetch_run.sl.dma42 | delta fetch_run.sl.dma45 | delta fetch_run.sl.dma48 | delta fetch_run.sl.dma51 | delta fetch_run.sl.dma54 | delta fetch_run.sl.dma57 | delta fetch_run.sl.dma60 | delta fetch_run.sl.dma63
        exact Cert.Slab.narrow_rows _ _ _ _ _ _), ?_⟩
    exact fun _ h => absurd h List.not_mem_nil
  isplitl [HS4]
  · iexists _; isplitr
    swap; · iexact HS4
    ipureintro
    refine funext fun y => View.read_writes_apply_of_pieces _ _ _ _ ?_ y (View.cover_of_tiledL (s := S2816x1024) _ S256x1024.size (by sl_kernel_rfl) y)
    iterate 11 refine List.forall_mem_cons.mpr ⟨by (
        intro x
        simp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, shapeCast_self]
        try (delta fetch_run.sl.r; simp only [k0_pay13, shapeCast_self])
        first | delta fetch_run.sl.v207 | delta fetch_run.sl.v227 | delta fetch_run.sl.v247 | delta fetch_run.sl.v267 | delta fetch_run.sl.v287 | delta fetch_run.sl.v307 | delta fetch_run.sl.v327 | delta fetch_run.sl.v | delta fetch_run.sl.v367 | delta fetch_run.sl.v387 | delta fetch_run.sl.v407 | delta fetch_run.sl.v427 | delta fetch_run.sl.v447 | delta fetch_run.sl.v467 | delta fetch_run.sl.v487 | delta fetch_run.sl.v507 | delta fetch_run.sl.v527 | delta fetch_run.sl.v547 | delta fetch_run.sl.v567 | delta fetch_run.sl.v587 | delta fetch_run.sl.v607 | delta fetch_run.sl.v627 | delta fetch_run.sl.v_1
        first
          | (rw [Cert.Slab.read_miss, Cert.Slab.cast_read_hit]; swap; · exact Rect.unit_disjoint 0 (by decide))
          | rw [Cert.Slab.cast_read_hit]
        first | delta fetch_run.sl.dma0 | delta fetch_run.sl.dma0_1 | delta fetch_run.sl.dma3 | delta fetch_run.sl.dma6 | delta fetch_run.sl.dma9 | delta fetch_run.sl.dma12 | delta fetch_run.sl.dma15 | delta fetch_run.sl.dma18 | delta fetch_run.sl.dma21 | delta fetch_run.sl.dma24 | delta fetch_run.sl.dma27 | delta fetch_run.sl.dma30 | delta fetch_run.sl.dma33 | delta fetch_run.sl.dma36 | delta fetch_run.sl.dma39 | delta fetch_run.sl.dma42 | delta fetch_run.sl.dma45 | delta fetch_run.sl.dma48 | delta fetch_run.sl.dma51 | delta fetch_run.sl.dma54 | delta fetch_run.sl.dma57 | delta fetch_run.sl.dma60 | delta fetch_run.sl.dma63
        exact Cert.Slab.narrow_rows _ _ _ _ _ _), ?_⟩
    exact fun _ h => absurd h List.not_mem_nil
  isplitl [HS5]
  · iexists _; isplitr
    swap; · iexact HS5
    ipureintro
    refine funext fun y => View.read_writes_apply_of_pieces _ _ _ _ ?_ y (View.cover_of_tiledL (s := S1024x1024) _ S256x1024.size (by sl_kernel_rfl) y)
    iterate 4 refine List.forall_mem_cons.mpr ⟨by (
        intro x
        simp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, shapeCast_self]
        try (delta fetch_run.sl.r; simp only [k0_pay13, shapeCast_self])
        first | delta fetch_run.sl.v207 | delta fetch_run.sl.v227 | delta fetch_run.sl.v247 | delta fetch_run.sl.v267 | delta fetch_run.sl.v287 | delta fetch_run.sl.v307 | delta fetch_run.sl.v327 | delta fetch_run.sl.v | delta fetch_run.sl.v367 | delta fetch_run.sl.v387 | delta fetch_run.sl.v407 | delta fetch_run.sl.v427 | delta fetch_run.sl.v447 | delta fetch_run.sl.v467 | delta fetch_run.sl.v487 | delta fetch_run.sl.v507 | delta fetch_run.sl.v527 | delta fetch_run.sl.v547 | delta fetch_run.sl.v567 | delta fetch_run.sl.v587 | delta fetch_run.sl.v607 | delta fetch_run.sl.v627 | delta fetch_run.sl.v_1
        first
          | (rw [Cert.Slab.read_miss, Cert.Slab.cast_read_hit]; swap; · exact Rect.unit_disjoint 0 (by decide))
          | rw [Cert.Slab.cast_read_hit]
        first | delta fetch_run.sl.dma0 | delta fetch_run.sl.dma0_1 | delta fetch_run.sl.dma3 | delta fetch_run.sl.dma6 | delta fetch_run.sl.dma9 | delta fetch_run.sl.dma12 | delta fetch_run.sl.dma15 | delta fetch_run.sl.dma18 | delta fetch_run.sl.dma21 | delta fetch_run.sl.dma24 | delta fetch_run.sl.dma27 | delta fetch_run.sl.dma30 | delta fetch_run.sl.dma33 | delta fetch_run.sl.dma36 | delta fetch_run.sl.dma39 | delta fetch_run.sl.dma42 | delta fetch_run.sl.dma45 | delta fetch_run.sl.dma48 | delta fetch_run.sl.dma51 | delta fetch_run.sl.dma54 | delta fetch_run.sl.dma57 | delta fetch_run.sl.dma60 | delta fetch_run.sl.dma63
        exact Cert.Slab.narrow_rows _ _ _ _ _ _), ?_⟩
    exact fun _ h => absurd h List.not_mem_nil
  isplitl [HS6]
  · iexists _, _; isplitr; swap; · iexact HS6
    ipureintro; rfl
  isplitl [HS7]
  · iexists _, _; isplitr; swap; · iexact HS7
    ipureintro; rfl
  isplitl [Hq0]; · iexact Hq0
  isplitl [Hq1]; · iexact Hq1
  isplitl [Hq2]; · iexact Hq2
  isplitl [Hq3]; · iexact Hq3
  isplitl [Hh0]; · iexact Hh0
  isplitl [Hh1]; · iexact Hh1
  isplitl [Hh2]; · iexact Hh2
  isplitl [Hh3]; · iexact Hh3
  iexists _; iexact HW

end Cert.KernelIdeal.Hand

end
-- ==== Proof.Mix.Tail.lean ====
module

public import proofs.«01_k».proof.Proof.Mix.Kit
public import proofs.«01_k».proof.Proof.Mix.Slab

@[expose] public section

set_option maxRecDepth 16384

/-! What the body does once the weights are in scratch: its output block as a function of what it reads, and its run. -/

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Column chunk `k` of a weight: its 256 columns from `256 k` on. -/
def cols (w : Vec F S1024x2816 .bf16) (k : Fin 11) : Vec F S1024x256 .bf16 := fun p =>
  w fun a => match a with
    | ⟨0, _⟩ => p 0
    | ⟨1, _⟩ => ⟨256 * k.val + (p 1).val, by have h1 : (p 1).val < 256 := (p 1).isLt; have := k.isLt; show _ < 2816; omega⟩

/-- The residual rows with the mixed projections added: `h + o_da · o[:512] + o_rw · o[512:]`. -/
def hid (x0 : Vec F S512x1024 .f32) (x1 x2 : Vec F S512x512 .bf16) (o : Vec F S1024x1024 .bf16) : FVec F S512x1024 .f32 :=
  k0_pay26 x0 x1 (View.ld o (Rect.unit (s := S1024x1024) ![0, 0] S512x1024.size inb_S1024x1024_S512x1024_0_0)) x2
    (View.ld o (Rect.unit (s := S1024x1024) ![512, 0] S512x1024.size inb_S1024x1024_S512x1024_512_0))

/-- Those rows normalised and scaled, narrowed. -/
def nrm (x0 : Vec F S512x1024 .f32) (x1 x2 : Vec F S512x512 .bf16) (x3 : Vec F S1x1024 .f32) (o : Vec F S1024x1024 .bf16) : FVec F S512x1024 .bf16 :=
  k0_pay27 x0 x1 (View.ld o (Rect.unit (s := S1024x1024) ![0, 0] S512x1024.size inb_S1024x1024_S512x1024_0_0)) x2
    (View.ld o (Rect.unit (s := S1024x1024) ![512, 0] S512x1024.size inb_S1024x1024_S512x1024_512_0)) x3

/-- The gated activation, column chunk by column chunk. -/
def actv (n : FVec F S512x1024 .bf16) (g u : Vec F S1024x2816 .bf16) : Vec F S512x2816 .bf16 := fun y =>
  have hy : (y 1).val < 2816 := (y 1).isLt
  k0_pay29 n (cols g ⟨(y 1).val / 256, by omega⟩) n (cols u ⟨(y 1).val / 256, by omega⟩) fun a => match a with
    | ⟨0, _⟩ => y 0
    | ⟨1, _⟩ => ⟨(y 1).val % 256, Nat.mod_lt _ (by show 0 < 256; omega)⟩

/-- The output block as a function of the input blocks and of the weights. -/
def outv (x0 : Vec F S512x1024 .f32) (x1 x2 : Vec F S512x512 .bf16) (x3 : Vec F S1x1024 .f32)
    (g u : Vec F S1024x2816 .bf16) (d : Vec F S2816x1024 .bf16) (o : Vec F S1024x1024 .bf16) : FVec F S512x1024 .f32 :=
  k0_pay1 (hid x0 x1 x2 o) (actv (nrm x0 x1 x2 x3 o) g u) d

/-- What the body stores at chunk `k` is the activation there. -/
theorem actv_chunk (n : FVec F S512x1024 .bf16) (g u : Vec F S1024x2816 .bf16) (k : Fin 11) (off : Fin 2 → ℕ) (hoff : off = ![0, 256 * k.val])
    (inb : ∀ a, off a + S512x256.size a ≤ S512x2816.size a) (inb' : ∀ a, off a + S1024x256.size a ≤ S1024x2816.size a)
    (x : S512x256.Idx) :
    k0_pay29 n (View.ld g (Rect.unit (s := S1024x2816) off S1024x256.size inb')) n (View.ld u (Rect.unit (s := S1024x2816) off S1024x256.size inb')) x
      = actv n g u ((Rect.unit (s := S512x2816) off S512x256.size inb).emb x) := by
  subst hoff
  have hk : ∀ w : Vec F S1024x2816 .bf16, View.ld w (Rect.unit (s := S1024x2816) ![0, 256 * k.val] S1024x256.size inb') = cols w k := fun w => by
    refine funext fun p => congrArg w (Shape.idx_ext₂ ?_ ?_)
    · show 0 + 1 * (p 0).val = (p 0).val; omega
    · show 256 * k.val + 1 * (p 1).val = 256 * k.val + (p 1).val; omega
  rw [hk, hk]
  have hx : (x 1).val < 256 := (x 1).isLt
  have e1 : (((Rect.unit (s := S512x2816) ![0, 256 * k.val] S512x256.size inb).emb x) 1).val = 256 * k.val + (x 1).val := by
    show 256 * k.val + 1 * (x 1).val = _; omega
  have e0 : (((Rect.unit (s := S512x2816) ![0, 256 * k.val] S512x256.size inb).emb x) 0).val = (x 0).val := by
    show 0 + 1 * (x 0).val = _; omega
  have ek : ∀ h, (⟨(((Rect.unit (s := S512x2816) ![0, 256 * k.val] S512x256.size inb).emb x) 1).val / 256, h⟩ : Fin 11) = k := fun h =>
    Fin.ext (by show _ / 256 = k.val; rw [e1]; omega)
  unfold actv
  simp only [ek]
  refine congrArg _ (Shape.idx_ext₂ ?_ ?_)
  · exact e0.symm
  · show (x 1).val = _ % 256; rw [e1]; omega

/-- The residual rows of equal parts are equal. -/
theorem hid_congr {a0 : Vec F S512x1024 .f32} {a1 : Vec F S512x512 .bf16} {b1 : Vec F S512x1024 .bf16} {a2 : Vec F S512x512 .bf16} {b2 : Vec F S512x1024 .bf16}
    {x0 : Vec F S512x1024 .f32} {x1 x2 : Vec F S512x512 .bf16} {o : Vec F S1024x1024 .bf16} (h0 : a0 = x0) (h1 : a1 = x1)
    (g1 : b1 = View.ld o (Rect.unit (s := S1024x1024) ![0, 0] S512x1024.size inb_S1024x1024_S512x1024_0_0)) (h2 : a2 = x2)
    (g2 : b2 = View.ld o (Rect.unit (s := S1024x1024) ![512, 0] S512x1024.size inb_S1024x1024_S512x1024_512_0)) :
    k0_pay26 a0 a1 b1 a2 b2 = hid x0 x1 x2 o := by subst h0 h1 g1 h2 g2; rfl

/-- The normalised rows of equal parts are equal. -/
theorem nrm_congr {a0 : Vec F S512x1024 .f32} {a1 : Vec F S512x512 .bf16} {b1 : Vec F S512x1024 .bf16} {a2 : Vec F S512x512 .bf16} {b2 : Vec F S512x1024 .bf16}
    {a3 : Vec F S1x1024 .f32} {x0 : Vec F S512x1024 .f32} {x1 x2 : Vec F S512x512 .bf16} {x3 : Vec F S1x1024 .f32} {o : Vec F S1024x1024 .bf16} (h0 : a0 = x0) (h1 : a1 = x1)
    (g1 : b1 = View.ld o (Rect.unit (s := S1024x1024) ![0, 0] S512x1024.size inb_S1024x1024_S512x1024_0_0)) (h2 : a2 = x2)
    (g2 : b2 = View.ld o (Rect.unit (s := S1024x1024) ![512, 0] S512x1024.size inb_S1024x1024_S512x1024_512_0)) (h3 : a3 = x3) :
    k0_pay27 a0 a1 b1 a2 b2 a3 = nrm x0 x1 x2 x3 o := by subst h0 h1 g1 h2 g2 h3; rfl

/-- A stored chunk, its operands named, is the activation there. -/
theorem act_piece {v v' n : FVec F S512x1024 .bf16} {g u : Vec F S1024x2816 .bf16} {a b : Vec F S1024x256 .bf16} {p : FVec F S512x256 .bf16} (k : Fin 11) (off : Fin 2 → ℕ) (hoff : off = ![0, 256 * k.val])
    (inb : ∀ a, off a + S512x256.size a ≤ S512x2816.size a) (inb' : ∀ a, off a + S1024x256.size a ≤ S1024x2816.size a)
    (hv : v = n) (hv' : v' = n) (ha : a = View.ld g (Rect.unit (s := S1024x2816) off S1024x256.size inb'))
    (hb : b = View.ld u (Rect.unit (s := S1024x2816) off S1024x256.size inb')) (hp : p = k0_pay29 v a v' b)
    (x : S512x256.Idx) : p x = actv n g u ((Rect.unit (s := S512x2816) off S512x256.size inb).emb x) := by
  subst hv hv' ha hb hp; exact actv_chunk _ _ _ k off hoff inb inb' x

/-- Chunk 0 is computed like chunk 0. -/
theorem chunk_0 (v : FVec F S512x1024 .bf16) (a : Vec F S1024x256 .bf16) (v' : FVec F S512x1024 .bf16) (b : Vec F S1024x256 .bf16) : k0_pay29 v a v' b = k0_pay29 v a v' b := rfl

/-- Chunk 1 is computed like chunk 0. -/
theorem chunk_1 (v : FVec F S512x1024 .bf16) (a : Vec F S1024x256 .bf16) (v' : FVec F S512x1024 .bf16) (b : Vec F S1024x256 .bf16) : k0_pay30 v a v' b = k0_pay29 v a v' b := rfl

/-- Chunk 2 is computed like chunk 0. -/
theorem chunk_2 (v : FVec F S512x1024 .bf16) (a : Vec F S1024x256 .bf16) (v' : FVec F S512x1024 .bf16) (b : Vec F S1024x256 .bf16) : k0_pay31 v a v' b = k0_pay29 v a v' b := rfl

/-- Chunk 3 is computed like chunk 0. -/
theorem chunk_3 (v : FVec F S512x1024 .bf16) (a : Vec F S1024x256 .bf16) (v' : FVec F S512x1024 .bf16) (b : Vec F S1024x256 .bf16) : k0_pay32 v a v' b = k0_pay29 v a v' b := rfl

/-- Chunk 4 is computed like chunk 0. -/
theorem chunk_4 (v : FVec F S512x1024 .bf16) (a : Vec F S1024x256 .bf16) (v' : FVec F S512x1024 .bf16) (b : Vec F S1024x256 .bf16) : k0_pay34 (k0_pay33 v a) v' b = k0_pay29 v a v' b := rfl

/-- Chunk 5 is computed like chunk 0. -/
theorem chunk_5 (v : FVec F S512x1024 .bf16) (a : Vec F S1024x256 .bf16) (v' : FVec F S512x1024 .bf16) (b : Vec F S1024x256 .bf16) : k0_pay35 v a v' b = k0_pay29 v a v' b := rfl

/-- Chunk 6 is computed like chunk 0. -/
theorem chunk_6 (v : FVec F S512x1024 .bf16) (a : Vec F S1024x256 .bf16) (v' : FVec F S512x1024 .bf16) (b : Vec F S1024x256 .bf16) : k0_pay37 (k0_pay36 v a v' b) = k0_pay29 v a v' b := rfl

/-- Chunk 7 is computed like chunk 0. -/
theorem chunk_7 (v : FVec F S512x1024 .bf16) (a : Vec F S1024x256 .bf16) (v' : FVec F S512x1024 .bf16) (b : Vec F S1024x256 .bf16) : k0_pay38 v a v' b = k0_pay29 v a v' b := rfl

/-- Chunk 8 is computed like chunk 0. -/
theorem chunk_8 (v : FVec F S512x1024 .bf16) (a : Vec F S1024x256 .bf16) (v' : FVec F S512x1024 .bf16) (b : Vec F S1024x256 .bf16) : k0_pay39 v a v' b = k0_pay29 v a v' b := rfl

/-- Chunk 9 is computed like chunk 0. -/
theorem chunk_9 (v : FVec F S512x1024 .bf16) (a : Vec F S1024x256 .bf16) (v' : FVec F S512x1024 .bf16) (b : Vec F S1024x256 .bf16) : k0_pay40 v a v' b = k0_pay29 v a v' b := rfl

/-- Chunk 10 is computed like chunk 0. -/
theorem chunk_10 (v : FVec F S512x1024 .bf16) (a : Vec F S1024x256 .bf16) (v' : FVec F S512x1024 .bf16) (b : Vec F S1024x256 .bf16) : k0_pay41 v a v' b = k0_pay29 v a v' b := rfl

/-- Equal residual rows, activations and down weights give equal output blocks. -/
theorem out_congr {a a' : FVec F S512x1024 .f32} {b b' : Vec F S512x2816 .bf16} {d d' : Vec F S2816x1024 .bf16} (ha : a = a') (hb : b = b') (hd : d = d') :
    k0_pay1 a b d = k0_pay1 a' b' d' := by subst ha hb hd; rfl

set_option maxHeartbeats 20000000 in
/-- The run of the body at a point after the first: the weights' scratch as it was, the output's block named. -/
theorem tail_run (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S1x1024 .f32) (harg4 : arg4.IsWhole) (arg9 : Memref sig .tc .vmem S512x1024 .f32) (harg9 : arg9.IsWhole) (arg10 : Memref sig .tc .vmem S512x1024 .bf16) (harg10 : arg10.IsWhole) (arg11 : Memref sig .tc .vmem S512x2816 .bf16) (harg11 : arg11.IsWhole) (arg12 : Memref sig .tc .vmem S1024x2816 .bf16) (harg12 : arg12.IsWhole) (arg13 : Memref sig .tc .vmem S1024x2816 .bf16) (harg13 : arg13.IsWhole) (arg14 : Memref sig .tc .vmem S2816x1024 .bf16) (harg14 : arg14.IsWhole) (arg15 : Memref sig .tc .vmem S1024x1024 .bf16) (harg15 : arg15.IsWhole) (arg16 : Memref sig .tc .vmem S2x256x2816 .f32) (harg16 : arg16.IsWhole) (arg17 : Memref sig .tc .vmem S2x256x1024 .f32) (harg17 : arg17.IsWhole) (hc0 : ¬cond0_0 i)
    (x0 : Vec F S512x1024 .f32) (x1 x2 : Vec F S512x512 .bf16) (x3 : Vec F S1x1024 .f32)
    (g u : Vec F S1024x2816 .bf16) (d : Vec F S2816x1024 .bf16) (o : Vec F S1024x1024 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare g ∗ owns (c : Thread nD τ) arg13 fullShare u ∗ owns (c : Thread nD τ) arg14 fullShare d ∗ owns (c : Thread nD τ) arg15 fullShare o ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg9 fullShare (outv x0 x1 x2 x3 g u d o) ∗ (∃ d, owns (c : Thread nD τ) arg10 fullShare d) ∗ (∃ d, owns (c : Thread nD τ) arg11 fullShare d) ∗ owns (c : Thread nD τ) arg12 fullShare g ∗ owns (c : Thread nD τ) arg13 fullShare u ∗ owns (c : Thread nD τ) arg14 fullShare d ∗ owns (c : Thread nD τ) arg15 fullShare o) -∗ K ⟨⟩))
      ⊢ wp frame (wpE (defs₀ (F := F)) Variants.none c none) Set.univ (cc0_ffn_mix i arg1 harg1 arg2 harg2 arg3 harg3 arg4 harg4 (Memref.whole main_arg5) (Memref.isWhole_whole _) (Memref.whole main_arg6) (Memref.isWhole_whole _) (Memref.whole main_arg7) (Memref.isWhole_whole _) (Memref.whole main_arg3) (Memref.isWhole_whole _) arg9 harg9 arg10 harg10 arg11 harg11 arg12 harg12 arg13 harg13 arg14 harg14 arg15 harg15 arg16 harg16 arg17 harg17 cc0_scratch8 cc0_scratch9) K := by
  simp only [cc0_ffn_mix_eq_skeleton]; unfold cc0_ffn_mix_skel
  simp only [k0_part18_eq_skeleton, k0_part19_eq_skeleton, k0_part20_eq_skeleton, k0_part21_eq_skeleton, k0_part22_eq_skeleton, k0_part23_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%fs2, %hfs2, HS2⟩, ⟨%fs3, %hfs3, HS3⟩, ⟨%fs4, %hfs4, HS4⟩, ⟨%fs5, %hfs5, HS5⟩, Hk⟩
  obtain rfl := harg1.eq_unread hf0; obtain rfl := harg2.eq_unread hf1; obtain rfl := harg3.eq_unread hf2; obtain rfl := harg4.eq_unread hf3; obtain rfl := harg12.eq_unread hfs2; obtain rfl := harg13.eq_unread hfs3; obtain rfl := harg14.eq_unread hfs4; obtain rfl := harg15.eq_unread hfs5
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    have e34 : tail_run.sl.v34 c arg1 harg1 arg2 harg2 arg3 harg3 arg4 harg4 arg10 arg15 harg15 x0 x1 x2 x3 o = nrm x0 x1 x2 x3 o := by
      delta tail_run.sl.v34
      delta tail_run.sl.HS0_1
      refine (View.readCov_unit_zero _ (View.eq_zero_of_forall (by decide)) _ _).trans ?_
      try delta tail_run.sl.r
      simp only [k0_pay28, shapeCast_self]
      exact nrm_congr ((View.readAt_full _ _ _).trans (harg1.read_unread _)) ((View.readAt_full _ _ _).trans (harg2.read_unread _))
        (congrArg (fun w => View.ld w _) (harg15.read_unread _)) ((View.readAt_full _ _ _).trans (harg3.read_unread _))
        (congrArg (fun w => View.ld w _) (harg15.read_unread _)) ((View.readAt_full _ _ _).trans (harg4.read_unread _))
    have e177 : tail_run.sl.r_3 c arg1 harg1 arg2 harg2 arg3 harg3 arg9 arg15 harg15 x0 x1 x2 o = hid x0 x1 x2 o := by
      delta tail_run.sl.r_3
      delta tail_run.sl.v177
      try delta tail_run.sl.H4_1
      simp only [k0_pay42, shapeCast_self]
      refine (View.readCov_unit_zero _ (View.eq_zero_of_forall (by decide)) _ _).trans ?_
      exact hid_congr ((View.readAt_full _ _ _).trans (harg1.read_unread _)) ((View.readAt_full _ _ _).trans (harg2.read_unread _))
        (congrArg (fun w => View.ld w _) (harg15.read_unread _)) ((View.readAt_full _ _ _).trans (harg3.read_unread _))
        (congrArg (fun w => View.ld w _) (harg15.read_unread _))
    refine (Cert.Slab.read_writes_full _ _ (by decide) _ _ _).trans (out_congr e177 ?pb ((View.readAt_full _ _ _).trans (harg14.read_unread _)))
    delta tail_run.sl.v179
    refine (View.readAt_full _ _ _).trans ?_
    refine funext fun y => View.read_writes_apply_of_pieces _ _ _ _ ?_ y (View.cover_of_tiledL (s := S512x2816) _ S512x256.size (by sl_kernel_rfl) y)
    refine List.forall_mem_cons.mpr ⟨fun x => act_piece 10 ![0, 2560] rfl inb_S512x2816_S512x256_0_2560 inb_S1024x2816_S1024x256_0_2560 e34 e34 (congrArg (fun w => View.ld w _) (harg12.read_unread _)) (congrArg (fun w => View.ld w _) (harg13.read_unread _)) (chunk_10 _ _ _ _) x, ?_⟩
    refine List.forall_mem_cons.mpr ⟨fun x => act_piece 9 ![0, 2304] rfl inb_S512x2816_S512x256_0_2304 inb_S1024x2816_S1024x256_0_2304 e34 e34 (congrArg (fun w => View.ld w _) (harg12.read_unread _)) (congrArg (fun w => View.ld w _) (harg13.read_unread _)) (chunk_9 _ _ _ _) x, ?_⟩
    refine List.forall_mem_cons.mpr ⟨fun x => act_piece 8 ![0, 2048] rfl inb_S512x2816_S512x256_0_2048 inb_S1024x2816_S1024x256_0_2048 e34 e34 (congrArg (fun w => View.ld w _) (harg12.read_unread _)) (congrArg (fun w => View.ld w _) (harg13.read_unread _)) (chunk_8 _ _ _ _) x, ?_⟩
    refine List.forall_mem_cons.mpr ⟨fun x => act_piece 7 ![0, 1792] rfl inb_S512x2816_S512x256_0_1792 inb_S1024x2816_S1024x256_0_1792 e34 e34 (congrArg (fun w => View.ld w _) (harg12.read_unread _)) (congrArg (fun w => View.ld w _) (harg13.read_unread _)) (chunk_7 _ _ _ _) x, ?_⟩
    refine List.forall_mem_cons.mpr ⟨fun x => by delta tail_run.sl.r_2; exact act_piece 6 ![0, 1536] rfl inb_S512x2816_S512x256_0_1536 inb_S1024x2816_S1024x256_0_1536 e34 e34 (congrArg (fun w => View.ld w _) (harg12.read_unread _)) (congrArg (fun w => View.ld w _) (harg13.read_unread _)) (chunk_6 _ _ _ _) x, ?_⟩
    refine List.forall_mem_cons.mpr ⟨fun x => act_piece 5 ![0, 1280] rfl inb_S512x2816_S512x256_0_1280 inb_S1024x2816_S1024x256_0_1280 e34 e34 (congrArg (fun w => View.ld w _) (harg12.read_unread _)) (congrArg (fun w => View.ld w _) (harg13.read_unread _)) (chunk_5 _ _ _ _) x, ?_⟩
    refine List.forall_mem_cons.mpr ⟨fun x => by delta tail_run.sl.r_1; exact act_piece 4 ![0, 1024] rfl inb_S512x2816_S512x256_0_1024 inb_S1024x2816_S1024x256_0_1024 e34 e34 (congrArg (fun w => View.ld w _) (harg12.read_unread _)) (congrArg (fun w => View.ld w _) (harg13.read_unread _)) (chunk_4 _ _ _ _) x, ?_⟩
    refine List.forall_mem_cons.mpr ⟨fun x => act_piece 3 ![0, 768] rfl inb_S512x2816_S512x256_0_768 inb_S1024x2816_S1024x256_0_768 e34 e34 (congrArg (fun w => View.ld w _) (harg12.read_unread _)) (congrArg (fun w => View.ld w _) (harg13.read_unread _)) (chunk_3 _ _ _ _) x, ?_⟩
    refine List.forall_mem_cons.mpr ⟨fun x => act_piece 2 ![0, 512] rfl inb_S512x2816_S512x256_0_512 inb_S1024x2816_S1024x256_0_512 e34 e34 (congrArg (fun w => View.ld w _) (harg12.read_unread _)) (congrArg (fun w => View.ld w _) (harg13.read_unread _)) (chunk_2 _ _ _ _) x, ?_⟩
    refine List.forall_mem_cons.mpr ⟨fun x => act_piece 1 ![0, 256] rfl inb_S512x2816_S512x256_0_256 inb_S1024x2816_S1024x256_0_256 e34 e34 (congrArg (fun w => View.ld w _) (harg12.read_unread _)) (congrArg (fun w => View.ld w _) (harg13.read_unread _)) (chunk_1 _ _ _ _) x, ?_⟩
    refine List.forall_mem_cons.mpr ⟨fun x => act_piece 0 ![0, 0] rfl inb_S512x2816_S512x256_0_0 inb_S1024x2816_S1024x256_0_0 e34 e34 (congrArg (fun w => View.ld w _) (harg12.read_unread _)) (congrArg (fun w => View.ld w _) (harg13.read_unread _)) (chunk_0 _ _ _ _) x, ?_⟩
    exact fun _ h => absurd h List.not_mem_nil
  isplitl [HS0]
  · iexists _, _; isplitr; swap; · iexact HS0
    ipureintro; rfl
  isplitl [HS1]
  · iexists _, _; isplitr; swap; · iexact HS1
    ipureintro; rfl
  isplitl [HS2]
  · iexists _; isplitr; · ipureintro; exact harg12.read_unread _
    iexact HS2
  isplitl [HS3]
  · iexists _; isplitr; · ipureintro; exact harg13.read_unread _
    iexact HS3
  isplitl [HS4]
  · iexists _; isplitr; · ipureintro; exact harg14.read_unread _
    iexact HS4
  · iexists _; isplitr; · ipureintro; exact harg15.read_unread _
    iexact HS5

end Cert.KernelIdeal.Hand

end
-- ==== Proof.Mix.Run.lean ====
module

public import proofs.«01_k».proof.Proof.Mix.Fetch
public import proofs.«01_k».proof.Proof.Mix.Tail
public import Idealize.ShloMosaic.Lib.Claim

@[expose] public section

set_option maxRecDepth 16384

/-! The body at every point, the proof data with the output block named, and the launch. -/

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 2000000 in
/-- The body at the first point: the weights fetched into scratch, the output's block named. -/
theorem first_run (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S1x1024 .f32) (harg4 : arg4.IsWhole) (arg9 : Memref sig .tc .vmem S512x1024 .f32) (harg9 : arg9.IsWhole) (arg10 : Memref sig .tc .vmem S512x1024 .bf16) (harg10 : arg10.IsWhole) (arg11 : Memref sig .tc .vmem S512x2816 .bf16) (harg11 : arg11.IsWhole) (arg12 : Memref sig .tc .vmem S1024x2816 .bf16) (harg12 : arg12.IsWhole) (arg13 : Memref sig .tc .vmem S1024x2816 .bf16) (harg13 : arg13.IsWhole) (arg14 : Memref sig .tc .vmem S2816x1024 .bf16) (harg14 : arg14.IsWhole) (arg15 : Memref sig .tc .vmem S1024x1024 .bf16) (harg15 : arg15.IsWhole) (arg16 : Memref sig .tc .vmem S2x256x2816 .f32) (harg16 : arg16.IsWhole) (arg17 : Memref sig .tc .vmem S2x256x1024 .f32) (harg17 : arg17.IsWhole) (hc0 : cond0_0 i)
    (x0 : Vec F S512x1024 .f32) (x1 x2 : Vec F S512x512 .bf16) (x3 : Vec F S1x1024 .f32)
    (fh0 : HbBuf0 (F := F) c hbM0_0) (fh1 : HbBuf0 (F := F) c hbM0_1) (fh2 : HbBuf0 (F := F) c hbM0_2) (fh3 : HbBuf0 (F := F) c hbM0_3)
    (W : Waits sig Unit) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ hbPt0 c hbM0_0 fh0 ∗ hbPt0 c hbM0_1 fh1 ∗ hbPt0 c hbM0_2 fh2 ∗ hbPt0 c hbM0_3 fh3 ∗ owes (c : Thread nD τ) 0 W ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg9 fullShare (outv x0 x1 x2 x3 (wg16 c fh0) (wu16 c fh1) (wd16 c fh2) (wo16 c fh3)) ∗ (∃ d, owns (c : Thread nD τ) arg10 fullShare d) ∗ (∃ d, owns (c : Thread nD τ) arg11 fullShare d) ∗ owns (c : Thread nD τ) arg12 fullShare (wg16 c fh0) ∗ owns (c : Thread nD τ) arg13 fullShare (wu16 c fh1) ∗ owns (c : Thread nD τ) arg14 fullShare (wd16 c fh2) ∗ owns (c : Thread nD τ) arg15 fullShare (wo16 c fh3) ∗ (∃ d, owns (c : Thread nD τ) arg16 fullShare d) ∗ (∃ d, owns (c : Thread nD τ) arg17 fullShare d) ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ hbPt0 c hbM0_0 fh0 ∗ hbPt0 c hbM0_1 fh1 ∗ hbPt0 c hbM0_2 fh2 ∗ hbPt0 c hbM0_3 fh3 ∗ (∃ W, owes (c : Thread nD τ) 0 W)) -∗ K ⟨⟩))
      ⊢ wp frame (wpE (defs₀ (F := F)) Variants.none c none) Set.univ (cc0_ffn_mix i arg1 harg1 arg2 harg2 arg3 harg3 arg4 harg4 (Memref.whole main_arg5) (Memref.isWhole_whole _) (Memref.whole main_arg6) (Memref.isWhole_whole _) (Memref.whole main_arg7) (Memref.isWhole_whole _) (Memref.whole main_arg3) (Memref.isWhole_whole _) arg9 harg9 arg10 harg10 arg11 harg11 arg12 harg12 arg13 harg13 arg14 harg14 arg15 harg15 arg16 harg16 arg17 harg17 cc0_scratch8 cc0_scratch9) K := by
  rw [body_split i arg1 harg1 arg2 harg2 arg3 harg3 arg4 harg4 (Memref.whole main_arg5) (Memref.isWhole_whole _) (Memref.whole main_arg6) (Memref.isWhole_whole _) (Memref.whole main_arg7) (Memref.isWhole_whole _) (Memref.whole main_arg3) (Memref.isWhole_whole _) arg9 harg9 arg10 harg10 arg11 harg11 arg12 harg12 arg13 harg13 arg14 harg14 arg15 harg15 arg16 harg16 arg17 harg17 cc0_scratch8 cc0_scratch9 (grid0.coords ⟨1, by rw [show grid0.N = 32 from N_0]; decide⟩) hc0
    (fun h => absurd ((hcond0_0 _).mp h) (by show ¬ 1 % 32 = 0; decide)), wp_bind]
  iintro ⟨H0, H1, H2, H3, H4, HS0, HS1, HS2, HS3, HS4, HS5, HS6, HS7, Hq0, Hq1, Hq2, Hq3, Hh0, Hh1, Hh2, Hh3, HW, Hk⟩
  iapply (fetch_run c i arg1 harg1 arg2 harg2 arg3 harg3 arg4 harg4 arg9 harg9 arg10 harg10 arg11 harg11 arg12 harg12 arg13 harg13 arg14 harg14 arg15 harg15 arg16 harg16 arg17 harg17 fh0 fh1 fh2 fh3 W _)
  isplitl [HS2]; · iexact HS2
  isplitl [HS3]; · iexact HS3
  isplitl [HS4]; · iexact HS4
  isplitl [HS5]; · iexact HS5
  isplitl [HS6]; · iexact HS6
  isplitl [HS7]; · iexact HS7
  isplitl [Hq0]; · iexact Hq0
  isplitl [Hq1]; · iexact Hq1
  isplitl [Hq2]; · iexact Hq2
  isplitl [Hq3]; · iexact Hq3
  isplitl [Hh0]; · iexact Hh0
  isplitl [Hh1]; · iexact Hh1
  isplitl [Hh2]; · iexact Hh2
  isplitl [Hh3]; · iexact Hh3
  isplitl [HW]; · iexact HW
  iintro ⟨HS2, HS3, HS4, HS5, HS6, HS7, Hq0, Hq1, Hq2, Hq3, Hh0, Hh1, Hh2, Hh3, HW⟩
  iapply (tail_run c _ arg1 harg1 arg2 harg2 arg3 harg3 arg4 harg4 arg9 harg9 arg10 harg10 arg11 harg11 arg12 harg12 arg13 harg13 arg14 harg14 arg15 harg15 arg16 harg16 arg17 harg17 (fun h => absurd ((hcond0_0 _).mp h) (by show ¬ 1 % 32 = 0; decide)) x0 x1 x2 x3 (wg16 c fh0) (wu16 c fh1) (wd16 c fh2) (wo16 c fh3) _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, HS0, HS1, HS2, HS3, HS4, HS5⟩
  iapply Hk
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [Hq0]; · iexact Hq0
  isplitl [Hq1]; · iexact Hq1
  isplitl [Hq2]; · iexact Hq2
  isplitl [Hq3]; · iexact Hq3
  isplitl [Hh0]; · iexact Hh0
  isplitl [Hh1]; · iexact Hh1
  isplitl [Hh2]; · iexact Hh2
  isplitl [Hh3]; · iexact Hh3
  iexact HW

/-! ## The proof data -/

/-- The output block after point `t`. -/
def outB (c : Dev nD) (t : Fin cfg0.N) : Vec F S512x1024 .f32 :=
  outv (iblk m c 0 t) (iblk m c 1 t) (iblk m c 2 t) (iblk m c 3 t) (wg16 c (V m c main_arg5)) (wu16 c (V m c main_arg6)) (wd16 c (V m c main_arg7)) (wo16 c (V m c main_arg3))

/-- The invariant before position `n`: before the first point the launch's own; afterwards the same with the weights'
    scratch at the weights narrowed. -/
def PhiS (c : Dev nD) : ℕ → sProp 𝕄
  | 0 => Pipeline.ΦD osem0 spec0 H0 (V m) c
  | _ + 1 => iprop(iprop((∃ d, owns (c : Thread nD τ) scM0_0 fullShare d) ∗ (∃ d, owns (c : Thread nD τ) scM0_1 fullShare d) ∗ owns (c : Thread nD τ) scM0_2 fullShare (wg16 c (V m c main_arg5)) ∗ owns (c : Thread nD τ) scM0_3 fullShare (wu16 c (V m c main_arg6)) ∗ owns (c : Thread nD τ) scM0_4 fullShare (wd16 c (V m c main_arg7)) ∗ owns (c : Thread nD τ) scM0_5 fullShare (wo16 c (V m c main_arg3)) ∗ (∃ d, owns (c : Thread nD τ) scM0_6 fullShare d) ∗ (∃ d, owns (c : Thread nD τ) scM0_7 fullShare d)) ∗ (∃ r, prngReg c r) ∗ iprop(semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0) ∗ iprop(hbPt0 c hbM0_0 (V m c main_arg5) ∗ hbPt0 c hbM0_1 (V m c main_arg6) ∗ hbPt0 c hbM0_2 (V m c main_arg7) ∗ hbPt0 c hbM0_3 (V m c main_arg3)))

/-- Before a point that is not the first the weights are in scratch. -/
theorem PhiS_pos (c : Dev nD) (n : ℕ) (hz : n ≠ 0) : PhiS m c n = iprop(iprop((∃ d, owns (c : Thread nD τ) scM0_0 fullShare d) ∗ (∃ d, owns (c : Thread nD τ) scM0_1 fullShare d) ∗ owns (c : Thread nD τ) scM0_2 fullShare (wg16 c (V m c main_arg5)) ∗ owns (c : Thread nD τ) scM0_3 fullShare (wu16 c (V m c main_arg6)) ∗ owns (c : Thread nD τ) scM0_4 fullShare (wd16 c (V m c main_arg7)) ∗ owns (c : Thread nD τ) scM0_5 fullShare (wo16 c (V m c main_arg3)) ∗ (∃ d, owns (c : Thread nD τ) scM0_6 fullShare d) ∗ (∃ d, owns (c : Thread nD τ) scM0_7 fullShare d)) ∗ (∃ r, prngReg c r) ∗ iprop(semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0) ∗ iprop(hbPt0 c hbM0_0 (V m c main_arg5) ∗ hbPt0 c hbM0_1 (V m c main_arg6) ∗ hbPt0 c hbM0_2 (V m c main_arg7) ∗ hbPt0 c hbM0_3 (V m c main_arg3))) := by
  cases n with
  | zero => exact absurd rfl hz
  | succ n => rfl

/-- The proof data: each input's buffer left at its block, the output's at the block named, nothing owed. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outB m c t
  Φ t := PhiS m c t.val
  q _ := fullShare
  owed _ := 0

/-- The proof data's arrays are what the region finds. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outB m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 4000000 in
/-- The body at any point takes the one to the other: the first point fetches the weights, a later one finds them. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = PhiS m c (t.val + 1) from rfl, PhiS_pos m c _ (Nat.succ_ne_zero _),
    after0_0, after0_1, after0_2, after0_3, after0_4, show (dats m 0 c).Φ t.castSucc = PhiS m c t.val from rfl]
  unfold Dat.owesAt Pipeline.owesWithin
  rw [show (dats m 0 c).owed t.castSucc = 0 from rfl, show (dats m 0 c).owed t.succ = 0 from rfl]
  have hN : t.val < 32 := lt_of_lt_of_eq t.isLt (show cfg0.N = 32 from N_0)
  by_cases hz : t.val = 0
  · rw [show PhiS m c t.val = Pipeline.ΦD osem0 spec0 H0 (V m) c by rw [hz]; rfl, PhiD0_eq]
    iintro ⟨⟨⟨HS0, HS1, HS2, HS3, HS4, HS5, HS6, HS7⟩, Hg, ⟨Hq0, Hq1, Hq2, Hq3⟩, ⟨Hh0, Hh1, Hh2, Hh3⟩⟩, ⟨%W, -, HW⟩, ⟨%d0, H0⟩, ⟨%d1, H1⟩, ⟨%d2, H2⟩, ⟨%d3, H3⟩, ⟨%d4, H4⟩⟩
    iapply (first_run c (grid0.coords t) _ _ _ _ _ _ _ _ _ _ _ _ _ _ _ _ _ _ _ _ _ _ _ _ _ _ ((hcond0_0 t).mpr (by omega)) (iblk m c 0 t) (iblk m c 1 t) (iblk m c 2 t) (iblk m c 3 t) (V m c main_arg5) (V m c main_arg6) (V m c main_arg7) (V m c main_arg3) W _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [Hq0]; · iexact Hq0
    isplitl [Hq1]; · iexact Hq1
    isplitl [Hq2]; · iexact Hq2
    isplitl [Hq3]; · iexact Hq3
    isplitl [Hh0]; · iexact Hh0
    isplitl [Hh1]; · iexact Hh1
    isplitl [Hh2]; · iexact Hh2
    isplitl [Hh3]; · iexact Hh3
    isplitl [HW]; · iexact HW
    iintro ⟨H0, H1, H2, H3, H4, HS0, HS1, HS2, HS3, HS4, HS5, HS6, HS7, Hq0, Hq1, Hq2, Hq3, Hh0, Hh1, Hh2, Hh3, ⟨%W', HW'⟩⟩
    isplitl [HS0 HS1 HS2 HS3 HS4 HS5 HS6 HS7 Hg Hq0 Hq1 Hq2 Hq3 Hh0 Hh1 Hh2 Hh3]
    · isplitl [HS0 HS1 HS2 HS3 HS4 HS5 HS6 HS7]
      · isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        iexact HS7
      isplitl [Hg]; · iexact Hg
      isplitl [Hq0 Hq1 Hq2 Hq3]
      · isplitl [Hq0]; · iexact Hq0
        isplitl [Hq1]; · iexact Hq1
        isplitl [Hq2]; · iexact Hq2
        iexact Hq3
      isplitl [Hh0]; · iexact Hh0
      isplitl [Hh1]; · iexact Hh1
      isplitl [Hh2]; · iexact Hh2
      iexact Hh3
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    iexact H4
  · rw [PhiS_pos m c _ hz]
    iintro ⟨⟨⟨HS0, HS1, HS2, HS3, HS4, HS5, HS6, HS7⟩, Hg, ⟨Hq0, Hq1, Hq2, Hq3⟩, ⟨Hh0, Hh1, Hh2, Hh3⟩⟩, ⟨%W, -, HW⟩, ⟨%d0, H0⟩, ⟨%d1, H1⟩, ⟨%d2, H2⟩, ⟨%d3, H3⟩, ⟨%d4, H4⟩⟩
    iapply (tail_run c (grid0.coords t) _ _ _ _ _ _ _ _ _ _ _ _ _ _ _ _ _ _ _ _ _ _ _ _ _ _ (fun h => absurd ((hcond0_0 t).mp h) (by omega)) (iblk m c 0 t) (iblk m c 1 t) (iblk m c 2 t) (iblk m c 3 t) (wg16 c (V m c main_arg5)) (wu16 c (V m c main_arg6)) (wd16 c (V m c main_arg7)) (wo16 c (V m c main_arg3)) _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, H3, H4, HS0, HS1, HS2, HS3, HS4, HS5⟩
    isplitl [HS0 HS1 HS2 HS3 HS4 HS5 HS6 HS7 Hg Hq0 Hq1 Hq2 Hq3 Hh0 Hh1 Hh2 Hh3]
    · isplitl [HS0 HS1 HS2 HS3 HS4 HS5 HS6 HS7]
      · isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        iexact HS7
      isplitl [Hg]; · iexact Hg
      isplitl [Hq0 Hq1 Hq2 Hq3]
      · isplitl [Hq0]; · iexact Hq0
        isplitl [Hq1]; · iexact Hq1
        isplitl [Hq2]; · iexact Hq2
        iexact Hq3
      isplitl [Hh0]; · iexact Hh0
      isplitl [Hh1]; · iexact Hh1
      isplitl [Hh2]; · iexact Hh2
      iexact Hh3
    isplitl [HW]
    · iexists W; isplitr; · ipureintro; exact fun _ _ => Or.inl trivial
      iexact HW
    isplitl [H0]; · iexact H0
    isplitl [H1]; · iexact H1
    isplitl [H2]; · iexact H2
    isplitl [H3]; · iexact H3
    iexact H4

/-- The body table's row at point `t` is the body there. -/
theorem row_body (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, row_body]
  exact triple_restated (sound_body m c t) rfl .rfl fun _ => .rfl

/-- What the launch hands the region is the invariant before the first point. -/
theorem hin (c : Dev nD) : Pipeline.ΦD osem0 spec0 H0 (V m) c ⊢ (dats m 0 c).Φ 0 := by
  rw [show (dats m 0 c).Φ 0 = Pipeline.ΦD osem0 spec0 H0 (V m) c from rfl]
  try exact Idealize.SL.BI.Entails.refl _

/-- After the last point the invariant gives the launch's back: the weights' scratch is forgotten. -/
theorem hout (c : Dev nD) : (dats m 0 c).Φ (Fin.last cfg0.N) ⊢ Pipeline.ΦD osem0 spec0 H0 (V m) c := by
  rw [show (dats m 0 c).Φ (Fin.last cfg0.N) = PhiS m c cfg0.N from rfl,
    PhiS_pos m c _ (by rw [show cfg0.N = 32 from N_0]; decide), PhiD0_eq]
  iintro ⟨⟨HS0, HS1, HS2, HS3, HS4, HS5, HS6, HS7⟩, Hg, Hq, Hh⟩
  isplitl [HS0 HS1 HS2 HS3 HS4 HS5 HS6 HS7]
  · isplitl [HS0]; · iexact HS0
    isplitl [HS1]; · iexact HS1
    isplitl [HS2]; · iexists _; iexact HS2
    isplitl [HS3]; · iexists _; iexact HS3
    isplitl [HS4]; · iexists _; iexact HS4
    isplitl [HS5]; · iexists _; iexact HS5
    isplitl [HS6]; · iexact HS6
    iexact HS7
  isplitl [Hg]; · iexact Hg
  isplitl [Hq]; · iexact Hq
  iexact Hh

set_option backward.isDefEq.respectTransparency.types false in
/-- THE LAUNCH: it terminates without fault, every array ends at what the proof data says, every counter at zero. -/
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- Any final state of the launch has the argument arrays unchanged. -/
theorem unchanged_of (h : θ_run defs (onTc (τ := τ) (main (F := F))) (s₀ m ρ) (Pipeline.FramePost cfgs (dats m) 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩) h

/-- The program runs, leaves its argument arrays unchanged and every semaphore counter at zero. -/
theorem frame_quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged_of m ρ ((θ_run defs _ _).mono (fun _ h => h.1) (run_main m ρ))) ((θ_run defs _ _).mono (fun _ h => h.2) (run_main m ρ))

end Cert.KernelIdeal.Hand

end
-- ==== Proof.Row.Basic.lean ====
module

public import Idealize.ShloMosaic.Lib.Pointwise

@[expose] public section

/-! One row of the feed-forward step over the extended reals: the normalised row, the gated activation, the row with
    half the step added. Both calls and both references are read as this. -/

noncomputable section

namespace Cert.Row

open Idealize.ShloMosaic

/-- A row times a matrix. -/
def prod {n k : ℕ} (v : Fin n → EReal) (w : Fin n → Fin k → EReal) (j : Fin k) : EReal := ∑ a : Fin n, v a * w a j

/-- A row divided by the root of its mean square (a small constant added) and scaled by the gain. -/
def normed (h γ : Fin 1024 → EReal) (a : Fin 1024) : EReal :=
  h a * Ideal.rsqrt (Ideal.div (∑ b : Fin 1024, h b * h b) (Ideal.ofBits .f32 0x44800000#32) + Ideal.ofBits .f32 0x358637BD#32) * γ a

/-- The gated activation of a normalised row. -/
def act (n : Fin 1024 → EReal) (g u : Fin 1024 → Fin 2816 → EReal) (k : Fin 2816) : EReal :=
  prod n g k * Ideal.logistic (prod n g k) * prod n u k

/-- The row with half the feed-forward step added. -/
def half (h γ : Fin 1024 → EReal) (g u : Fin 1024 → Fin 2816 → EReal) (d : Fin 2816 → Fin 1024 → EReal) (j : Fin 1024) : EReal :=
  h j + Ideal.ofBits .f32 0x3F000000#32 * prod (act (normed h γ) g u) d j

/-- A residual row with the projection of the two mixers' rows added. -/
def mixed (h : Fin 1024 → EReal) (a b : Fin 512 → EReal) (o : Fin 1024 → Fin 1024 → EReal) (j : Fin 1024) : EReal :=
  h j + ∑ k : Fin 512, a k * o ⟨k.val, by omega⟩ j + ∑ k : Fin 512, b k * o ⟨512 + k.val, by omega⟩ j

end Cert.Row

end
-- ==== Proof.Mix.Pure.lean ====
module

public import proofs.«01_k».proof.Proof.Mix.Tail
public import proofs.«01_k».proof.Proof.Row.Basic

@[expose] public section

set_option maxRecDepth 16384

/-! The output block of the body, row by row, over the extended reals. -/

noncomputable section

namespace Cert.KernelIdeal.Hand

open Cert.KernelIdeal.Gen
open Idealize.ShloMosaic Idealize.ShloMosaic.TcCoe

/-- The residual rows with the projections added, row by row. -/
theorem hid_apply (x0 : Vec Ideal S512x1024 .f32) (x1 x2 : Vec Ideal S512x512 .bf16) (o : Vec Ideal S1024x1024 .bf16) (r : Fin 512) (j : Fin 1024) :
    hid (F := Ideal) x0 x1 x2 o (ix2 r j)
      = Row.mixed (fun a => x0 (ix2 r a)) (fun a => x1 (ix2 r a)) (fun a => x2 (ix2 r a)) (fun a b => o (ix2 a b)) j := by
  unfold Row.mixed
  pointwise [hid, k0_pay26]

/-- The normalised rows. -/
theorem nrm_apply (x0 : Vec Ideal S512x1024 .f32) (x1 x2 : Vec Ideal S512x512 .bf16) (x3 : Vec Ideal S1x1024 .f32) (o : Vec Ideal S1024x1024 .bf16) (r : Fin 512) (j : Fin 1024) :
    nrm (F := Ideal) x0 x1 x2 x3 o (ix2 r j)
      = Row.normed (fun a => hid (F := Ideal) x0 x1 x2 o (ix2 r a)) (fun a => x3 (ix2 0 a)) j := by
  unfold Row.normed hid nrm k0_pay27
  generalize k0_pay26 (F := Ideal) _ _ _ _ _ = y
  pointwise []

/-- The activation, row by row. -/
theorem actv_apply (n : FVec Ideal S512x1024 .bf16) (g u : Vec Ideal S1024x2816 .bf16) (r : Fin 512) (k : Fin 2816) :
    actv (F := Ideal) n g u (ix2 r k) = Row.act (fun a => n (ix2 r a)) (fun a b => g (ix2 a b)) (fun a b => u (ix2 a b)) k := by
  have hc : ∀ (w : Vec Ideal S1024x2816 .bf16) (a : Fin 1024), cols (F := Ideal) w ⟨k.val / 256, by omega⟩ (ix2 a ⟨k.val % 256, Nat.mod_lt _ (by omega)⟩) = w (ix2 a k) := fun w a =>
    congrArg w (Shape.idx_ext₂ rfl (by show 256 * (k.val / 256) + k.val % 256 = k.val; omega))
  have e : actv (F := Ideal) n g u (ix2 r k)
      = k0_pay29 (F := Ideal) n (cols g ⟨k.val / 256, by omega⟩) n (cols u ⟨k.val / 256, by omega⟩) (ix2 r ⟨k.val % 256, Nat.mod_lt _ (by omega)⟩) := by
    unfold actv
    exact congrArg (k0_pay29 (F := Ideal) n (cols g ⟨k.val / 256, by omega⟩) n (cols u ⟨k.val / 256, by omega⟩)) (Shape.idx_ext₂ rfl rfl)
  rw [e]
  unfold Row.act Row.prod
  simp only [← hc]
  generalize cols (F := Ideal) g _ = g'
  generalize cols (F := Ideal) u _ = u'
  pointwise [k0_pay29]

/-- The output block, row by row. -/
theorem outv_apply (x0 : Vec Ideal S512x1024 .f32) (x1 x2 : Vec Ideal S512x512 .bf16) (x3 : Vec Ideal S1x1024 .f32)
    (g u : Vec Ideal S1024x2816 .bf16) (d : Vec Ideal S2816x1024 .bf16) (o : Vec Ideal S1024x1024 .bf16) (r : Fin 512) (j : Fin 1024) :
    outv (F := Ideal) x0 x1 x2 x3 g u d o (ix2 r j)
      = Row.half (Row.mixed (fun a => x0 (ix2 r a)) (fun a => x1 (ix2 r a)) (fun a => x2 (ix2 r a)) (fun a b => o (ix2 a b)))
          (fun a => x3 (ix2 0 a)) (fun a b => g (ix2 a b)) (fun a b => u (ix2 a b)) (fun a b => d (ix2 a b)) j := by
  have e : outv (F := Ideal) x0 x1 x2 x3 g u d o (ix2 r j)
      = hid (F := Ideal) x0 x1 x2 o (ix2 r j) + Ideal.ofBits .f32 0x3F000000#32
          * Row.prod (fun k => actv (F := Ideal) (nrm x0 x1 x2 x3 o) g u (ix2 r k)) (fun a b => d (ix2 a b)) j := by
    unfold outv Row.prod
    generalize hid (F := Ideal) x0 x1 x2 o = y
    generalize actv (F := Ideal) _ _ _ = z
    pointwise [k0_pay1]
  rw [e]
  simp only [actv_apply, nrm_apply, hid_apply]
  rfl

end Cert.KernelIdeal.Hand

end
-- ==== Proof.Mix.Ref.lean ====
module

public import proofs.«01_k».proof.Proof.Gen.ReferenceIdeal.Read
public import proofs.«01_k».proof.Proof.Row.Basic

@[expose] public section

set_option maxRecDepth 16384

/-! What the reference of the last call computes, row by row, over the extended reals. -/

noncomputable section

namespace Cert.ReferenceIdeal.Hand

open Cert.ReferenceIdeal Cert.ReferenceIdeal.Gen Cert.ReferenceIdeal.Read
open Idealize.ShloMosaic Idealize.ShloMosaic.TcCoe

/-- The residual rows with the projection added. -/
theorem v5_apply (x0 : (⟨S2x8320x1024, .f32⟩ : BufTy).Contents (Elt Ideal)) (x1 : (⟨S2x8320x512, .bf16⟩ : BufTy).Contents (Elt Ideal)) (x2 : (⟨S2x8320x512, .bf16⟩ : BufTy).Contents (Elt Ideal)) (x3 : (⟨S1x1024x1024, .f32⟩ : BufTy).Contents (Elt Ideal)) (b : Fin 2) (s : Fin 8320) (j : Fin 1024) :
    val_main_v5 (F := Ideal) x0 x1 x2 x3 (ix3 b s j)
      = Row.mixed (fun a => x0 (ix3 b s a)) (fun a => x1 (ix3 b s a)) (fun a => x2 (ix3 b s a)) (fun a c => x3 (ix3 0 a c)) j := by
  unfold Row.mixed
  rw [add_assoc]
  pointwise [val_main_v5, val_main_v4, val_main_v3, val_main_v2, val_main_v1, val_main_v0, Value.fn_main_v2]

/-- The normalised rows. -/
theorem v19_apply (x0 : (⟨S2x8320x1024, .f32⟩ : BufTy).Contents (Elt Ideal)) (x1 : (⟨S2x8320x512, .bf16⟩ : BufTy).Contents (Elt Ideal)) (x2 : (⟨S2x8320x512, .bf16⟩ : BufTy).Contents (Elt Ideal)) (x3 : (⟨S1x1024x1024, .f32⟩ : BufTy).Contents (Elt Ideal)) (x4 : (⟨S1x1024, .f32⟩ : BufTy).Contents (Elt Ideal)) (b : Fin 2) (s : Fin 8320) (j : Fin 1024) :
    val_main_v19 (F := Ideal) x0 x1 x2 x3 x4 (ix3 b s j)
      = Row.normed (fun a => val_main_v5 (F := Ideal) x0 x1 x2 x3 (ix3 b s a)) (fun a => x4 (ix2 0 a)) j := by
  unfold val_main_v19 val_main_v16 val_main_v15 val_main_v14 val_main_v13 val_main_v11 val_main_v9 val_main_v8 val_main_v7 Row.normed
  generalize val_main_v5 (F := Ideal) x0 x1 x2 x3 = y
  pointwise [val_main_v18, val_main_v17, val_main_v6, val_main_v12, val_main_v10, val_main_cst, val_main_cst_0, val_main_cst_1]

/-- The gated activation. -/
theorem v26_apply (x0 : (⟨S2x8320x1024, .f32⟩ : BufTy).Contents (Elt Ideal)) (x1 : (⟨S2x8320x512, .bf16⟩ : BufTy).Contents (Elt Ideal)) (x2 : (⟨S2x8320x512, .bf16⟩ : BufTy).Contents (Elt Ideal)) (x3 : (⟨S1x1024x1024, .f32⟩ : BufTy).Contents (Elt Ideal)) (x4 : (⟨S1x1024, .f32⟩ : BufTy).Contents (Elt Ideal)) (x5 : (⟨S1x1024x2816, .f32⟩ : BufTy).Contents (Elt Ideal)) (x6 : (⟨S1x1024x2816, .f32⟩ : BufTy).Contents (Elt Ideal)) (b : Fin 2) (s : Fin 8320) (k : Fin 2816) :
    val_main_v26 (F := Ideal) x0 x1 x2 x3 x4 x5 x6 (ix3 b s k)
      = Row.act (fun a => val_main_v19 (F := Ideal) x0 x1 x2 x3 x4 (ix3 b s a)) (fun a c => x5 (ix3 0 a c)) (fun a c => x6 (ix3 0 a c)) k := by
  unfold val_main_v26 val_main_v25 val_main_v24 val_main_call0_v5 val_main_call0_v3 val_main_call0_v1 val_main_call0_v0 val_main_v23 Row.act Row.prod Ideal.logistic
  generalize val_main_v19 (F := Ideal) x0 x1 x2 x3 x4 = y
  pointwise [val_main_call0_v4, val_main_call0_v2, val_main_call0_cst, val_main_call0_cst_0, val_main_v20, val_main_v21]

/-- The rows with half the feed-forward step added. -/
theorem v30_apply (x0 : (⟨S2x8320x1024, .f32⟩ : BufTy).Contents (Elt Ideal)) (x1 : (⟨S2x8320x512, .bf16⟩ : BufTy).Contents (Elt Ideal)) (x2 : (⟨S2x8320x512, .bf16⟩ : BufTy).Contents (Elt Ideal)) (x3 : (⟨S1x1024x1024, .f32⟩ : BufTy).Contents (Elt Ideal)) (x4 : (⟨S1x1024, .f32⟩ : BufTy).Contents (Elt Ideal)) (x5 : (⟨S1x1024x2816, .f32⟩ : BufTy).Contents (Elt Ideal)) (x6 : (⟨S1x1024x2816, .f32⟩ : BufTy).Contents (Elt Ideal)) (x7 : (⟨S1x2816x1024, .f32⟩ : BufTy).Contents (Elt Ideal)) (b : Fin 2) (s : Fin 8320) (j : Fin 1024) :
    val_main_v30 (F := Ideal) x0 x1 x2 x3 x4 x5 x6 x7 (ix3 b s j)
      = Row.half (Row.mixed (fun a => x0 (ix3 b s a)) (fun a => x1 (ix3 b s a)) (fun a => x2 (ix3 b s a)) (fun a c => x3 (ix3 0 a c)))
          (fun a => x4 (ix2 0 a)) (fun a c => x5 (ix3 0 a c)) (fun a c => x6 (ix3 0 a c)) (fun a c => x7 (ix3 0 a c)) j := by
  have e : val_main_v30 (F := Ideal) x0 x1 x2 x3 x4 x5 x6 x7 (ix3 b s j)
      = val_main_v5 (F := Ideal) x0 x1 x2 x3 (ix3 b s j) + Ideal.ofBits .f32 0x3F000000#32
          * Row.prod (fun k => val_main_v26 (F := Ideal) x0 x1 x2 x3 x4 x5 x6 (ix3 b s k)) (fun a c => x7 (ix3 0 a c)) j := by
    unfold val_main_v30 val_main_v29 val_main_v27 Row.prod
    generalize val_main_v5 (F := Ideal) x0 x1 x2 x3 = y
    generalize val_main_v26 (F := Ideal) x0 x1 x2 x3 x4 x5 x6 = z
    pointwise [val_main_v28, val_main_cst_2, val_main_v22]
  rw [e]
  simp only [v26_apply, v19_apply, v5_apply]
  rfl

/-- The result: row `8192 b + s` is row `16 + s` of batch entry `b`. -/
theorem v32_apply (x0 : (⟨S2x8320x1024, .f32⟩ : BufTy).Contents (Elt Ideal)) (x1 : (⟨S2x8320x512, .bf16⟩ : BufTy).Contents (Elt Ideal)) (x2 : (⟨S2x8320x512, .bf16⟩ : BufTy).Contents (Elt Ideal)) (x3 : (⟨S1x1024x1024, .f32⟩ : BufTy).Contents (Elt Ideal)) (x4 : (⟨S1x1024, .f32⟩ : BufTy).Contents (Elt Ideal)) (x5 : (⟨S1x1024x2816, .f32⟩ : BufTy).Contents (Elt Ideal)) (x6 : (⟨S1x1024x2816, .f32⟩ : BufTy).Contents (Elt Ideal)) (x7 : (⟨S1x2816x1024, .f32⟩ : BufTy).Contents (Elt Ideal)) (r : Fin 16384) (j : Fin 1024) (b : Fin 2) (s : Fin 8320) (hb : b.val = r.val / 8192) (hs : s.val = 16 + r.val % 8192) :
    val_main_v32 (F := Ideal) x0 x1 x2 x3 x4 x5 x6 x7 (ix2 r j)
      = Row.half (Row.mixed (fun a => x0 (ix3 b s a)) (fun a => x1 (ix3 b s a)) (fun a => x2 (ix3 b s a)) (fun a c => x3 (ix3 0 a c)))
          (fun a => x4 (ix2 0 a)) (fun a c => x5 (ix3 0 a c)) (fun a c => x6 (ix3 0 a c)) (fun a c => x7 (ix3 0 a c)) j := by
  rw [← v30_apply, val_main_v32_apply, val_main_v31_apply]
  refine congrArg _ (funext fun a => Fin.ext ?_)
  have hj := j.isLt
  match a with
  | ⟨0, _⟩ => show (r.val * 1024 + j.val) / 8388608 = b.val; omega
  | ⟨1, _⟩ => show 16 + (r.val * 1024 + j.val) / 1024 % 8192 = s.val; omega
  | ⟨2, _⟩ => show (r.val * 1024 + j.val) % 1024 = j.val; omega

end Cert.ReferenceIdeal.Hand

end
-- ==== Proof.Mix.Value.lean ====
module

public import proofs.«01_k».proof.Proof.Mix.Run
public import proofs.«01_k».proof.Proof.Mix.Pure
public import proofs.«01_k».proof.Proof.Mix.Ref
public import Idealize.ShloMosaic.Lib.Pipeline.ValueKit

@[expose] public section

set_option maxRecDepth 16384

/-! The result array of the run is the reference's. -/

noncomputable section

namespace Cert.KernelIdeal.Hand

open Cert.KernelIdeal.Gen
open Idealize.ShloMosaic Idealize.ShloMosaic.TcCoe Idealize.ShloMosaic.Tactic
open Idealize.SL Idealize.SL.RA Idealize.SL.Sem
open Idealize.ShloMosaic.Pipeline (Dat Cfg Window)

/-- Rows laid under one another: row `8320 b + s` is row `s` of batch entry `b`. -/
theorem flat1024 {α : Type} (x : S2x8320x1024.Idx → α) (q : Fin 16640) (a : Fin 1024) (b : Fin 2) (s : Fin 8320) (h : q.val = b.val * 8320 + s.val) :
    shapeCast S16640x1024 x shapeCasts_S2x8320x1024_S16640x1024 (ix2 q a) = x (ix3 b s a) := by
  refine shapeCast_apply x _ _ _ ?_
  rw [Shape.rowMajor_val_two, Shape.rowMajor_val_three]
  show (b.val * 8320 + s.val) * 1024 + a.val = q.val * 1024 + a.val
  rw [h]

/-- The same for rows of half the width. -/
theorem flat512 {α : Type} (x : S2x8320x512.Idx → α) (q : Fin 16640) (a : Fin 512) (b : Fin 2) (s : Fin 8320) (h : q.val = b.val * 8320 + s.val) :
    shapeCast S16640x512 x shapeCasts_S2x8320x512_S16640x512 (ix2 q a) = x (ix3 b s a) := by
  refine shapeCast_apply x _ _ _ ?_
  rw [Shape.rowMajor_val_two, Shape.rowMajor_val_three]
  show (b.val * 8320 + s.val) * 512 + a.val = q.val * 512 + a.val
  rw [h]

/-- A weight without its leading unit axis, at an index. -/
theorem drop1024x2816 {α : Type} (x : S1x1024x2816.Idx → α) (a : Fin 1024) (b : Fin 2816) :
    shapeCast S1024x2816 x (show S1x1024x2816.ShapeCasts S1024x2816 by decide) (ix2 a b) = x (ix3 0 a b) := by
  refine shapeCast_apply x _ _ _ ?_
  rw [Shape.rowMajor_val_two, Shape.rowMajor_val_three]
  show (0 * 1024 + a.val) * 2816 + b.val = a.val * 2816 + b.val
  omega

/-- A weight without its leading unit axis, at an index. -/
theorem drop2816x1024 {α : Type} (x : S1x2816x1024.Idx → α) (a : Fin 2816) (b : Fin 1024) :
    shapeCast S2816x1024 x (show S1x2816x1024.ShapeCasts S2816x1024 by decide) (ix2 a b) = x (ix3 0 a b) := by
  refine shapeCast_apply x _ _ _ ?_
  rw [Shape.rowMajor_val_two, Shape.rowMajor_val_three]
  show (0 * 2816 + a.val) * 1024 + b.val = a.val * 1024 + b.val
  omega

/-- A weight without its leading unit axis, at an index. -/
theorem drop1024x1024 {α : Type} (x : S1x1024x1024.Idx → α) (a : Fin 1024) (b : Fin 1024) :
    shapeCast S1024x1024 x (show S1x1024x1024.ShapeCasts S1024x1024 by decide) (ix2 a b) = x (ix3 0 a b) := by
  refine shapeCast_apply x _ _ _ ?_
  rw [Shape.rowMajor_val_two, Shape.rowMajor_val_three]
  show (0 * 1024 + a.val) * 1024 + b.val = a.val * 1024 + b.val
  omega

variable (m : (ℓ : Loc nD τ sig) → Buf (Elt Ideal) ℓ) (ρ : Dev nD → PrngReg)

/-- The residual stream the region finds is the argument laid flat. -/
theorem V_v0 (c : Dev nD) : (V m c main_v0 : Vec Ideal S16640x1024 .f32)
    = shapeCast S16640x1024 (m ((c : Thread nD τ).loc main_arg0) : Vec Ideal S2x8320x1024 .f32) shapeCasts_S2x8320x1024_S16640x1024 := by
  show StableHlo.after hostOps0 _ (Proc.devRef .tc main_v0) = _
  after_results
  rfl

/-- The first projected half, likewise. -/
theorem V_v2 (c : Dev nD) : (V m c main_v2 : Vec Ideal S16640x512 .bf16)
    = shapeCast S16640x512 (m ((c : Thread nD τ).loc main_arg1) : Vec Ideal S2x8320x512 .bf16) shapeCasts_S2x8320x512_S16640x512 := by
  show StableHlo.after hostOps0 _ (Proc.devRef .tc main_v2) = _
  after_results
  rfl

/-- The second projected half, likewise. -/
theorem V_v3 (c : Dev nD) : (V m c main_v3 : Vec Ideal S16640x512 .bf16)
    = shapeCast S16640x512 (m ((c : Thread nD τ).loc main_arg2) : Vec Ideal S2x8320x512 .bf16) shapeCasts_S2x8320x512_S16640x512 := by
  show StableHlo.after hostOps0 _ (Proc.devRef .tc main_v3) = _
  after_results
  rfl

/-- The norm's gain the region finds is the argument. -/
theorem V_v4 (c : Dev nD) : (V m c main_v4 : Vec Ideal S1x1024 .f32) = (m ((c : Thread nD τ).loc main_arg4) : Vec Ideal S1x1024 .f32) := by
  have e : (V m c main_v4 : Vec Ideal S1x1024 .f32) = shapeCast S1x1024 (shapeCast S1024 (m ((c : Thread nD τ).loc main_arg4) : Vec Ideal S1x1024 .f32) shapeCasts_S1x1024_S1024) shapeCasts_S1024_S1x1024 := by
    show StableHlo.after hostOps0 _ (Proc.devRef .tc main_v4) = _
    after_results
    rfl
  rw [e, shapeCast_shapeCast]

/-! Where the windows lie at each point. -/

/-- Window 0's place at a point. -/
theorem idx0 : ∀ t : Fin cfg0.N, win0_0.index t = ![t.val / 16 * 8320 + 16 + t.val % 16 * 512, 0] :=
  (by decide +kernel : ∀ t : Fin grid0.N, _)

/-- Window 1's place at a point. -/
theorem idx1 : ∀ t : Fin cfg0.N, win0_1.index t = ![t.val / 16 * 8320 + 16 + t.val % 16 * 512, 0] :=
  (by decide +kernel : ∀ t : Fin grid0.N, _)

/-- Window 2's place at a point. -/
theorem idx2 : ∀ t : Fin cfg0.N, win0_2.index t = ![t.val / 16 * 8320 + 16 + t.val % 16 * 512, 0] :=
  (by decide +kernel : ∀ t : Fin grid0.N, _)

/-- Window 3's place at a point. -/
theorem idx3 : ∀ t : Fin cfg0.N, win0_3.index t = ![0, 0] :=
  (by decide +kernel : ∀ t : Fin grid0.N, _)

/-- Window 4's place at a point. -/
theorem idx4 : ∀ t : Fin cfg0.N, win0_4.index t = ![t.val, 0] :=
  (by decide +kernel : ∀ t : Fin grid0.N, _)

/-- The rows of argument 0 the body meets at a point. -/
theorem iblk0_apply (c : Dev nD) (t : Fin cfg0.N) (r : Fin 512) (a : Fin 1024) (b : Fin 2) (s : Fin 8320)
    (hb : b.val = t.val / 16) (hs : s.val = 16 + t.val % 16 * 512 + r.val) :
    (iblk m c 0 t : Vec Ideal S512x1024 .f32) (ix2 r a) = (m ((c : Thread nD τ).loc main_arg0) : Vec Ideal S2x8320x1024 .f32) (ix3 b s a) := by
  refine Eq.trans ?_ ((congrFun (V_v0 m c) (ix2 ⟨b.val * 8320 + s.val, by omega⟩ a)).trans (flat1024 _ _ a b s rfl))
  show (V m c main_v0 : Vec Ideal S16640x1024 .f32) ((win0_0.rect t).emb (ix2 r a)) = _
  refine congrArg (V m c main_v0 : Vec Ideal S16640x1024 .f32) (funext fun k => Fin.ext ?_)
  rw [Window.rect_emb_val_off, idx0]
  match k with
  | ⟨0, _⟩ => show (t.val / 16 * 8320 + 16 + t.val % 16 * 512) + r.val = b.val * 8320 + s.val; omega
  | ⟨1, _⟩ => exact Nat.zero_add _

/-- The rows of argument 1 the body meets at a point. -/
theorem iblk1_apply (c : Dev nD) (t : Fin cfg0.N) (r : Fin 512) (a : Fin 512) (b : Fin 2) (s : Fin 8320)
    (hb : b.val = t.val / 16) (hs : s.val = 16 + t.val % 16 * 512 + r.val) :
    (iblk m c 1 t : Vec Ideal S512x512 .bf16) (ix2 r a) = (m ((c : Thread nD τ).loc main_arg1) : Vec Ideal S2x8320x512 .bf16) (ix3 b s a) := by
  refine Eq.trans ?_ ((congrFun (V_v2 m c) (ix2 ⟨b.val * 8320 + s.val, by omega⟩ a)).trans (flat512 _ _ a b s rfl))
  show (V m c main_v2 : Vec Ideal S16640x512 .bf16) ((win0_1.rect t).emb (ix2 r a)) = _
  refine congrArg (V m c main_v2 : Vec Ideal S16640x512 .bf16) (funext fun k => Fin.ext ?_)
  rw [Window.rect_emb_val_off, idx1]
  match k with
  | ⟨0, _⟩ => show (t.val / 16 * 8320 + 16 + t.val % 16 * 512) + r.val = b.val * 8320 + s.val; omega
  | ⟨1, _⟩ => exact Nat.zero_add _

/-- The rows of argument 2 the body meets at a point. -/
theorem iblk2_apply (c : Dev nD) (t : Fin cfg0.N) (r : Fin 512) (a : Fin 512) (b : Fin 2) (s : Fin 8320)
    (hb : b.val = t.val / 16) (hs : s.val = 16 + t.val % 16 * 512 + r.val) :
    (iblk m c 2 t : Vec Ideal S512x512 .bf16) (ix2 r a) = (m ((c : Thread nD τ).loc main_arg2) : Vec Ideal S2x8320x512 .bf16) (ix3 b s a) := by
  refine Eq.trans ?_ ((congrFun (V_v3 m c) (ix2 ⟨b.val * 8320 + s.val, by omega⟩ a)).trans (flat512 _ _ a b s rfl))
  show (V m c main_v3 : Vec Ideal S16640x512 .bf16) ((win0_2.rect t).emb (ix2 r a)) = _
  refine congrArg (V m c main_v3 : Vec Ideal S16640x512 .bf16) (funext fun k => Fin.ext ?_)
  rw [Window.rect_emb_val_off, idx2]
  match k with
  | ⟨0, _⟩ => show (t.val / 16 * 8320 + 16 + t.val % 16 * 512) + r.val = b.val * 8320 + s.val; omega
  | ⟨1, _⟩ => exact Nat.zero_add _

/-- The gain the body meets. -/
theorem iblk3_apply (c : Dev nD) (t : Fin cfg0.N) (a : Fin 1024) :
    (iblk m c 3 t : Vec Ideal S1x1024 .f32) (ix2 0 a) = (m ((c : Thread nD τ).loc main_arg4) : Vec Ideal S1x1024 .f32) (ix2 0 a) := by
  refine Eq.trans ?_ (congrFun (V_v4 m c) (ix2 0 a))
  show (V m c main_v4 : Vec Ideal S1x1024 .f32) ((win0_3.rect t).emb (ix2 0 a)) = _
  refine congrArg (V m c main_v4 : Vec Ideal S1x1024 .f32) (funext fun k => Fin.ext ?_)
  rw [Window.rect_emb_val win0_3, idx3]
  match k with
  | ⟨0, _⟩ => rfl
  | ⟨1, _⟩ => show 0 * 1024 + a.val = a.val; omega

/-- The gate weight in scratch is the argument's. -/
theorem wg_apply (c : Dev nD) (a : Fin 1024) (b : Fin 2816) :
    wg16 (F := Ideal) c (V m c main_arg5) (ix2 a b) = (m ((c : Thread nD τ).loc main_arg5) : Vec Ideal S1x1024x2816 .f32) (ix3 0 a b) := by
  rw [V_main_arg5 m c]
  generalize (m ((c : Thread nD τ).loc main_arg5) : Vec Ideal S1x1024x2816 .f32) = f
  show wg32 (F := Ideal) c f (ix2 a b) = f (ix3 0 a b)
  refine Eq.trans ?_ (drop1024x2816 (f : Vec Ideal S1x1024x2816 .f32) a b)
  refine congrArg (f : Vec Ideal S1x1024x2816 .f32) (funext fun k => Fin.ext ?_)
  refine (ValueKit.rect_emb_unit_val (s := S1x1024x2816) ![0, 0, 0] S1x1024x2816.size inb_S1x1024x2816_S1x1024x2816_0_0_0 _ k).trans ?_
  match k with
  | ⟨0, _⟩ => exact Nat.zero_add _
  | ⟨1, _⟩ => exact Nat.zero_add _
  | ⟨2, _⟩ => exact Nat.zero_add _

/-- The up weight in scratch is the argument's. -/
theorem wu_apply (c : Dev nD) (a : Fin 1024) (b : Fin 2816) :
    wu16 (F := Ideal) c (V m c main_arg6) (ix2 a b) = (m ((c : Thread nD τ).loc main_arg6) : Vec Ideal S1x1024x2816 .f32) (ix3 0 a b) := by
  rw [V_main_arg6 m c]
  generalize (m ((c : Thread nD τ).loc main_arg6) : Vec Ideal S1x1024x2816 .f32) = f
  show wu32 (F := Ideal) c f (ix2 a b) = f (ix3 0 a b)
  refine Eq.trans ?_ (drop1024x2816 (f : Vec Ideal S1x1024x2816 .f32) a b)
  refine congrArg (f : Vec Ideal S1x1024x2816 .f32) (funext fun k => Fin.ext ?_)
  refine (ValueKit.rect_emb_unit_val (s := S1x1024x2816) ![0, 0, 0] S1x1024x2816.size inb_S1x1024x2816_S1x1024x2816_0_0_0 _ k).trans ?_
  match k with
  | ⟨0, _⟩ => exact Nat.zero_add _
  | ⟨1, _⟩ => exact Nat.zero_add _
  | ⟨2, _⟩ => exact Nat.zero_add _

/-- The down weight in scratch is the argument's. -/
theorem wd_apply (c : Dev nD) (a : Fin 2816) (b : Fin 1024) :
    wd16 (F := Ideal) c (V m c main_arg7) (ix2 a b) = (m ((c : Thread nD τ).loc main_arg7) : Vec Ideal S1x2816x1024 .f32) (ix3 0 a b) := by
  rw [V_main_arg7 m c]
  generalize (m ((c : Thread nD τ).loc main_arg7) : Vec Ideal S1x2816x1024 .f32) = f
  show wd32 (F := Ideal) c f (ix2 a b) = f (ix3 0 a b)
  refine Eq.trans ?_ (drop2816x1024 (f : Vec Ideal S1x2816x1024 .f32) a b)
  refine congrArg (f : Vec Ideal S1x2816x1024 .f32) (funext fun k => Fin.ext ?_)
  refine (ValueKit.rect_emb_unit_val (s := S1x2816x1024) ![0, 0, 0] S1x2816x1024.size inb_S1x2816x1024_S1x2816x1024_0_0_0 _ k).trans ?_
  match k with
  | ⟨0, _⟩ => exact Nat.zero_add _
  | ⟨1, _⟩ => exact Nat.zero_add _
  | ⟨2, _⟩ => exact Nat.zero_add _

/-- The output weight in scratch is the argument's. -/
theorem wo_apply (c : Dev nD) (a : Fin 1024) (b : Fin 1024) :
    wo16 (F := Ideal) c (V m c main_arg3) (ix2 a b) = (m ((c : Thread nD τ).loc main_arg3) : Vec Ideal S1x1024x1024 .f32) (ix3 0 a b) := by
  rw [V_main_arg3 m c]
  generalize (m ((c : Thread nD τ).loc main_arg3) : Vec Ideal S1x1024x1024 .f32) = f
  show wo32 (F := Ideal) c f (ix2 a b) = f (ix3 0 a b)
  refine Eq.trans ?_ (drop1024x1024 (f : Vec Ideal S1x1024x1024 .f32) a b)
  refine congrArg (f : Vec Ideal S1x1024x1024 .f32) (funext fun k => Fin.ext ?_)
  refine (ValueKit.rect_emb_unit_val (s := S1x1024x1024) ![0, 0, 0] S1x1024x1024.size inb_S1x1024x1024_S1x1024x1024_0_0_0 _ k).trans ?_
  match k with
  | ⟨0, _⟩ => exact Nat.zero_add _
  | ⟨1, _⟩ => exact Nat.zero_add _
  | ⟨2, _⟩ => exact Nat.zero_add _

/-- What the reference computes of the launch's arguments. -/
def outG (c : Dev nD) : Vec Ideal S16384x1024 .f32 :=
  Cert.ReferenceIdeal.Read.val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- A row of the block left at a point is the reference's row. -/
theorem outB_apply (c : Dev nD) (t : Fin cfg0.N) (r : Fin 512) (j : Fin 1024) (q : Fin 16384) (hq : q.val = 512 * t.val + r.val) :
    outB m c t (ix2 r j) = outG m c (ix2 q j) := by
  have ht : t.val < 32 := lt_of_lt_of_eq t.isLt (show cfg0.N = 32 from N_0)
  have hr := r.isLt
  unfold outB outG
  rw [outv_apply, Cert.ReferenceIdeal.Hand.v32_apply _ _ _ _ _ _ _ _ q j ⟨q.val / 8192, by omega⟩ ⟨16 + q.val % 8192, by omega⟩ rfl rfl]
  have e0 := fun a => iblk0_apply m c t r a ⟨q.val / 8192, by omega⟩ ⟨16 + q.val % 8192, by omega⟩ (by show q.val / 8192 = _; omega) (by show 16 + q.val % 8192 = _; omega)
  have e1 := fun a => iblk1_apply m c t r a ⟨q.val / 8192, by omega⟩ ⟨16 + q.val % 8192, by omega⟩ (by show q.val / 8192 = _; omega) (by show 16 + q.val % 8192 = _; omega)
  have e2 := fun a => iblk2_apply m c t r a ⟨q.val / 8192, by omega⟩ ⟨16 + q.val % 8192, by omega⟩ (by show q.val / 8192 = _; omega) (by show 16 + q.val % 8192 = _; omega)
  have e3 := iblk3_apply m c t
  have eg := wg_apply m c
  have eu := wu_apply m c
  have ed := wd_apply m c
  have eo := wo_apply m c
  rw [show (fun a => (iblk m c 0 t : Vec Ideal S512x1024 .f32) (ix2 r a)) = _ from funext e0,
    show (fun a => (iblk m c 1 t : Vec Ideal S512x512 .bf16) (ix2 r a)) = _ from funext e1,
    show (fun a => (iblk m c 2 t : Vec Ideal S512x512 .bf16) (ix2 r a)) = _ from funext e2,
    show (fun a => (iblk m c 3 t : Vec Ideal S1x1024 .f32) (ix2 0 a)) = _ from funext e3,
    show (fun a b => wg16 (F := Ideal) c (V m c main_arg5) (ix2 a b)) = _ from funext fun a => funext (eg a),
    show (fun a b => wu16 (F := Ideal) c (V m c main_arg6) (ix2 a b)) = _ from funext fun a => funext (eu a),
    show (fun a b => wd16 (F := Ideal) c (V m c main_arg7) (ix2 a b)) = _ from funext fun a => funext (ed a),
    show (fun a b => wo16 (F := Ideal) c (V m c main_arg3) (ix2 a b)) = _ from funext fun a => funext (eo a)]

/-- The result array after every write-back. -/
theorem final (c : Dev nD) : (dats m 0 c).arrAt 4 cfg0.N = outG m c := by
  refine (dats m 0 c).arrAt_eq_of_covers 4 _ (by decide +kernel) fun t hf y => ?_
  have ht : t.val < 32 := lt_of_lt_of_eq t.isLt (show cfg0.N = 32 from N_0)
  rw [after0_4]
  have hy0 : (y 0).val < 512 := (y 0).isLt
  show outB m c t y = outG m c ((win0_4.rect t).emb y)
  have ey : y = ix2 (y 0) (y 1) := Shape.idx_ext₂ rfl rfl
  have ee : (win0_4.rect t).emb y = ix2 (⟨512 * t.val + (y 0).val, by omega⟩ : Fin 16384) (y 1) := by
    refine funext fun k => Fin.ext ?_
    rw [Window.rect_emb_val win0_4, idx4]
    match k with
    | ⟨0, _⟩ => show t.val * 512 + (y 0).val = 512 * t.val + (y 0).val; omega
    | ⟨1, _⟩ => show 0 * 1024 + (y 1).val = (y 1).val; omega
  rw [ee]
  exact (congrArg (outB m c t) ey).trans (outB_apply m c t (y 0) (y 1) _ rfl)

/-- The launch with its result named: the reference's value, the arguments unchanged. -/
theorem run_value : θ_run defs (onTc (τ := τ) (main (F := Ideal))) ⟨m, fun _ => 0, ρ⟩ (fun r => ∀ c : Dev nD,
      r.2.mem ((c.tc : Thread nD τ).loc main_v5) = outG m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h.1 c).1 4).trans (final m c), h.2.1 c⟩)
    (θ_run_and ((θ_run defs _ _).mono (fun _ h => h.1) (run_main m ρ)) (frame_quiet m ρ))

end Cert.KernelIdeal.Hand

end
-- ==== Proof.Pre.Kit.lean ====
module

public import proofs.«01_k».proof.Proof.Gen.Kernel2Ideal.Frame
public import proofs.«01_k».proof.Proof.Gen.Kernel2Ideal.Skeleton

@[expose] public section

set_option maxRecDepth 16384

/-! The set-up of the first call's launch: names of the staging memrefs, the scratch, the arrays left in HBM and the
    body's own semaphores, and the invariant of the launch conjunct by conjunct. -/

noncomputable section

namespace Cert.Kernel2Ideal.Hand

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 800000 in
/-- The program up to its one region, for a proof whose body makes transfers of its own. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 26 = 0 :=
  (fun t => by
    have ht : t.val < 26 := Nat.lt_of_lt_of_eq t.isLt N_0
    have e0 : (grid0.coords t 0).val = t.val / 1 % 26 := Pipeline.Grid.coords_val t 0 (by decide) rfl
    simp only [cond0_0, e0]
    word_cmp
   : ∀ t : Fin grid0.N, cond0_0 (grid0.coords t) ↔ t.val % 26 = 0)

/-! ## The kernel body on any staging memrefs: a subtype the run finds -/

/-- Each window's current staging memref at point `t`, spelled as the pipeline passes it (`bodyAt0`), and its wholeness. -/
abbrev ms0_0 (t : Fin cfg0.N) : Memref sig .tc .vmem S640x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S640x1024 .f32 := win0_3.stage (cfg0.slots t 3)
abbrev hs0_3 (t : Fin cfg0.N) : (ms0_3 t).IsWhole := hstage0_3 ((cfg0.slots t 3).cast nbuf0_3)
/-- The scratch operands: whole scoped buffers of the kernel's own, passed beside the windows. -/
abbrev scM0_0 : Memref sig .tc .vmem S640x1024 .bf16 := Memref.whole cc0_scratch0
abbrev scM0_1 : Memref sig .tc .vmem S640x2816 .bf16 := Memref.whole cc0_scratch1
abbrev scM0_2 : Memref sig .tc .vmem S1024x2816 .bf16 := Memref.whole cc0_scratch2
abbrev scM0_3 : Memref sig .tc .vmem S1024x2816 .bf16 := Memref.whole cc0_scratch3
abbrev scM0_4 : Memref sig .tc .vmem S2816x1024 .bf16 := Memref.whole cc0_scratch4
abbrev scM0_5 : Memref sig .tc .vmem S2x256x2816 .f32 := Memref.whole cc0_scratch5
abbrev scM0_6 : Memref sig .tc .vmem S2x256x1024 .f32 := Memref.whole cc0_scratch6
/-- The scratch `arg10` the kernel carries between points, as a view: what it holds is stated through it. -/
abbrev VS0_2 : View sig .tc .vmem S1024x2816 .bf16 := scM0_2.view
/-- The scratch `arg11` the kernel carries between points, as a view: what it holds is stated through it. -/
abbrev VS0_3 : View sig .tc .vmem S1024x2816 .bf16 := scM0_3.view
/-- The operands left in HBM that the body copies into scratch itself, whole. -/
abbrev hbM0_0 : Memref sig .tc .hbm S1x1024x2816 .f32 := Memref.whole main_arg3
abbrev hbM0_1 : Memref sig .tc .hbm S1x1024x2816 .f32 := Memref.whole main_arg4
abbrev hbM0_2 : Memref sig .tc .hbm S1x2816x1024 .f32 := Memref.whole main_arg5
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 4 → SemLoc sig := fun j => (![SemLoc.dma 6, SemLoc.dma 7, SemLoc.dma 8, SemLoc.dma 9] : Fin 4 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0) := by
  rw [Pipeline.ownSems0_eq_of_list c osem0 [0, 1, 2, 3] (by decide) (by decide)]; rfl
/-- The HBM operands the body moves, as references: unscoped, no window's array (`Pipeline.restRefs`). -/
def H0 : Finset (Ref sig .tc) := {main_arg3, main_arg4, main_arg5}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_arg3) ∗ hbPt0 c hbM0_1 (V m c main_arg4) ∗ hbPt0 c hbM0_2 (V m c main_arg5)) := by
  rw [BI.bigSep_eq_bigSepL_of_eq [main_arg3, main_arg4, main_arg5] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r) ∗ iprop(semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0) ∗ iprop(hbPt0 c hbM0_0 (V m c main_arg3) ∗ hbPt0 c hbM0_1 (V m c main_arg4) ∗ hbPt0 c hbM0_2 (V m c main_arg5))) := by
  rw [Pipeline.ΦD_eq, scopedRest0_eq, ownSems00_eq, hbmPts0_eq]; simp only [scM0_0, scM0_1, scM0_2, scM0_3, scM0_4, scM0_5, scM0_6, owns_whole]; try rfl

end Cert.Kernel2Ideal.Hand

end
-- ==== Proof.Pre.Fetch.lean ====
module

public import proofs.«01_k».proof.Proof.Pre.Kit
public import proofs.«01_k».proof.Proof.Mix.Slab

@[expose] public section

set_option maxRecDepth 16384

/-! The first point's fetch of the weights, as a program of its own, and its run. -/

noncomputable section

namespace Cert.Kernel2Ideal.Hand

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- What the first point does before the rest of the body: every weight copied in slabs from HBM, narrowed and
    stored into its scratch. -/
def fetchP (i : grid0.Coords) (arg1 : Memref sig .tc .vmem S640x1024 .f32) (harg1 : arg1.IsWhole) (arg2 : Memref sig .tc .vmem S16x1024 .f32) (harg2 : arg2.IsWhole) (arg3 : Memref sig .tc .vmem S1x1024 .f32) (harg3 : arg3.IsWhole) (arg4 : Memref sig .tc .hbm S1x1024x2816 .f32) (harg4 : arg4.IsWhole) (arg5 : Memref sig .tc .hbm S1x1024x2816 .f32) (harg5 : arg5.IsWhole) (arg6 : Memref sig .tc .hbm S1x2816x1024 .f32) (harg6 : arg6.IsWhole) (arg7 : Memref sig .tc .vmem S640x1024 .f32) (harg7 : arg7.IsWhole) (arg8 : Memref sig .tc .vmem S640x1024 .bf16) (harg8 : arg8.IsWhole) (arg9 : Memref sig .tc .vmem S640x2816 .bf16) (harg9 : arg9.IsWhole) (arg10 : Memref sig .tc .vmem S1024x2816 .bf16) (harg10 : arg10.IsWhole) (arg11 : Memref sig .tc .vmem S1024x2816 .bf16) (harg11 : arg11.IsWhole) (arg12 : Memref sig .tc .vmem S2816x1024 .bf16) (harg12 : arg12.IsWhole) (arg13 : Memref sig .tc .vmem S2x256x2816 .f32) (harg13 : arg13.IsWhole) (arg14 : Memref sig .tc .vmem S2x256x1024 .f32) (harg14 : arg14.IsWhole) (arg15 : DmaSems sig S2) (arg16 : DmaSems sig S2) :
    Prog (TpuEff nD τ sig (Elt F) Λ₀ .tc) PUnit := do
  k0_part14 i arg1 harg1 arg2 harg2 arg3 harg3 arg4 harg4 arg5 harg5 arg6 harg6 arg7 harg7 arg8 harg8 arg9 harg9 arg10 harg10 arg11 harg11 arg12 harg12 arg13 harg13 arg14 harg14 arg15 arg16
  let v581 : Vec F S1x256x1024 .f32 ← Prog.lift (.load arg14 (Rect.unit (s := S2x256x1024) ![0, 0, 0] S1x256x1024.size inb_S2x256x1024_S1x256x1024_0_0_0).toLoadRect (View.loadsAt_vmem h_S1x256x1024))
  let v584 : Vec F S256x1024 .bf16 ← Prog.lift (.load arg12 (Rect.unit (s := S2816x1024) ![2560, 0] S256x1024.size inb_S2816x1024_S256x1024_2560_0).toLoadRect (View.loadsAt_vmem h_S256x1024))
  Prog.lift (.store arg12 (Rect.unit (s := S2816x1024) ![2560, 0] S256x1024.size inb_S2816x1024_S256x1024_2560_0) (k0_pay22 v581) Finset.univ (View.stores_vmem h_S256x1024 (harg12.storeExact_slice rfl _ packedbf16_S2816x1024_S256x1024_2560_0) (fun _ => rfl)) (.inl rfl))
  pure ⟨⟩

/-- What every point does once the weights are in scratch. -/
def restP (i : grid0.Coords) (arg1 : Memref sig .tc .vmem S640x1024 .f32) (harg1 : arg1.IsWhole) (arg2 : Memref sig .tc .vmem S16x1024 .f32) (harg2 : arg2.IsWhole) (arg3 : Memref sig .tc .vmem S1x1024 .f32) (harg3 : arg3.IsWhole) (arg4 : Memref sig .tc .hbm S1x1024x2816 .f32) (harg4 : arg4.IsWhole) (arg5 : Memref sig .tc .hbm S1x1024x2816 .f32) (harg5 : arg5.IsWhole) (arg6 : Memref sig .tc .hbm S1x2816x1024 .f32) (harg6 : arg6.IsWhole) (arg7 : Memref sig .tc .vmem S640x1024 .f32) (harg7 : arg7.IsWhole) (arg8 : Memref sig .tc .vmem S640x1024 .bf16) (harg8 : arg8.IsWhole) (arg9 : Memref sig .tc .vmem S640x2816 .bf16) (harg9 : arg9.IsWhole) (arg10 : Memref sig .tc .vmem S1024x2816 .bf16) (harg10 : arg10.IsWhole) (arg11 : Memref sig .tc .vmem S1024x2816 .bf16) (harg11 : arg11.IsWhole) (arg12 : Memref sig .tc .vmem S2816x1024 .bf16) (harg12 : arg12.IsWhole) (arg13 : Memref sig .tc .vmem S2x256x2816 .f32) (harg13 : arg13.IsWhole) (arg14 : Memref sig .tc .vmem S2x256x1024 .f32) (harg14 : arg14.IsWhole) (arg15 : DmaSems sig S2) (arg16 : DmaSems sig S2) :
    Prog (TpuEff nD τ sig (Elt F) Λ₀ .tc) PUnit := do
  let v13 : Vec F S640x1024 .f32 ← Prog.lift (.load arg1 (Rect.unit (s := S640x1024) ![0, 0] S640x1024.size inb_S640x1024_S640x1024_0_0).toLoadRect (View.loadsAt_vmem h_S640x1024))
  let v22 : Vec F S16x1024 .f32 ← Prog.lift (.load arg2 (Rect.unit (s := S16x1024) ![0, 0] S16x1024.size inb_S16x1024_S16x1024_0_0).toLoadRect (View.loadsAt_vmem h_S16x1024))
  let v68 : Vec F S640x1024 .bf16 ← k0_part16 i arg1 harg1 arg2 harg2 arg3 harg3 arg4 harg4 arg5 harg5 arg6 harg6 arg7 harg7 arg8 harg8 arg9 harg9 arg10 harg10 arg11 harg11 arg12 harg12 arg13 harg13 arg14 harg14 arg15 arg16 (k0_pay23 i v13 v22) (k0_pay24 i) (k0_pay25 (F := F))
  let ⟨v96, v97⟩ : Σ' (v96 : FVec F S640x256 .f32), Vec F S640x1024 .bf16 ← k0_part17 i arg1 harg1 arg2 harg2 arg3 harg3 arg4 harg4 arg5 harg5 arg6 harg6 arg7 harg7 arg8 harg8 arg9 harg9 arg10 harg10 arg11 harg11 arg12 harg12 arg13 harg13 arg14 harg14 arg15 arg16 v68
  let v128 : FVec F S640x256 .f32 ← k0_part18 i arg1 harg1 arg2 harg2 arg3 harg3 arg4 harg4 arg5 harg5 arg6 harg6 arg7 harg7 arg8 harg8 arg9 harg9 arg10 harg10 arg11 harg11 arg12 harg12 arg13 harg13 arg14 harg14 arg15 arg16 v96 v97
  k0_part19 i arg1 harg1 arg2 harg2 arg3 harg3 arg4 harg4 arg5 harg5 arg6 harg6 arg7 harg7 arg8 harg8 arg9 harg9 arg10 harg10 arg11 harg11 arg12 harg12 arg13 harg13 arg14 harg14 arg15 arg16 v128
  let v187 : FVec F S640x256 .f32 ← k0_part20 i arg1 harg1 arg2 harg2 arg3 harg3 arg4 harg4 arg5 harg5 arg6 harg6 arg7 harg7 arg8 harg8 arg9 harg9 arg10 harg10 arg11 harg11 arg12 harg12 arg13 harg13 arg14 harg14 arg15 arg16
  let v188 : Vec F S640x1024 .bf16 ← Prog.lift (.load arg8 (Rect.unit (s := S640x1024) ![0, 0] S640x1024.size inb_S640x1024_S640x1024_0_0).toLoadRect (View.loadsAt_vmem h_S640x1024))
  let v189 : Vec F S1024x256 .bf16 ← Prog.lift (.load arg11 (Rect.unit (s := S1024x2816) ![0, 2560] S1024x256.size inb_S1024x2816_S1024x256_0_2560).toLoadRect (View.loadsAt_vmem h_S1024x256))
  let v195 : Vec F S640x256 .bf16 ← Prog.lift (.load arg9 (Rect.unit (s := S640x2816) ![0, 2560] S640x256.size inb_S640x2816_S640x256_0_2560).toLoadRect (View.loadsAt_vmem h_S640x256))
  Prog.lift (.store arg9 (Rect.unit (s := S640x2816) ![0, 2560] S640x256.size inb_S640x2816_S640x256_0_2560) (k0_pay1 v187 v188 v189) Finset.univ (View.stores_vmem h_S640x256 (harg9.storeExact_slice rfl _ packedbf16_S640x2816_S640x256_0_2560) (fun _ => rfl)) (.inl rfl))
  let v198 : Vec F S640x1024 .f32 ← Prog.lift (.load arg7 (Rect.unit (s := S640x1024) ![0, 0] S640x1024.size inb_S640x1024_S640x1024_0_0).toLoadRect (View.loadsAt_vmem h_S640x1024))
  let v200 : Vec F S640x2816 .bf16 ← Prog.lift (.load arg9 (Rect.unit (s := S640x2816) ![0, 0] S640x2816.size inb_S640x2816_S640x2816_0_0).toLoadRect (View.loadsAt_vmem h_S640x2816))
  let v201 : Vec F S2816x1024 .bf16 ← Prog.lift (.load arg12 (Rect.unit (s := S2816x1024) ![0, 0] S2816x1024.size inb_S2816x1024_S2816x1024_0_0).toLoadRect (View.loadsAt_vmem h_S2816x1024))
  let v206 : Vec F S640x1024 .f32 ← Prog.lift (.load arg7 (Rect.unit (s := S640x1024) ![0, 0] S640x1024.size inb_S640x1024_S640x1024_0_0).toLoadRect (View.loadsAt_vmem h_S640x1024))
  Prog.lift (.store arg7 (Rect.unit (s := S640x1024) ![0, 0] S640x1024.size inb_S640x1024_S640x1024_0_0) (k0_pay2 v198 v200 v201) Finset.univ (View.stores_vmem_bits_univ h_S640x1024 rfl) (.inl rfl))
  pure ⟨⟩

/-- At the first point the body is the fetch, then the rest. -/
theorem body_first (i : grid0.Coords) (arg1 : Memref sig .tc .vmem S640x1024 .f32) (harg1 : arg1.IsWhole) (arg2 : Memref sig .tc .vmem S16x1024 .f32) (harg2 : arg2.IsWhole) (arg3 : Memref sig .tc .vmem S1x1024 .f32) (harg3 : arg3.IsWhole) (arg4 : Memref sig .tc .hbm S1x1024x2816 .f32) (harg4 : arg4.IsWhole) (arg5 : Memref sig .tc .hbm S1x1024x2816 .f32) (harg5 : arg5.IsWhole) (arg6 : Memref sig .tc .hbm S1x2816x1024 .f32) (harg6 : arg6.IsWhole) (arg7 : Memref sig .tc .vmem S640x1024 .f32) (harg7 : arg7.IsWhole) (arg8 : Memref sig .tc .vmem S640x1024 .bf16) (harg8 : arg8.IsWhole) (arg9 : Memref sig .tc .vmem S640x2816 .bf16) (harg9 : arg9.IsWhole) (arg10 : Memref sig .tc .vmem S1024x2816 .bf16) (harg10 : arg10.IsWhole) (arg11 : Memref sig .tc .vmem S1024x2816 .bf16) (harg11 : arg11.IsWhole) (arg12 : Memref sig .tc .vmem S2816x1024 .bf16) (harg12 : arg12.IsWhole) (arg13 : Memref sig .tc .vmem S2x256x2816 .f32) (harg13 : arg13.IsWhole) (arg14 : Memref sig .tc .vmem S2x256x1024 .f32) (harg14 : arg14.IsWhole) (arg15 : DmaSems sig S2) (arg16 : DmaSems sig S2) (hi : cond0_0 i) :
    cc0_ffn (F := F) i arg1 harg1 arg2 harg2 arg3 harg3 arg4 harg4 arg5 harg5 arg6 harg6 arg7 harg7 arg8 harg8 arg9 harg9 arg10 harg10 arg11 harg11 arg12 harg12 arg13 harg13 arg14 harg14 arg15 arg16 = (fetchP i arg1 harg1 arg2 harg2 arg3 harg3 arg4 harg4 arg5 harg5 arg6 harg6 arg7 harg7 arg8 harg8 arg9 harg9 arg10 harg10 arg11 harg11 arg12 harg12 arg13 harg13 arg14 harg14 arg15 arg16 >>= fun _ => restP i arg1 harg1 arg2 harg2 arg3 harg3 arg4 harg4 arg5 harg5 arg6 harg6 arg7 harg7 arg8 harg8 arg9 harg9 arg10 harg10 arg11 harg11 arg12 harg12 arg13 harg13 arg14 harg14 arg15 arg16) := by
  simp only [cc0_ffn_eq_skeleton]; unfold cc0_ffn_skel
  simp only [k0_part15_eq_skeleton]; unfold k0_part15_skel
  simp only [dif_pos hi]
  rfl

/-- At a later point it is the rest alone. -/
theorem body_later (i : grid0.Coords) (arg1 : Memref sig .tc .vmem S640x1024 .f32) (harg1 : arg1.IsWhole) (arg2 : Memref sig .tc .vmem S16x1024 .f32) (harg2 : arg2.IsWhole) (arg3 : Memref sig .tc .vmem S1x1024 .f32) (harg3 : arg3.IsWhole) (arg4 : Memref sig .tc .hbm S1x1024x2816 .f32) (harg4 : arg4.IsWhole) (arg5 : Memref sig .tc .hbm S1x1024x2816 .f32) (harg5 : arg5.IsWhole) (arg6 : Memref sig .tc .hbm S1x2816x1024 .f32) (harg6 : arg6.IsWhole) (arg7 : Memref sig .tc .vmem S640x1024 .f32) (harg7 : arg7.IsWhole) (arg8 : Memref sig .tc .vmem S640x1024 .bf16) (harg8 : arg8.IsWhole) (arg9 : Memref sig .tc .vmem S640x2816 .bf16) (harg9 : arg9.IsWhole) (arg10 : Memref sig .tc .vmem S1024x2816 .bf16) (harg10 : arg10.IsWhole) (arg11 : Memref sig .tc .vmem S1024x2816 .bf16) (harg11 : arg11.IsWhole) (arg12 : Memref sig .tc .vmem S2816x1024 .bf16) (harg12 : arg12.IsWhole) (arg13 : Memref sig .tc .vmem S2x256x2816 .f32) (harg13 : arg13.IsWhole) (arg14 : Memref sig .tc .vmem S2x256x1024 .f32) (harg14 : arg14.IsWhole) (arg15 : DmaSems sig S2) (arg16 : DmaSems sig S2) (hi : ¬cond0_0 i) :
    cc0_ffn (F := F) i arg1 harg1 arg2 harg2 arg3 harg3 arg4 harg4 arg5 harg5 arg6 harg6 arg7 harg7 arg8 harg8 arg9 harg9 arg10 harg10 arg11 harg11 arg12 harg12 arg13 harg13 arg14 harg14 arg15 arg16 = restP i arg1 harg1 arg2 harg2 arg3 harg3 arg4 harg4 arg5 harg5 arg6 harg6 arg7 harg7 arg8 harg8 arg9 harg9 arg10 harg10 arg11 harg11 arg12 harg12 arg13 harg13 arg14 harg14 arg15 arg16 := by
  simp only [cc0_ffn_eq_skeleton]; unfold cc0_ffn_skel
  simp only [k0_part15_eq_skeleton]; unfold k0_part15_skel
  simp only [dif_neg hi]
  rfl

/-- The gate weight as a matrix: the array the launch left in HBM without its leading unit axis. -/
def wg32 (c : Dev nD) (fh : HbBuf0 (F := F) c hbM0_0) : Vec F S1024x2816 .f32 :=
  ((hbM0_0.slice (Rect.unit (s := S1x1024x2816) ![0, 0, 0] S1x1024x2816.size inb_S1x1024x2816_S1x1024x2816_0_0_0) (fun _ => rfl)).squeeze S1024x2816 squeezes_S1x1024x2816_S1024x2816).view.read (Elt F) fh
/-- The gate weight narrowed: what its scratch holds from the first point on. -/
def wg16 (c : Dev nD) (fh : HbBuf0 (F := F) c hbM0_0) : Vec F S1024x2816 .bf16 :=
  truncf .bf16 (φ := .f32) (wg32 c fh) bitsLt_bf16_f32

/-- The up weight as a matrix: the array the launch left in HBM without its leading unit axis. -/
def wu32 (c : Dev nD) (fh : HbBuf0 (F := F) c hbM0_1) : Vec F S1024x2816 .f32 :=
  ((hbM0_1.slice (Rect.unit (s := S1x1024x2816) ![0, 0, 0] S1x1024x2816.size inb_S1x1024x2816_S1x1024x2816_0_0_0) (fun _ => rfl)).squeeze S1024x2816 squeezes_S1x1024x2816_S1024x2816).view.read (Elt F) fh
/-- The up weight narrowed: what its scratch holds from the first point on. -/
def wu16 (c : Dev nD) (fh : HbBuf0 (F := F) c hbM0_1) : Vec F S1024x2816 .bf16 :=
  truncf .bf16 (φ := .f32) (wu32 c fh) bitsLt_bf16_f32

/-- The down weight as a matrix: the array the launch left in HBM without its leading unit axis. -/
def wd32 (c : Dev nD) (fh : HbBuf0 (F := F) c hbM0_2) : Vec F S2816x1024 .f32 :=
  ((hbM0_2.slice (Rect.unit (s := S1x2816x1024) ![0, 0, 0] S1x2816x1024.size inb_S1x2816x1024_S1x2816x1024_0_0_0) (fun _ => rfl)).squeeze S2816x1024 squeezes_S1x2816x1024_S2816x1024).view.read (Elt F) fh
/-- The down weight narrowed: what its scratch holds from the first point on. -/
def wd16 (c : Dev nD) (fh : HbBuf0 (F := F) c hbM0_2) : Vec F S2816x1024 .bf16 :=
  truncf .bf16 (φ := .f32) (wd32 c fh) bitsLt_bf16_f32

set_option maxHeartbeats 20000000 in
set_option sl_exec.dmaWindow true in
set_option sl_exec.dmaWindowSet true in
/-- The fetch's run: from any contents of the weights' scratch and of the staging buffers, the three scratch buffers end at
    the weights narrowed, the arrays in HBM and the semaphores as they were. -/
theorem fetch_run (c : Dev nD) (i : grid0.Coords) (arg1 : Memref sig .tc .vmem S640x1024 .f32) (harg1 : arg1.IsWhole) (arg2 : Memref sig .tc .vmem S16x1024 .f32) (harg2 : arg2.IsWhole) (arg3 : Memref sig .tc .vmem S1x1024 .f32) (harg3 : arg3.IsWhole) (arg7 : Memref sig .tc .vmem S640x1024 .f32) (harg7 : arg7.IsWhole) (arg8 : Memref sig .tc .vmem S640x1024 .bf16) (harg8 : arg8.IsWhole) (arg9 : Memref sig .tc .vmem S640x2816 .bf16) (harg9 : arg9.IsWhole) (arg10 : Memref sig .tc .vmem S1024x2816 .bf16) (harg10 : arg10.IsWhole) (arg11 : Memref sig .tc .vmem S1024x2816 .bf16) (harg11 : arg11.IsWhole) (arg12 : Memref sig .tc .vmem S2816x1024 .bf16) (harg12 : arg12.IsWhole) (arg13 : Memref sig .tc .vmem S2x256x2816 .f32) (harg13 : arg13.IsWhole) (arg14 : Memref sig .tc .vmem S2x256x1024 .f32) (harg14 : arg14.IsWhole) (fh0 : HbBuf0 (F := F) c hbM0_0) (fh1 : HbBuf0 (F := F) c hbM0_1) (fh2 : HbBuf0 (F := F) c hbM0_2)
    (W : Waits sig Unit) (K : PUnit → sProp 𝕄) :
    iprop((∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ hbPt0 c hbM0_0 fh0 ∗ hbPt0 c hbM0_1 fh1 ∗ hbPt0 c hbM0_2 fh2 ∗ owes (c : Thread nD τ) 0 W ∗ (iprop(owns (c : Thread nD τ) arg10 fullShare (wg16 c fh0) ∗ owns (c : Thread nD τ) arg11 fullShare (wu16 c fh1) ∗ owns (c : Thread nD τ) arg12 fullShare (wd16 c fh2) ∗ (∃ d, owns (c : Thread nD τ) arg13 fullShare d) ∗ (∃ d, owns (c : Thread nD τ) arg14 fullShare d) ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ hbPt0 c hbM0_0 fh0 ∗ hbPt0 c hbM0_1 fh1 ∗ hbPt0 c hbM0_2 fh2 ∗ (∃ W', owes (c : Thread nD τ) 0 W')) -∗ K ⟨⟩))
      ⊢ wp frame (wpE (defs₀ (F := F)) Variants.none c none) Set.univ (fetchP i arg1 harg1 arg2 harg2 arg3 harg3 (Memref.whole main_arg3) (Memref.isWhole_whole _) (Memref.whole main_arg4) (Memref.isWhole_whole _) (Memref.whole main_arg5) (Memref.isWhole_whole _) arg7 harg7 arg8 harg8 arg9 harg9 arg10 harg10 arg11 harg11 arg12 harg12 arg13 harg13 arg14 harg14 cc0_scratch7 cc0_scratch8) K := by
  unfold fetchP
  simp only [k0_part14_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold owns
  iintro ⟨⟨%ds2, %fs2, -, HS2⟩, ⟨%ds3, %fs3, -, HS3⟩, ⟨%ds4, %fs4, -, HS4⟩, ⟨%ds5, %fs5, -, HS5⟩, ⟨%ds6, %fs6, -, HS6⟩, Hq0, Hq1, Hq2, Hq3, Hh0, Hh1, Hh2, HW, Hk⟩
  sl_exec
  sl_step
  iapply Hk
  isplitl [HS2]
  · iexists _; isplitr
    swap; · iexact HS2
    ipureintro
    refine funext fun y => View.read_writes_apply_of_pieces _ _ _ _ ?_ y (View.cover_of_tiledL (s := S1024x2816) _ S256x2816.size (by sl_kernel_rfl) y)
    iterate 4 refine List.forall_mem_cons.mpr ⟨by (
        intro x
        simp only [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, shapeCast_self]
        try (delta fetch_run.sl.r; simp only [k0_pay14, shapeCast_self])
        first | delta fetch_run.sl.v228 | delta fetch_run.sl.v248 | delta fetch_run.sl.v268 | delta fetch_run.sl.v288 | delta fetch_run.sl.v308 | delta fetch_run.sl.v328 | delta fetch_run.sl.v348 | delta fetch_run.sl.v | delta fetch_run.sl.v388 | delta fetch_run.sl.v408 | delta fetch_run.sl.v428 | delta fetch_run.sl.v448 | delta fetch_run.sl.v468 | delta fetch_run.sl.v488 | delta fetch_run.sl.v508 | delta fetch_run.sl.v528 | delta fetch_run.sl.v548 | delta fetch_run.sl.v568 | delta fetch_run.sl.v581
        first
          | (rw [Cert.Slab.read_miss, Cert.Slab.cast_read_hit]; swap; · exact Rect.unit_disjoint 0 (by decide))
          | rw [Cert.Slab.cast_read_hit]
        first | delta fetch_run.sl.dma0 | delta fetch_run.sl.dma0_1 | delta fetch_run.sl.dma3 | delta fetch_run.sl.dma6 | delta fetch_run.sl.dma9 | delta fetch_run.sl.dma12 | delta fetch_run.sl.dma15 | delta fetch_run.sl.dma18 | delta fetch_run.sl.dma21 | delta fetch_run.sl.dma24 | delta fetch_run.sl.dma27 | delta fetch_run.sl.dma30 | delta fetch_run.sl.dma33 | delta fetch_run.sl.dma36 | delta fetch_run.sl.dma39 | delta fetch_run.sl.dma42 | delta fetch_run.sl.dma45 | delta fetch_run.sl.dma48 | delta fetch_run.sl.dma51
        exact Cert.Slab.narrow_rows _ _ _ _ _ _), ?_⟩
    exact fun _ h => absurd h List.not_mem_nil
  isplitl [HS3]
  · iexists _; isplitr
    swap; · iexact HS3
    ipureintro
    refine funext fun y => View.read_writes_apply_of_pieces _ _ _ _ ?_ y (View.cover_of_tiledL (s := S1024x2816) _ S256x2816.size (by sl_kernel_rfl) y)
    iterate 4 refine List.forall_mem_cons.mpr ⟨by (
        intro x
        simp only [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, shapeCast_self]
        try (delta fetch_run.sl.r; simp only [k0_pay14, shapeCast_self])
        first | delta fetch_run.sl.v228 | delta fetch_run.sl.v248 | delta fetch_run.sl.v268 | delta fetch_run.sl.v288 | delta fetch_run.sl.v308 | delta fetch_run.sl.v328 | delta fetch_run.sl.v348 | delta fetch_run.sl.v | delta fetch_run.sl.v388 | delta fetch_run.sl.v408 | delta fetch_run.sl.v428 | delta fetch_run.sl.v448 | delta fetch_run.sl.v468 | delta fetch_run.sl.v488 | delta fetch_run.sl.v508 | delta fetch_run.sl.v528 | delta fetch_run.sl.v548 | delta fetch_run.sl.v568 | delta fetch_run.sl.v581
        first
          | (rw [Cert.Slab.read_miss, Cert.Slab.cast_read_hit]; swap; · exact Rect.unit_disjoint 0 (by decide))
          | rw [Cert.Slab.cast_read_hit]
        first | delta fetch_run.sl.dma0 | delta fetch_run.sl.dma0_1 | delta fetch_run.sl.dma3 | delta fetch_run.sl.dma6 | delta fetch_run.sl.dma9 | delta fetch_run.sl.dma12 | delta fetch_run.sl.dma15 | delta fetch_run.sl.dma18 | delta fetch_run.sl.dma21 | delta fetch_run.sl.dma24 | delta fetch_run.sl.dma27 | delta fetch_run.sl.dma30 | delta fetch_run.sl.dma33 | delta fetch_run.sl.dma36 | delta fetch_run.sl.dma39 | delta fetch_run.sl.dma42 | delta fetch_run.sl.dma45 | delta fetch_run.sl.dma48 | delta fetch_run.sl.dma51
        exact Cert.Slab.narrow_rows _ _ _ _ _ _), ?_⟩
    exact fun _ h => absurd h List.not_mem_nil
  isplitl [HS4]
  · iexists _; isplitr
    swap; · iexact HS4
    ipureintro
    refine funext fun y => View.read_writes_apply_of_pieces _ _ _ _ ?_ y (View.cover_of_tiledL (s := S2816x1024) _ S256x1024.size (by sl_kernel_rfl) y)
    iterate 11 refine List.forall_mem_cons.mpr ⟨by (
        intro x
        simp only [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, shapeCast_self]
        try (delta fetch_run.sl.r; simp only [k0_pay14, shapeCast_self])
        first | delta fetch_run.sl.v228 | delta fetch_run.sl.v248 | delta fetch_run.sl.v268 | delta fetch_run.sl.v288 | delta fetch_run.sl.v308 | delta fetch_run.sl.v328 | delta fetch_run.sl.v348 | delta fetch_run.sl.v | delta fetch_run.sl.v388 | delta fetch_run.sl.v408 | delta fetch_run.sl.v428 | delta fetch_run.sl.v448 | delta fetch_run.sl.v468 | delta fetch_run.sl.v488 | delta fetch_run.sl.v508 | delta fetch_run.sl.v528 | delta fetch_run.sl.v548 | delta fetch_run.sl.v568 | delta fetch_run.sl.v581
        first
          | (rw [Cert.Slab.read_miss, Cert.Slab.cast_read_hit]; swap; · exact Rect.unit_disjoint 0 (by decide))
          | rw [Cert.Slab.cast_read_hit]
        first | delta fetch_run.sl.dma0 | delta fetch_run.sl.dma0_1 | delta fetch_run.sl.dma3 | delta fetch_run.sl.dma6 | delta fetch_run.sl.dma9 | delta fetch_run.sl.dma12 | delta fetch_run.sl.dma15 | delta fetch_run.sl.dma18 | delta fetch_run.sl.dma21 | delta fetch_run.sl.dma24 | delta fetch_run.sl.dma27 | delta fetch_run.sl.dma30 | delta fetch_run.sl.dma33 | delta fetch_run.sl.dma36 | delta fetch_run.sl.dma39 | delta fetch_run.sl.dma42 | delta fetch_run.sl.dma45 | delta fetch_run.sl.dma48 | delta fetch_run.sl.dma51
        exact Cert.Slab.narrow_rows _ _ _ _ _ _), ?_⟩
    exact fun _ h => absurd h List.not_mem_nil
  isplitl [HS5]
  · iexists _, _; isplitr; swap; · iexact HS5
    ipureintro; rfl
  isplitl [HS6]
  · iexists _, _; isplitr; swap; · iexact HS6
    ipureintro; rfl
  isplitl [Hq0]; · iexact Hq0
  isplitl [Hq1]; · iexact Hq1
  isplitl [Hq2]; · iexact Hq2
  isplitl [Hq3]; · iexact Hq3
  isplitl [Hh0]; · iexact Hh0
  isplitl [Hh1]; · iexact Hh1
  isplitl [Hh2]; · iexact Hh2
  iexists _; iexact HW

end Cert.Kernel2Ideal.Hand

end
-- ==== Proof.Pre.Tail.lean ====
module

public import proofs.«01_k».proof.Proof.Pre.Fetch

@[expose] public section

set_option maxRecDepth 16384

/-! What the body does once the weights are in scratch: its output block as a function of what it reads, and its run. -/

noncomputable section

namespace Cert.Kernel2Ideal.Hand

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Column chunk `k` of a weight: its 256 columns from `256 k` on. -/
def cols (w : Vec F S1024x2816 .bf16) (k : Fin 11) : Vec F S1024x256 .bf16 := fun p =>
  w fun a => match a with
    | ⟨0, _⟩ => p 0
    | ⟨1, _⟩ => ⟨256 * k.val + (p 1).val, by have h1 : (p 1).val < 256 := (p 1).isLt; have := k.isLt; show _ < 2816; omega⟩

/-- The rows of the block: those of `x0` rotated to their places, the prefix `x1` before them in a batch entry's first
    block and zeros after them in its last. -/
def hid (i : grid0.Coords) (x0 : Vec F S640x1024 .f32) (x1 : Vec F S16x1024 .f32) : FVec F S640x1024 .f32 :=
  k0_pay26 (k0_pay23 i x0 x1) (k0_pay24 i) (k0_pay25 (F := F))

/-- Those rows normalised and scaled, narrowed. -/
def nrm (i : grid0.Coords) (x0 : Vec F S640x1024 .f32) (x1 : Vec F S16x1024 .f32) (x2 : Vec F S1x1024 .f32) : FVec F S640x1024 .bf16 :=
  k0_pay27 (k0_pay23 i x0 x1) (k0_pay24 i) (k0_pay25 (F := F)) x2

/-- The gated activation, column chunk by column chunk. -/
def actv (n : FVec F S640x1024 .bf16) (g u : Vec F S1024x2816 .bf16) : Vec F S640x2816 .bf16 := fun y =>
  have hy : (y 1).val < 2816 := (y 1).isLt
  k0_pay28 n (cols g ⟨(y 1).val / 256, by omega⟩) n (cols u ⟨(y 1).val / 256, by omega⟩) fun a => match a with
    | ⟨0, _⟩ => y 0
    | ⟨1, _⟩ => ⟨(y 1).val % 256, Nat.mod_lt _ (by show 0 < 256; omega)⟩

/-- The output block as a function of the input blocks and of the weights. -/
def outv (i : grid0.Coords) (x0 : Vec F S640x1024 .f32) (x1 : Vec F S16x1024 .f32) (x2 : Vec F S1x1024 .f32)
    (g u : Vec F S1024x2816 .bf16) (d : Vec F S2816x1024 .bf16) : FVec F S640x1024 .f32 :=
  k0_pay2 (hid i x0 x1) (actv (nrm i x0 x1 x2) g u) d

/-- What the body stores at chunk `k` is the activation there. -/
theorem actv_chunk (n : FVec F S640x1024 .bf16) (g u : Vec F S1024x2816 .bf16) (k : Fin 11) (off : Fin 2 → ℕ) (hoff : off = ![0, 256 * k.val])
    (inb : ∀ a, off a + S640x256.size a ≤ S640x2816.size a) (inb' : ∀ a, off a + S1024x256.size a ≤ S1024x2816.size a)
    (x : S640x256.Idx) :
    k0_pay28 n (View.ld g (Rect.unit (s := S1024x2816) off S1024x256.size inb')) n (View.ld u (Rect.unit (s := S1024x2816) off S1024x256.size inb')) x
      = actv n g u ((Rect.unit (s := S640x2816) off S640x256.size inb).emb x) := by
  subst hoff
  have hk : ∀ w : Vec F S1024x2816 .bf16, View.ld w (Rect.unit (s := S1024x2816) ![0, 256 * k.val] S1024x256.size inb') = cols w k := fun w => by
    refine funext fun p => congrArg w (Shape.idx_ext₂ ?_ ?_)
    · show 0 + 1 * (p 0).val = (p 0).val; omega
    · show 256 * k.val + 1 * (p 1).val = 256 * k.val + (p 1).val; omega
  rw [hk, hk]
  have hx : (x 1).val < 256 := (x 1).isLt
  have e1 : (((Rect.unit (s := S640x2816) ![0, 256 * k.val] S640x256.size inb).emb x) 1).val = 256 * k.val + (x 1).val := by
    show 256 * k.val + 1 * (x 1).val = _; omega
  have e0 : (((Rect.unit (s := S640x2816) ![0, 256 * k.val] S640x256.size inb).emb x) 0).val = (x 0).val := by
    show 0 + 1 * (x 0).val = _; omega
  have ek : ∀ h, (⟨(((Rect.unit (s := S640x2816) ![0, 256 * k.val] S640x256.size inb).emb x) 1).val / 256, h⟩ : Fin 11) = k := fun h =>
    Fin.ext (by show _ / 256 = k.val; rw [e1]; omega)
  unfold actv
  simp only [ek]
  refine congrArg _ (Shape.idx_ext₂ ?_ ?_)
  · exact e0.symm
  · show (x 1).val = _ % 256; rw [e1]; omega

/-- The assembled rows of equal parts are equal. -/
theorem hid_congr {i : grid0.Coords} {a0 : Vec F S640x1024 .f32} {a1 : Vec F S16x1024 .f32}
    {x0 : Vec F S640x1024 .f32} {x1 : Vec F S16x1024 .f32} (h0 : a0 = x0) (h1 : a1 = x1) :
    k0_pay26 (k0_pay23 i a0 a1) (k0_pay24 i) (k0_pay25 (F := F)) = hid i x0 x1 := by subst h0 h1; rfl

/-- The normalised rows of equal parts are equal. -/
theorem nrm_congr {i : grid0.Coords} {a0 : Vec F S640x1024 .f32} {a1 : Vec F S16x1024 .f32} {a2 : Vec F S1x1024 .f32}
    {x0 : Vec F S640x1024 .f32} {x1 : Vec F S16x1024 .f32} {x2 : Vec F S1x1024 .f32} (h0 : a0 = x0) (h1 : a1 = x1) (h2 : a2 = x2) :
    k0_pay27 (k0_pay23 i a0 a1) (k0_pay24 i) (k0_pay25 (F := F)) a2 = nrm i x0 x1 x2 := by subst h0 h1 h2; rfl

/-- A stored chunk, its operands named, is the activation there. -/
theorem act_piece {v v' n : FVec F S640x1024 .bf16} {g u : Vec F S1024x2816 .bf16} {a b : Vec F S1024x256 .bf16} {p : FVec F S640x256 .bf16} (k : Fin 11) (off : Fin 2 → ℕ) (hoff : off = ![0, 256 * k.val])
    (inb : ∀ a, off a + S640x256.size a ≤ S640x2816.size a) (inb' : ∀ a, off a + S1024x256.size a ≤ S1024x2816.size a)
    (hv : v = n) (hv' : v' = n) (ha : a = View.ld g (Rect.unit (s := S1024x2816) off S1024x256.size inb'))
    (hb : b = View.ld u (Rect.unit (s := S1024x2816) off S1024x256.size inb')) (hp : p = k0_pay28 v a v' b)
    (x : S640x256.Idx) : p x = actv n g u ((Rect.unit (s := S640x2816) off S640x256.size inb).emb x) := by
  subst hv hv' ha hb hp; exact actv_chunk _ _ _ k off hoff inb inb' x

/-- Chunk 1 is computed like chunk 0. -/
theorem chunk_1 (v : FVec F S640x1024 .bf16) (a : Vec F S1024x256 .bf16) (v' : FVec F S640x1024 .bf16) (b : Vec F S1024x256 .bf16) : k0_pay29 v a v' b = k0_pay28 v a v' b := rfl

/-- Chunk 2 is computed like chunk 0. -/
theorem chunk_2 (v : FVec F S640x1024 .bf16) (a : Vec F S1024x256 .bf16) (v' : FVec F S640x1024 .bf16) (b : Vec F S1024x256 .bf16) : k0_pay30 v a v' b = k0_pay28 v a v' b := rfl

/-- Chunk 3 is computed like chunk 0. -/
theorem chunk_3 (v : FVec F S640x1024 .bf16) (a : Vec F S1024x256 .bf16) (v' : FVec F S640x1024 .bf16) (b : Vec F S1024x256 .bf16) : k0_pay32 (k0_pay31 v a) v' b = k0_pay28 v a v' b := rfl

/-- Chunk 4 is computed like chunk 0. -/
theorem chunk_4 (v : FVec F S640x1024 .bf16) (a : Vec F S1024x256 .bf16) (v' : FVec F S640x1024 .bf16) (b : Vec F S1024x256 .bf16) : k0_pay33 v a v' b = k0_pay28 v a v' b := rfl

/-- Chunk 5 is computed like chunk 0. -/
theorem chunk_5 (v : FVec F S640x1024 .bf16) (a : Vec F S1024x256 .bf16) (v' : FVec F S640x1024 .bf16) (b : Vec F S1024x256 .bf16) : k0_pay35 (k0_pay34 v a v' b) = k0_pay28 v a v' b := rfl

/-- Chunk 6 is computed like chunk 0. -/
theorem chunk_6 (v : FVec F S640x1024 .bf16) (a : Vec F S1024x256 .bf16) (v' : FVec F S640x1024 .bf16) (b : Vec F S1024x256 .bf16) : k0_pay36 v a v' b = k0_pay28 v a v' b := rfl

/-- Chunk 7 is computed like chunk 0. -/
theorem chunk_7 (v : FVec F S640x1024 .bf16) (a : Vec F S1024x256 .bf16) (v' : FVec F S640x1024 .bf16) (b : Vec F S1024x256 .bf16) : k0_pay37 v a v' b = k0_pay28 v a v' b := rfl

/-- Chunk 8 is computed like chunk 0. -/
theorem chunk_8 (v : FVec F S640x1024 .bf16) (a : Vec F S1024x256 .bf16) (v' : FVec F S640x1024 .bf16) (b : Vec F S1024x256 .bf16) : k0_pay38 v a v' b = k0_pay28 v a v' b := rfl

/-- Chunk 9 is computed like chunk 0. -/
theorem chunk_9 (v : FVec F S640x1024 .bf16) (a : Vec F S1024x256 .bf16) (v' : FVec F S640x1024 .bf16) (b : Vec F S1024x256 .bf16) : k0_pay39 v a v' b = k0_pay28 v a v' b := rfl

/-- Chunk 10 is computed like chunk 0. -/
theorem chunk_10 (v : FVec F S640x1024 .bf16) (a : Vec F S1024x256 .bf16) (v' : FVec F S640x1024 .bf16) (b : Vec F S1024x256 .bf16) : k0_pay1 (k0_pay40 v a) v' b = k0_pay28 v a v' b := rfl

/-- Equal rows, activations and down weights give equal output blocks. -/
theorem out_congr {a a' : FVec F S640x1024 .f32} {b b' : Vec F S640x2816 .bf16} {d d' : Vec F S2816x1024 .bf16} (ha : a = a') (hb : b = b') (hd : d = d') :
    k0_pay2 a b d = k0_pay2 a' b' d' := by subst ha hb hd; rfl

set_option maxHeartbeats 20000000 in
/-- The run of the body once the weights are in scratch: they stay there, the output's block is named. -/
theorem tail_run (c : Dev nD) (i : grid0.Coords) (arg1 : Memref sig .tc .vmem S640x1024 .f32) (harg1 : arg1.IsWhole) (arg2 : Memref sig .tc .vmem S16x1024 .f32) (harg2 : arg2.IsWhole) (arg3 : Memref sig .tc .vmem S1x1024 .f32) (harg3 : arg3.IsWhole) (arg7 : Memref sig .tc .vmem S640x1024 .f32) (harg7 : arg7.IsWhole) (arg8 : Memref sig .tc .vmem S640x1024 .bf16) (harg8 : arg8.IsWhole) (arg9 : Memref sig .tc .vmem S640x2816 .bf16) (harg9 : arg9.IsWhole) (arg10 : Memref sig .tc .vmem S1024x2816 .bf16) (harg10 : arg10.IsWhole) (arg11 : Memref sig .tc .vmem S1024x2816 .bf16) (harg11 : arg11.IsWhole) (arg12 : Memref sig .tc .vmem S2816x1024 .bf16) (harg12 : arg12.IsWhole) (arg13 : Memref sig .tc .vmem S2x256x2816 .f32) (harg13 : arg13.IsWhole) (arg14 : Memref sig .tc .vmem S2x256x1024 .f32) (harg14 : arg14.IsWhole)
    (x0 : Vec F S640x1024 .f32) (x1 : Vec F S16x1024 .f32) (x2 : Vec F S1x1024 .f32)
    (g u : Vec F S1024x2816 .bf16) (d : Vec F S2816x1024 .bf16) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare g ∗ owns (c : Thread nD τ) arg11 fullShare u ∗ owns (c : Thread nD τ) arg12 fullShare d ∗ (iprop(owns (c : Thread nD τ) arg1 fullShare x0 ∗ owns (c : Thread nD τ) arg2 fullShare x1 ∗ owns (c : Thread nD τ) arg3 fullShare x2 ∗ owns (c : Thread nD τ) arg7 fullShare (outv i x0 x1 x2 g u d) ∗ (∃ d, owns (c : Thread nD τ) arg8 fullShare d) ∗ (∃ d, owns (c : Thread nD τ) arg9 fullShare d) ∗ owns (c : Thread nD τ) arg10 fullShare g ∗ owns (c : Thread nD τ) arg11 fullShare u ∗ owns (c : Thread nD τ) arg12 fullShare d) -∗ K ⟨⟩))
      ⊢ wp frame (wpE (defs₀ (F := F)) Variants.none c none) Set.univ (restP i arg1 harg1 arg2 harg2 arg3 harg3 (Memref.whole main_arg3) (Memref.isWhole_whole _) (Memref.whole main_arg4) (Memref.isWhole_whole _) (Memref.whole main_arg5) (Memref.isWhole_whole _) arg7 harg7 arg8 harg8 arg9 harg9 arg10 harg10 arg11 harg11 arg12 harg12 arg13 harg13 arg14 harg14 cc0_scratch7 cc0_scratch8) K := by
  unfold restP
  simp only [k0_part16_eq_skeleton, k0_part17_eq_skeleton, k0_part18_eq_skeleton, k0_part19_eq_skeleton, k0_part20_eq_skeleton]
  unfold owns
  iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%fs2, %hfs2, HS2⟩, ⟨%fs3, %hfs3, HS3⟩, ⟨%fs4, %hfs4, HS4⟩, Hk⟩
  obtain rfl := harg1.eq_unread hf0; obtain rfl := harg2.eq_unread hf1; obtain rfl := harg3.eq_unread hf2; obtain rfl := harg10.eq_unread hfs2; obtain rfl := harg11.eq_unread hfs3; obtain rfl := harg12.eq_unread hfs4
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    have e55 : tail_run.sl.v55 c i arg1 harg1 arg2 harg2 arg3 harg3 arg8 x0 x1 x2 = nrm i x0 x1 x2 := by
      delta tail_run.sl.v55
      refine (View.readCov_unit_zero _ (View.eq_zero_of_forall (by decide)) _ _).trans ?_
      exact nrm_congr ((View.readAt_full _ _ _).trans (harg1.read_unread _)) ((View.readAt_full _ _ _).trans (harg2.read_unread _)) ((View.readAt_full _ _ _).trans (harg3.read_unread _))
    have e188 : tail_run.sl.v188 c i arg1 harg1 arg2 harg2 arg3 harg3 arg8 x0 x1 x2 = nrm i x0 x1 x2 := by
      delta tail_run.sl.v188
      refine (View.readCov_unit_zero _ (View.eq_zero_of_forall (by decide)) _ _).trans ?_
      exact nrm_congr ((View.readAt_full _ _ _).trans (harg1.read_unread _)) ((View.readAt_full _ _ _).trans (harg2.read_unread _)) ((View.readAt_full _ _ _).trans (harg3.read_unread _))
    have e198 : tail_run.sl.v198 c i arg1 harg1 arg2 harg2 arg7 x0 x1 = hid i x0 x1 := by
      delta tail_run.sl.v198
      refine (View.readCov_unit_zero _ (View.eq_zero_of_forall (by decide)) _ _).trans ?_
      exact hid_congr ((View.readAt_full _ _ _).trans (harg1.read_unread _)) ((View.readAt_full _ _ _).trans (harg2.read_unread _))
    refine (Cert.Slab.read_writes_full _ _ (by decide) _ _ _).trans (out_congr e198 ?pb ((View.readAt_full _ _ _).trans (harg12.read_unread _)))
    delta tail_run.sl.v200
    refine (View.readAt_full _ _ _).trans ?_
    refine funext fun y => View.read_writes_apply_of_pieces _ _ _ _ ?_ y (View.cover_of_tiledL (s := S640x2816) _ S640x256.size (by sl_kernel_rfl) y)
    delta tail_run.sl.HS1_11
    refine List.forall_mem_cons.mpr ⟨fun x => by delta tail_run.sl.r_2; exact act_piece 10 ![0, 2560] rfl inb_S640x2816_S640x256_0_2560 inb_S1024x2816_S1024x256_0_2560 e55 e188 (congrArg (fun w => View.ld w _) (harg10.read_unread _)) (congrArg (fun w => View.ld w _) (harg11.read_unread _)) (chunk_10 _ _ _ _) x, ?_⟩
    refine List.forall_mem_cons.mpr ⟨fun x => act_piece 9 ![0, 2304] rfl inb_S640x2816_S640x256_0_2304 inb_S1024x2816_S1024x256_0_2304 e55 e55 (congrArg (fun w => View.ld w _) (harg10.read_unread _)) (congrArg (fun w => View.ld w _) (harg11.read_unread _)) (chunk_9 _ _ _ _) x, ?_⟩
    refine List.forall_mem_cons.mpr ⟨fun x => act_piece 8 ![0, 2048] rfl inb_S640x2816_S640x256_0_2048 inb_S1024x2816_S1024x256_0_2048 e55 e55 (congrArg (fun w => View.ld w _) (harg10.read_unread _)) (congrArg (fun w => View.ld w _) (harg11.read_unread _)) (chunk_8 _ _ _ _) x, ?_⟩
    refine List.forall_mem_cons.mpr ⟨fun x => act_piece 7 ![0, 1792] rfl inb_S640x2816_S640x256_0_1792 inb_S1024x2816_S1024x256_0_1792 e55 e55 (congrArg (fun w => View.ld w _) (harg10.read_unread _)) (congrArg (fun w => View.ld w _) (harg11.read_unread _)) (chunk_7 _ _ _ _) x, ?_⟩
    refine List.forall_mem_cons.mpr ⟨fun x => act_piece 6 ![0, 1536] rfl inb_S640x2816_S640x256_0_1536 inb_S1024x2816_S1024x256_0_1536 e55 e55 (congrArg (fun w => View.ld w _) (harg10.read_unread _)) (congrArg (fun w => View.ld w _) (harg11.read_unread _)) (chunk_6 _ _ _ _) x, ?_⟩
    refine List.forall_mem_cons.mpr ⟨fun x => by delta tail_run.sl.r_1; exact act_piece 5 ![0, 1280] rfl inb_S640x2816_S640x256_0_1280 inb_S1024x2816_S1024x256_0_1280 e55 e55 (congrArg (fun w => View.ld w _) (harg10.read_unread _)) (congrArg (fun w => View.ld w _) (harg11.read_unread _)) (chunk_5 _ _ _ _) x, ?_⟩
    refine List.forall_mem_cons.mpr ⟨fun x => act_piece 4 ![0, 1024] rfl inb_S640x2816_S640x256_0_1024 inb_S1024x2816_S1024x256_0_1024 e55 e55 (congrArg (fun w => View.ld w _) (harg10.read_unread _)) (congrArg (fun w => View.ld w _) (harg11.read_unread _)) (chunk_4 _ _ _ _) x, ?_⟩
    refine List.forall_mem_cons.mpr ⟨fun x => by delta tail_run.sl.r; exact act_piece 3 ![0, 768] rfl inb_S640x2816_S640x256_0_768 inb_S1024x2816_S1024x256_0_768 e55 e55 (congrArg (fun w => View.ld w _) (harg10.read_unread _)) (congrArg (fun w => View.ld w _) (harg11.read_unread _)) (chunk_3 _ _ _ _) x, ?_⟩
    refine List.forall_mem_cons.mpr ⟨fun x => act_piece 2 ![0, 512] rfl inb_S640x2816_S640x256_0_512 inb_S1024x2816_S1024x256_0_512 e55 e55 (congrArg (fun w => View.ld w _) (harg10.read_unread _)) (congrArg (fun w => View.ld w _) (harg11.read_unread _)) (chunk_2 _ _ _ _) x, ?_⟩
    refine List.forall_mem_cons.mpr ⟨fun x => act_piece 1 ![0, 256] rfl inb_S640x2816_S640x256_0_256 inb_S1024x2816_S1024x256_0_256 e55 e55 (congrArg (fun w => View.ld w _) (harg10.read_unread _)) (congrArg (fun w => View.ld w _) (harg11.read_unread _)) (chunk_1 _ _ _ _) x, ?_⟩
    refine List.forall_mem_cons.mpr ⟨fun x => act_piece 0 ![0, 0] rfl inb_S640x2816_S640x256_0_0 inb_S1024x2816_S1024x256_0_0 e55 e55 (congrArg (fun w => View.ld w _) (harg10.read_unread _)) (congrArg (fun w => View.ld w _) (harg11.read_unread _)) rfl x, ?_⟩
    exact fun _ h => absurd h List.not_mem_nil
  isplitl [HS0]
  · iexists _, _; isplitr; swap; · iexact HS0
    ipureintro; rfl
  isplitl [HS1]
  · iexists _, _; isplitr; swap; · iexact HS1
    ipureintro; rfl
  isplitl [HS2]
  · iexists _; isplitr; · ipureintro; exact harg10.read_unread _
    iexact HS2
  isplitl [HS3]
  · iexists _; isplitr; · ipureintro; exact harg11.read_unread _
    iexact HS3
  · iexists _; isplitr; · ipureintro; exact harg12.read_unread _
    iexact HS4

end Cert.Kernel2Ideal.Hand

end
-- ==== Proof.Pre.Run.lean ====
module

public import proofs.«01_k».proof.Proof.Pre.Tail
public import Idealize.ShloMosaic.Lib.Claim

@[expose] public section

set_option maxRecDepth 16384

/-! The body at every point, the proof data with the output block named, and the launch. -/

noncomputable section

namespace Cert.Kernel2Ideal.Hand

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 2000000 in
/-- The body at the first point: the weights fetched into scratch, the output's block named. -/
theorem first_run (c : Dev nD) (i : grid0.Coords) (arg1 : Memref sig .tc .vmem S640x1024 .f32) (harg1 : arg1.IsWhole) (arg2 : Memref sig .tc .vmem S16x1024 .f32) (harg2 : arg2.IsWhole) (arg3 : Memref sig .tc .vmem S1x1024 .f32) (harg3 : arg3.IsWhole) (arg7 : Memref sig .tc .vmem S640x1024 .f32) (harg7 : arg7.IsWhole) (arg8 : Memref sig .tc .vmem S640x1024 .bf16) (harg8 : arg8.IsWhole) (arg9 : Memref sig .tc .vmem S640x2816 .bf16) (harg9 : arg9.IsWhole) (arg10 : Memref sig .tc .vmem S1024x2816 .bf16) (harg10 : arg10.IsWhole) (arg11 : Memref sig .tc .vmem S1024x2816 .bf16) (harg11 : arg11.IsWhole) (arg12 : Memref sig .tc .vmem S2816x1024 .bf16) (harg12 : arg12.IsWhole) (arg13 : Memref sig .tc .vmem S2x256x2816 .f32) (harg13 : arg13.IsWhole) (arg14 : Memref sig .tc .vmem S2x256x1024 .f32) (harg14 : arg14.IsWhole) (hc0 : cond0_0 i)
    (x0 : Vec F S640x1024 .f32) (x1 : Vec F S16x1024 .f32) (x2 : Vec F S1x1024 .f32)
    (fh0 : HbBuf0 (F := F) c hbM0_0) (fh1 : HbBuf0 (F := F) c hbM0_1) (fh2 : HbBuf0 (F := F) c hbM0_2)
    (W : Waits sig Unit) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ hbPt0 c hbM0_0 fh0 ∗ hbPt0 c hbM0_1 fh1 ∗ hbPt0 c hbM0_2 fh2 ∗ owes (c : Thread nD τ) 0 W ∗ (iprop(owns (c : Thread nD τ) arg1 fullShare x0 ∗ owns (c : Thread nD τ) arg2 fullShare x1 ∗ owns (c : Thread nD τ) arg3 fullShare x2 ∗ owns (c : Thread nD τ) arg7 fullShare (outv i x0 x1 x2 (wg16 c fh0) (wu16 c fh1) (wd16 c fh2)) ∗ (∃ d, owns (c : Thread nD τ) arg8 fullShare d) ∗ (∃ d, owns (c : Thread nD τ) arg9 fullShare d) ∗ owns (c : Thread nD τ) arg10 fullShare (wg16 c fh0) ∗ owns (c : Thread nD τ) arg11 fullShare (wu16 c fh1) ∗ owns (c : Thread nD τ) arg12 fullShare (wd16 c fh2) ∗ (∃ d, owns (c : Thread nD τ) arg13 fullShare d) ∗ (∃ d, owns (c : Thread nD τ) arg14 fullShare d) ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ hbPt0 c hbM0_0 fh0 ∗ hbPt0 c hbM0_1 fh1 ∗ hbPt0 c hbM0_2 fh2 ∗ (∃ W, owes (c : Thread nD τ) 0 W)) -∗ K ⟨⟩))
      ⊢ wp frame (wpE (defs₀ (F := F)) Variants.none c none) Set.univ (cc0_ffn i arg1 harg1 arg2 harg2 arg3 harg3 (Memref.whole main_arg3) (Memref.isWhole_whole _) (Memref.whole main_arg4) (Memref.isWhole_whole _) (Memref.whole main_arg5) (Memref.isWhole_whole _) arg7 harg7 arg8 harg8 arg9 harg9 arg10 harg10 arg11 harg11 arg12 harg12 arg13 harg13 arg14 harg14 cc0_scratch7 cc0_scratch8) K := by
  rw [body_first i arg1 harg1 arg2 harg2 arg3 harg3 (Memref.whole main_arg3) (Memref.isWhole_whole _) (Memref.whole main_arg4) (Memref.isWhole_whole _) (Memref.whole main_arg5) (Memref.isWhole_whole _) arg7 harg7 arg8 harg8 arg9 harg9 arg10 harg10 arg11 harg11 arg12 harg12 arg13 harg13 arg14 harg14 cc0_scratch7 cc0_scratch8 hc0, wp_bind]
  iintro ⟨H0, H1, H2, H3, HS0, HS1, HS2, HS3, HS4, HS5, HS6, Hq0, Hq1, Hq2, Hq3, Hh0, Hh1, Hh2, HW, Hk⟩
  iapply (fetch_run c i arg1 harg1 arg2 harg2 arg3 harg3 arg7 harg7 arg8 harg8 arg9 harg9 arg10 harg10 arg11 harg11 arg12 harg12 arg13 harg13 arg14 harg14 fh0 fh1 fh2 W _)
  isplitl [HS2]; · iexact HS2
  isplitl [HS3]; · iexact HS3
  isplitl [HS4]; · iexact HS4
  isplitl [HS5]; · iexact HS5
  isplitl [HS6]; · iexact HS6
  isplitl [Hq0]; · iexact Hq0
  isplitl [Hq1]; · iexact Hq1
  isplitl [Hq2]; · iexact Hq2
  isplitl [Hq3]; · iexact Hq3
  isplitl [Hh0]; · iexact Hh0
  isplitl [Hh1]; · iexact Hh1
  isplitl [Hh2]; · iexact Hh2
  isplitl [HW]; · iexact HW
  iintro ⟨HS2, HS3, HS4, HS5, HS6, Hq0, Hq1, Hq2, Hq3, Hh0, Hh1, Hh2, HW⟩
  iapply (tail_run c i arg1 harg1 arg2 harg2 arg3 harg3 arg7 harg7 arg8 harg8 arg9 harg9 arg10 harg10 arg11 harg11 arg12 harg12 arg13 harg13 arg14 harg14 x0 x1 x2 (wg16 c fh0) (wu16 c fh1) (wd16 c fh2) _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  isplitl [HS3]; · iexact HS3
  isplitl [HS4]; · iexact HS4
  iintro ⟨H0, H1, H2, H3, HS0, HS1, HS2, HS3, HS4⟩
  iapply Hk
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [Hq0]; · iexact Hq0
  isplitl [Hq1]; · iexact Hq1
  isplitl [Hq2]; · iexact Hq2
  isplitl [Hq3]; · iexact Hq3
  isplitl [Hh0]; · iexact Hh0
  isplitl [Hh1]; · iexact Hh1
  isplitl [Hh2]; · iexact Hh2
  iexact HW

set_option maxHeartbeats 2000000 in
/-- The body at a later point: the weights are in scratch and stay there. -/
theorem later_run (c : Dev nD) (i : grid0.Coords) (arg1 : Memref sig .tc .vmem S640x1024 .f32) (harg1 : arg1.IsWhole) (arg2 : Memref sig .tc .vmem S16x1024 .f32) (harg2 : arg2.IsWhole) (arg3 : Memref sig .tc .vmem S1x1024 .f32) (harg3 : arg3.IsWhole) (arg7 : Memref sig .tc .vmem S640x1024 .f32) (harg7 : arg7.IsWhole) (arg8 : Memref sig .tc .vmem S640x1024 .bf16) (harg8 : arg8.IsWhole) (arg9 : Memref sig .tc .vmem S640x2816 .bf16) (harg9 : arg9.IsWhole) (arg10 : Memref sig .tc .vmem S1024x2816 .bf16) (harg10 : arg10.IsWhole) (arg11 : Memref sig .tc .vmem S1024x2816 .bf16) (harg11 : arg11.IsWhole) (arg12 : Memref sig .tc .vmem S2816x1024 .bf16) (harg12 : arg12.IsWhole) (arg13 : Memref sig .tc .vmem S2x256x2816 .f32) (harg13 : arg13.IsWhole) (arg14 : Memref sig .tc .vmem S2x256x1024 .f32) (harg14 : arg14.IsWhole) (hc0 : ¬cond0_0 i)
    (x0 : Vec F S640x1024 .f32) (x1 : Vec F S16x1024 .f32) (x2 : Vec F S1x1024 .f32)
    (g u : Vec F S1024x2816 .bf16) (d : Vec F S2816x1024 .bf16) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare g ∗ owns (c : Thread nD τ) arg11 fullShare u ∗ owns (c : Thread nD τ) arg12 fullShare d ∗ (iprop(owns (c : Thread nD τ) arg1 fullShare x0 ∗ owns (c : Thread nD τ) arg2 fullShare x1 ∗ owns (c : Thread nD τ) arg3 fullShare x2 ∗ owns (c : Thread nD τ) arg7 fullShare (outv i x0 x1 x2 g u d) ∗ (∃ d, owns (c : Thread nD τ) arg8 fullShare d) ∗ (∃ d, owns (c : Thread nD τ) arg9 fullShare d) ∗ owns (c : Thread nD τ) arg10 fullShare g ∗ owns (c : Thread nD τ) arg11 fullShare u ∗ owns (c : Thread nD τ) arg12 fullShare d) -∗ K ⟨⟩))
      ⊢ wp frame (wpE (defs₀ (F := F)) Variants.none c none) Set.univ (cc0_ffn i arg1 harg1 arg2 harg2 arg3 harg3 (Memref.whole main_arg3) (Memref.isWhole_whole _) (Memref.whole main_arg4) (Memref.isWhole_whole _) (Memref.whole main_arg5) (Memref.isWhole_whole _) arg7 harg7 arg8 harg8 arg9 harg9 arg10 harg10 arg11 harg11 arg12 harg12 arg13 harg13 arg14 harg14 cc0_scratch7 cc0_scratch8) K := by
  rw [body_later i arg1 harg1 arg2 harg2 arg3 harg3 (Memref.whole main_arg3) (Memref.isWhole_whole _) (Memref.whole main_arg4) (Memref.isWhole_whole _) (Memref.whole main_arg5) (Memref.isWhole_whole _) arg7 harg7 arg8 harg8 arg9 harg9 arg10 harg10 arg11 harg11 arg12 harg12 arg13 harg13 arg14 harg14 cc0_scratch7 cc0_scratch8 hc0]
  exact tail_run c i arg1 harg1 arg2 harg2 arg3 harg3 arg7 harg7 arg8 harg8 arg9 harg9 arg10 harg10 arg11 harg11 arg12 harg12 arg13 harg13 arg14 harg14 x0 x1 x2 g u d K

/-! ## The proof data -/

/-- The output block after point `t`. -/
def outB (c : Dev nD) (t : Fin cfg0.N) : Vec F S640x1024 .f32 :=
  outv (grid0.coords t) (iblk m c 0 t) (iblk m c 1 t) (iblk m c 2 t) (wg16 c (V m c main_arg3)) (wu16 c (V m c main_arg4)) (wd16 c (V m c main_arg5))

/-- The invariant before position `n`: before the first point the launch's own; afterwards the same with the weights'
    scratch at the weights narrowed. -/
def PhiS (c : Dev nD) : ℕ → sProp 𝕄
  | 0 => Pipeline.ΦD osem0 spec0 H0 (V m) c
  | _ + 1 => iprop(iprop((∃ d, owns (c : Thread nD τ) scM0_0 fullShare d) ∗ (∃ d, owns (c : Thread nD τ) scM0_1 fullShare d) ∗ owns (c : Thread nD τ) scM0_2 fullShare (wg16 c (V m c main_arg3)) ∗ owns (c : Thread nD τ) scM0_3 fullShare (wu16 c (V m c main_arg4)) ∗ owns (c : Thread nD τ) scM0_4 fullShare (wd16 c (V m c main_arg5)) ∗ (∃ d, owns (c : Thread nD τ) scM0_5 fullShare d) ∗ (∃ d, owns (c : Thread nD τ) scM0_6 fullShare d)) ∗ (∃ r, prngReg c r) ∗ iprop(semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0) ∗ iprop(hbPt0 c hbM0_0 (V m c main_arg3) ∗ hbPt0 c hbM0_1 (V m c main_arg4) ∗ hbPt0 c hbM0_2 (V m c main_arg5)))

/-- Before a point that is not the first the weights are in scratch. -/
theorem PhiS_pos (c : Dev nD) (n : ℕ) (hz : n ≠ 0) : PhiS m c n = iprop(iprop((∃ d, owns (c : Thread nD τ) scM0_0 fullShare d) ∗ (∃ d, owns (c : Thread nD τ) scM0_1 fullShare d) ∗ owns (c : Thread nD τ) scM0_2 fullShare (wg16 c (V m c main_arg3)) ∗ owns (c : Thread nD τ) scM0_3 fullShare (wu16 c (V m c main_arg4)) ∗ owns (c : Thread nD τ) scM0_4 fullShare (wd16 c (V m c main_arg5)) ∗ (∃ d, owns (c : Thread nD τ) scM0_5 fullShare d) ∗ (∃ d, owns (c : Thread nD τ) scM0_6 fullShare d)) ∗ (∃ r, prngReg c r) ∗ iprop(semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0) ∗ iprop(hbPt0 c hbM0_0 (V m c main_arg3) ∗ hbPt0 c hbM0_1 (V m c main_arg4) ∗ hbPt0 c hbM0_2 (V m c main_arg5))) := by
  cases n with
  | zero => exact absurd rfl hz
  | succ n => rfl

/-- The proof data: each input's buffer left at its block, the output's at the block named, nothing owed. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outB m c t
  Φ t := PhiS m c t.val
  q _ := fullShare
  owed _ := 0

/-- The proof data's arrays are what the region finds. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outB m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 4000000 in
/-- The body at any point takes the one to the other: the first point fetches the weights, a later one finds them. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = PhiS m c (t.val + 1) from rfl, PhiS_pos m c _ (Nat.succ_ne_zero _),
    after0_0, after0_1, after0_2, after0_3, show (dats m 0 c).Φ t.castSucc = PhiS m c t.val from rfl]
  unfold Dat.owesAt Pipeline.owesWithin
  rw [show (dats m 0 c).owed t.castSucc = 0 from rfl, show (dats m 0 c).owed t.succ = 0 from rfl]
  have hN : t.val < 26 := lt_of_lt_of_eq t.isLt (show cfg0.N = 26 from N_0)
  by_cases hz : t.val = 0
  · rw [show PhiS m c t.val = Pipeline.ΦD osem0 spec0 H0 (V m) c by rw [hz]; rfl, PhiD0_eq]
    iintro ⟨⟨⟨HS0, HS1, HS2, HS3, HS4, HS5, HS6⟩, Hg, ⟨Hq0, Hq1, Hq2, Hq3⟩, ⟨Hh0, Hh1, Hh2⟩⟩, ⟨%W, -, HW⟩, ⟨%d0, H0⟩, ⟨%d1, H1⟩, ⟨%d2, H2⟩, ⟨%d3, H3⟩⟩
    iapply (first_run c (grid0.coords t) _ _ _ _ _ _ _ _ _ _ _ _ _ _ _ _ _ _ _ _ _ _ ((hcond0_0 t).mpr (by omega)) (iblk m c 0 t) (iblk m c 1 t) (iblk m c 2 t) (V m c main_arg3) (V m c main_arg4) (V m c main_arg5) W _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [Hq0]; · iexact Hq0
    isplitl [Hq1]; · iexact Hq1
    isplitl [Hq2]; · iexact Hq2
    isplitl [Hq3]; · iexact Hq3
    isplitl [Hh0]; · iexact Hh0
    isplitl [Hh1]; · iexact Hh1
    isplitl [Hh2]; · iexact Hh2
    isplitl [HW]; · iexact HW
    iintro ⟨H0, H1, H2, H3, HS0, HS1, HS2, HS3, HS4, HS5, HS6, Hq0, Hq1, Hq2, Hq3, Hh0, Hh1, Hh2, ⟨%W', HW'⟩⟩
    isplitl [HS0 HS1 HS2 HS3 HS4 HS5 HS6 Hg Hq0 Hq1 Hq2 Hq3 Hh0 Hh1 Hh2]
    · isplitl [HS0 HS1 HS2 HS3 HS4 HS5 HS6]
      · isplitl [HS0]; · iexact HS0
        isplitl [HS1]; · iexact HS1
        isplitl [HS2]; · iexact HS2
        isplitl [HS3]; · iexact HS3
        isplitl [HS4]; · iexact HS4
        isplitl [HS5]; · iexact HS5
        iexact HS6
      isplitl [Hg]; · iexact Hg
      isplitl [Hq0 Hq1 Hq2 Hq3]
      · isplitl [Hq0]; · iexact Hq0
        isplitl [Hq1]; · iexact Hq1
        isplitl [Hq2]; · iexact Hq2
        iexact Hq3
      isplitl [Hh0]; · iexact Hh0
      isplitl [Hh1]; · iexact Hh1
      iexact Hh2
    isplitl [HW']
    · iexists W'; isplitr; · ipureintro; exact fun _ _ => Or.inl trivial
      iexact HW'
    isplitl [H0]; · iexact H0
    isplitl [H1]; · iexact H1
    isplitl [H2]; · iexact H2
    iexact H3
  · rw [PhiS_pos m c _ hz]
    iintro ⟨⟨⟨HS0, HS1, HS2, HS3, HS4, HS5, HS6⟩, Hg, ⟨Hq0, Hq1, Hq2, Hq3⟩, ⟨Hh0, Hh1, Hh2⟩⟩, ⟨%W, -, HW⟩, ⟨%d0, H0⟩, ⟨%d1, H1⟩, ⟨%d2, H2⟩, ⟨%d3, H3⟩⟩
    iapply (later_run c (grid0.coords t) _ _ _ _ _ _ _ _ _ _ _ _ _ _ _ _ _ _ _ _ _ _ (fun h => absurd ((hcond0_0 t).mp h) (by omega)) (iblk m c 0 t) (iblk m c 1 t) (iblk m c 2 t) (wg16 c (V m c main_arg3)) (wu16 c (V m c main_arg4)) (wd16 c (V m c main_arg5)) _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    isplitl [HS3]; · iexact HS3
    isplitl [HS4]; · iexact HS4
    iintro ⟨H0, H1, H2, H3, HS0, HS1, HS2, HS3, HS4⟩
    isplitl [HS0 HS1 HS2 HS3 HS4 HS5 HS6 Hg Hq0 Hq1 Hq2 Hq3 Hh0 Hh1 Hh2]
    · isplitl [HS0 HS1 HS2 HS3 HS4 HS5 HS6]
      · isplitl [HS0]; · iexact HS0
        isplitl [HS1]; · iexact HS1
        isplitl [HS2]; · iexact HS2
        isplitl [HS3]; · iexact HS3
        isplitl [HS4]; · iexact HS4
        isplitl [HS5]; · iexact HS5
        iexact HS6
      isplitl [Hg]; · iexact Hg
      isplitl [Hq0 Hq1 Hq2 Hq3]
      · isplitl [Hq0]; · iexact Hq0
        isplitl [Hq1]; · iexact Hq1
        isplitl [Hq2]; · iexact Hq2
        iexact Hq3
      isplitl [Hh0]; · iexact Hh0
      isplitl [Hh1]; · iexact Hh1
      iexact Hh2
    isplitl [HW]
    · iexists W; isplitr; · ipureintro; exact fun _ _ => Or.inl trivial
      iexact HW
    isplitl [H0]; · iexact H0
    isplitl [H1]; · iexact H1
    isplitl [H2]; · iexact H2
    iexact H3

/-- The body table's row at point `t` is the body there. -/
theorem row_body (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, row_body]
  exact triple_restated (sound_body m c t) rfl .rfl fun _ => .rfl

/-- What the launch hands the region is the invariant before the first point. -/
theorem hin (c : Dev nD) : Pipeline.ΦD osem0 spec0 H0 (V m) c ⊢ (dats m 0 c).Φ 0 := by
  rw [show (dats m 0 c).Φ 0 = Pipeline.ΦD osem0 spec0 H0 (V m) c from rfl]
  try exact Idealize.SL.BI.Entails.refl _

/-- After the last point the invariant gives the launch's back: the weights' scratch is forgotten. -/
theorem hout (c : Dev nD) : (dats m 0 c).Φ (Fin.last cfg0.N) ⊢ Pipeline.ΦD osem0 spec0 H0 (V m) c := by
  rw [show (dats m 0 c).Φ (Fin.last cfg0.N) = PhiS m c cfg0.N from rfl,
    PhiS_pos m c _ (by rw [show cfg0.N = 26 from N_0]; decide), PhiD0_eq]
  iintro ⟨⟨HS0, HS1, HS2, HS3, HS4, HS5, HS6⟩, Hg, Hq, Hh⟩
  isplitl [HS0 HS1 HS2 HS3 HS4 HS5 HS6]
  · isplitl [HS0]; · iexact HS0
    isplitl [HS1]; · iexact HS1
    isplitl [HS2]; · iexists _; iexact HS2
    isplitl [HS3]; · iexists _; iexact HS3
    isplitl [HS4]; · iexists _; iexact HS4
    isplitl [HS5]; · iexact HS5
    iexact HS6
  isplitl [Hg]; · iexact Hg
  isplitl [Hq]; · iexact Hq
  iexact Hh

set_option backward.isDefEq.respectTransparency.types false in
/-- THE LAUNCH: it terminates without fault, every array ends at what the proof data says, every counter at zero. -/
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- Any final state of the launch has the argument arrays unchanged. -/
theorem unchanged_of (h : θ_run defs (onTc (τ := τ) (main (F := F))) (s₀ m ρ) (Pipeline.FramePost cfgs (dats m) 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) h

/-- The program runs, leaves its argument arrays unchanged and every semaphore counter at zero. -/
theorem frame_quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged_of m ρ ((θ_run defs _ _).mono (fun _ h => h.1) (run_main m ρ))) ((θ_run defs _ _).mono (fun _ h => h.2) (run_main m ρ))

end Cert.Kernel2Ideal.Hand

end
-- ==== Proof.Pre.Pure.lean ====
module

public import proofs.«01_k».proof.Proof.Pre.Tail
public import proofs.«01_k».proof.Proof.Row.Basic
public import Idealize.ShloMosaic.Lib.KernelVsHost

@[expose] public section

set_option maxRecDepth 16384

/-! The output block of the body, row by row, over the extended reals. -/

noncomputable section

namespace Cert.Kernel2Ideal.Hand

open Cert.Kernel2Ideal.Gen
open Idealize.ShloMosaic Idealize.ShloMosaic.TcCoe

/-- A grid coordinate's place within its batch entry, as the body computes it. -/
def placeW (n : BitVec 32) : BitVec 32 :=
  let v4 : BitVec 32 := Scalar.select (Scalar.cmpi .eq 13#32 0#32) 1#32 13#32
  let v5 : BitVec 32 := Scalar.remsi n v4
  Scalar.select (Scalar.andi (Scalar.xori (Scalar.cmpi .slt v5 0#32) (Scalar.cmpi .slt v4 0#32)) (Scalar.cmpi .ne v5 0#32)) (Scalar.addi v5 v4) v5

/-- It is the remainder by 13. -/
theorem placeW_eq : ∀ n : Fin 26, placeW (BitVec.ofNat 32 n.val) = BitVec.ofNat 32 (n.val % 13) := by decide +kernel

/-- Whether a place is the first. -/
theorem first_bit : ∀ n : Fin 26, Scalar.cmpi .eq (placeW (BitVec.ofNat 32 n.val)) 0#32 = BitVec.ofBool (decide (n.val % 13 = 0)) := by decide +kernel

/-- Whether a place is the last. -/
theorem last_bit : ∀ n : Fin 26, Scalar.cmpi .eq (placeW (BitVec.ofNat 32 n.val)) 12#32 = BitVec.ofBool (decide (n.val % 13 = 12)) := by decide +kernel

/-- Whether a row is one of the first 16. -/
theorem head_bit : ∀ r : Fin 640, Scalar.cmpi .slt (BitVec.ofNat 32 r.val) 16#32 = BitVec.ofBool (decide (r.val < 16)) := by decide +kernel

/-- Whether a row is from row 528 on. -/
theorem tail_bit : ∀ r : Fin 640, Scalar.cmpi .sge (BitVec.ofNat 32 r.val) 528#32 = BitVec.ofBool (decide (528 ≤ r.val)) := by decide +kernel

/-- Rows rotated by 16 places, at an index. -/
theorem rot16 (x : Vec Ideal S640x1024 .f32) (r : Fin 640) (j : Fin 1024) :
    dynamicRotate 0 16#32 none x rotates_S640x1024_d0 (ix2 r j) = x (ix2 ⟨(r.val + 624) % 640, Nat.mod_lt _ (by omega)⟩ j) := by
  refine Idealize.ShloMosaic.dynamicRotate_apply _ _ _ _ _ _ fun b => ?_
  match b with
  | ⟨0, _⟩ => show (r.val + 624) % 640 = (r.val + 640 - 16) % 640; rfl
  | ⟨1, _⟩ => rfl

/-- Rows rotated by 528 places, at an index. -/
theorem rot528 (x : Vec Ideal S640x1024 .f32) (r : Fin 640) (j : Fin 1024) :
    dynamicRotate 0 528#32 none x rotates_S640x1024_d0 (ix2 r j) = x (ix2 ⟨(r.val + 112) % 640, Nat.mod_lt _ (by omega)⟩ j) := by
  refine Idealize.ShloMosaic.dynamicRotate_apply _ _ _ _ _ _ fun b => ?_
  match b with
  | ⟨0, _⟩ => show (r.val + 112) % 640 = (r.val + 640 - 528) % 640; rfl
  | ⟨1, _⟩ => rfl

/-- A choice on two conditions at once. -/
theorem select_and {α : Type} (p q : Prop) [Decidable p] [Decidable q] (x y : α) :
    Scalar.select (IntOp.andi (BitVec.ofBool (decide p)) (BitVec.ofBool (decide q))) x y = if p ∧ q then x else y := by
  by_cases hp : p <;> by_cases hq : q <;> simp only [hp, hq, decide_true, decide_false, and_true, and_false, if_true, if_false] <;> rfl

/-- The assembled rows at an index, their conditions as bits. -/
theorem hid_bits (i : grid0.Coords) (n : Fin 26) (hn : (i 0).val = n.val) (x0 : Vec Ideal S640x1024 .f32) (x1 : Vec Ideal S16x1024 .f32) (r : Fin 640) (j : Fin 1024) :
    hid (F := Ideal) i x0 x1 (ix2 r j)
      = if n.val % 13 = 12 ∧ 528 ≤ r.val then 0
        else if h : n.val % 13 = 0 ∧ r.val < 16 then x1 (ix2 ⟨r.val, h.2⟩ j)
        else if n.val % 13 = 0 then x0 (ix2 ⟨(r.val + 624) % 640, Nat.mod_lt _ (by omega)⟩ j)
        else if n.val % 13 = 12 then x0 (ix2 ⟨(r.val + 112) % 640, Nat.mod_lt _ (by omega)⟩ j)
        else x0 (ix2 r j) := by
  have h1 := first_bit n
  have h2 := last_bit n
  unfold placeW at h1 h2
  rw [← hn] at h1 h2
  have h3 := head_bit r
  have h4 := tail_bit r
  unfold hid k0_pay26 k0_pay23 k0_pay24 k0_pay25
  dsimp only
  rw [h1, h2]
  pointwise []
  rw [show IntOp.cmpi .slt (BitVec.ofNat 32 r.val) 16#32 = _ from h3, show IntOp.cmpi .sge (BitVec.ofNat 32 r.val) 528#32 = _ from h4, select_and, select_and, hn]
  by_cases p : n.val % 13 = 0
  · simp only [p, true_and, if_true]
    rw [rot16]
    by_cases q : r.val < 16
    · simp only [q, if_true, dif_pos]
    · simp only [q, if_false, dif_neg, not_false_eq_true]
  · simp only [p, false_and, if_false, dif_neg, not_false_eq_true]
    by_cases q : n.val % 13 = 12
    · simp only [q, if_true]; rw [rot528]
    · simp only [q, if_false]

/-- The normalised rows. -/
theorem nrm_apply (i : grid0.Coords) (x0 : Vec Ideal S640x1024 .f32) (x1 : Vec Ideal S16x1024 .f32) (x2 : Vec Ideal S1x1024 .f32) (r : Fin 640) (j : Fin 1024) :
    nrm (F := Ideal) i x0 x1 x2 (ix2 r j)
      = Row.normed (fun a => hid (F := Ideal) i x0 x1 (ix2 r a)) (fun a => x2 (ix2 0 a)) j := by
  unfold Row.normed hid nrm k0_pay27
  generalize k0_pay26 (F := Ideal) _ _ _ = y
  pointwise []

/-- The activation, row by row. -/
theorem actv_apply (n : FVec Ideal S640x1024 .bf16) (g u : Vec Ideal S1024x2816 .bf16) (r : Fin 640) (k : Fin 2816) :
    actv (F := Ideal) n g u (ix2 r k) = Row.act (fun a => n (ix2 r a)) (fun a b => g (ix2 a b)) (fun a b => u (ix2 a b)) k := by
  have hc : ∀ (w : Vec Ideal S1024x2816 .bf16) (a : Fin 1024), cols (F := Ideal) w ⟨k.val / 256, by omega⟩ (ix2 a ⟨k.val % 256, Nat.mod_lt _ (by omega)⟩) = w (ix2 a k) := fun w a =>
    congrArg w (Shape.idx_ext₂ rfl (by show 256 * (k.val / 256) + k.val % 256 = k.val; omega))
  have e : actv (F := Ideal) n g u (ix2 r k)
      = k0_pay28 (F := Ideal) n (cols g ⟨k.val / 256, by omega⟩) n (cols u ⟨k.val / 256, by omega⟩) (ix2 r ⟨k.val % 256, Nat.mod_lt _ (by omega)⟩) := by
    unfold actv
    exact congrArg (k0_pay28 (F := Ideal) n (cols g ⟨k.val / 256, by omega⟩) n (cols u ⟨k.val / 256, by omega⟩)) (Shape.idx_ext₂ rfl rfl)
  rw [e]
  unfold Row.act Row.prod
  simp only [← hc]
  generalize cols (F := Ideal) g _ = g'
  generalize cols (F := Ideal) u _ = u'
  pointwise [k0_pay28]

/-- The output block, row by row, from the assembled rows. -/
theorem outv_apply (i : grid0.Coords) (x0 : Vec Ideal S640x1024 .f32) (x1 : Vec Ideal S16x1024 .f32) (x2 : Vec Ideal S1x1024 .f32)
    (g u : Vec Ideal S1024x2816 .bf16) (d : Vec Ideal S2816x1024 .bf16) (r : Fin 640) (j : Fin 1024) :
    outv (F := Ideal) i x0 x1 x2 g u d (ix2 r j)
      = Row.half (fun a => hid (F := Ideal) i x0 x1 (ix2 r a))
          (fun a => x2 (ix2 0 a)) (fun a b => g (ix2 a b)) (fun a b => u (ix2 a b)) (fun a b => d (ix2 a b)) j := by
  have e : outv (F := Ideal) i x0 x1 x2 g u d (ix2 r j)
      = hid (F := Ideal) i x0 x1 (ix2 r j) + Ideal.ofBits .f32 0x3F000000#32
          * Row.prod (fun k => actv (F := Ideal) (nrm i x0 x1 x2) g u (ix2 r k)) (fun a b => d (ix2 a b)) j := by
    unfold outv Row.prod
    generalize hid (F := Ideal) i x0 x1 = y
    generalize actv (F := Ideal) _ _ _ = z
    pointwise [k0_pay2]
  rw [e]
  simp only [actv_apply, nrm_apply]
  rfl

end Cert.Kernel2Ideal.Hand

end
-- ==== Proof.Pre.Ref.lean ====
module

public import proofs.«01_k».proof.Proof.Gen.Reference2Ideal.Read
public import proofs.«01_k».proof.Proof.Row.Basic

@[expose] public section

set_option maxRecDepth 16384

/-! What the reference of the first call computes, row by row, over the extended reals. -/

noncomputable section

namespace Cert.Reference2Ideal.Hand

open Cert.Reference2Ideal Cert.Reference2Ideal.Gen Cert.Reference2Ideal.Read
open Idealize.ShloMosaic Idealize.ShloMosaic.TcCoe

/-- Row `s` of the assembled sequence of batch entry `b`: 16 rows of prefix, then the input's 8192, then zeros. -/
def joined (x : Fin 2 → Fin 8192 → Fin 1024 → EReal) (p : Fin 16 → Fin 1024 → EReal) (b : Fin 2) (s : Fin 8320) (j : Fin 1024) : EReal :=
  if h : s.val < 16 then p ⟨s.val, h⟩ j
  else if h : s.val < 8208 then x b ⟨s.val - 16, by omega⟩ j
  else 0

/-- The padding value is zero. -/
theorem pad_zero (y : S_.Idx) : val_main_call0_v0 (F := Ideal) y = 0 := by
  show (((0#32 : BitVec 32).toInt : ℝ) : EReal) = 0
  simp

/-- The assembled rows. -/
theorem v3_apply (x0 : (⟨S2x8192x1024, .f32⟩ : BufTy).Contents (Elt Ideal)) (x1 : (⟨S16x1024, .f32⟩ : BufTy).Contents (Elt Ideal)) (b : Fin 2) (s : Fin 8320) (j : Fin 1024) :
    val_main_v3 (F := Ideal) x0 x1 (ix3 b s j)
      = joined (fun b s j => x0 (ix3 b s j)) (fun s j => x1 (ix2 s j)) b s j := by
  unfold joined
  pointwise [val_main_v3, val_main_v2, val_main_v1, val_main_v0, pad_zero]
  by_cases p : s.val < 16
  · simp only [p, dif_pos, show s.val < 8208 from by omega]
  · simp only [p, dif_neg, not_false_eq_true]

/-- The normalised rows. -/
theorem v17_apply (x0 : (⟨S2x8192x1024, .f32⟩ : BufTy).Contents (Elt Ideal)) (x1 : (⟨S16x1024, .f32⟩ : BufTy).Contents (Elt Ideal)) (x2 : (⟨S1x1024, .f32⟩ : BufTy).Contents (Elt Ideal)) (b : Fin 2) (s : Fin 8320) (j : Fin 1024) :
    val_main_v17 (F := Ideal) x0 x1 x2 (ix3 b s j)
      = Row.normed (fun a => val_main_v3 (F := Ideal) x0 x1 (ix3 b s a)) (fun a => x2 (ix2 0 a)) j := by
  unfold val_main_v17 val_main_v14 val_main_v13 val_main_v12 val_main_v11 val_main_v9 val_main_v7 val_main_v6 val_main_v5 Row.normed
  generalize val_main_v3 (F := Ideal) x0 x1 = y
  pointwise [val_main_v16, val_main_v15, val_main_v4, val_main_v10, val_main_v8, val_main_cst, val_main_cst_0, val_main_cst_1]

/-- The gated activation. -/
theorem v24_apply (x0 : (⟨S2x8192x1024, .f32⟩ : BufTy).Contents (Elt Ideal)) (x1 : (⟨S16x1024, .f32⟩ : BufTy).Contents (Elt Ideal)) (x2 : (⟨S1x1024, .f32⟩ : BufTy).Contents (Elt Ideal)) (x3 : (⟨S1x1024x2816, .f32⟩ : BufTy).Contents (Elt Ideal)) (x4 : (⟨S1x1024x2816, .f32⟩ : BufTy).Contents (Elt Ideal)) (b : Fin 2) (s : Fin 8320) (k : Fin 2816) :
    val_main_v24 (F := Ideal) x0 x1 x2 x3 x4 (ix3 b s k)
      = Row.act (fun a => val_main_v17 (F := Ideal) x0 x1 x2 (ix3 b s a)) (fun a c => x3 (ix3 0 a c)) (fun a c => x4 (ix3 0 a c)) k := by
  unfold val_main_v24 val_main_v23 val_main_v22 val_main_call1_v5 val_main_call1_v3 val_main_call1_v1 val_main_call1_v0 val_main_v21 Row.act Row.prod Ideal.logistic
  generalize val_main_v17 (F := Ideal) x0 x1 x2 = y
  pointwise [val_main_call1_v4, val_main_call1_v2, val_main_call1_cst, val_main_call1_cst_0, val_main_v18, val_main_v19]

/-- The rows with half the feed-forward step added. -/
theorem v28_apply (x0 : (⟨S2x8192x1024, .f32⟩ : BufTy).Contents (Elt Ideal)) (x1 : (⟨S16x1024, .f32⟩ : BufTy).Contents (Elt Ideal)) (x2 : (⟨S1x1024, .f32⟩ : BufTy).Contents (Elt Ideal)) (x3 : (⟨S1x1024x2816, .f32⟩ : BufTy).Contents (Elt Ideal)) (x4 : (⟨S1x1024x2816, .f32⟩ : BufTy).Contents (Elt Ideal)) (x5 : (⟨S1x2816x1024, .f32⟩ : BufTy).Contents (Elt Ideal)) (b : Fin 2) (s : Fin 8320) (j : Fin 1024) :
    val_main_v28 (F := Ideal) x0 x1 x2 x3 x4 x5 (ix3 b s j)
      = Row.half (joined (fun b s j => x0 (ix3 b s j)) (fun s j => x1 (ix2 s j)) b s)
          (fun a => x2 (ix2 0 a)) (fun a c => x3 (ix3 0 a c)) (fun a c => x4 (ix3 0 a c)) (fun a c => x5 (ix3 0 a c)) j := by
  have e : val_main_v28 (F := Ideal) x0 x1 x2 x3 x4 x5 (ix3 b s j)
      = val_main_v3 (F := Ideal) x0 x1 (ix3 b s j) + Ideal.ofBits .f32 0x3F000000#32
          * Row.prod (fun k => val_main_v24 (F := Ideal) x0 x1 x2 x3 x4 (ix3 b s k)) (fun a c => x5 (ix3 0 a c)) j := by
    unfold val_main_v28 val_main_v27 val_main_v25 Row.prod
    generalize val_main_v3 (F := Ideal) x0 x1 = y
    generalize val_main_v24 (F := Ideal) x0 x1 x2 x3 x4 = z
    pointwise [val_main_v26, val_main_cst_2, val_main_v20]
  rw [e]
  simp only [v24_apply, v17_apply, v3_apply]
  rfl

/-- The result: row `8320 b + s` is row `s` of batch entry `b`. -/
theorem v29_apply (x0 : (⟨S2x8192x1024, .f32⟩ : BufTy).Contents (Elt Ideal)) (x1 : (⟨S16x1024, .f32⟩ : BufTy).Contents (Elt Ideal)) (x2 : (⟨S1x1024, .f32⟩ : BufTy).Contents (Elt Ideal)) (x3 : (⟨S1x1024x2816, .f32⟩ : BufTy).Contents (Elt Ideal)) (x4 : (⟨S1x1024x2816, .f32⟩ : BufTy).Contents (Elt Ideal)) (x5 : (⟨S1x2816x1024, .f32⟩ : BufTy).Contents (Elt Ideal)) (q : Fin 16640) (j : Fin 1024) (b : Fin 2) (s : Fin 8320) (hb : b.val = q.val / 8320) (hs : s.val = q.val % 8320) :
    val_main_v29 (F := Ideal) x0 x1 x2 x3 x4 x5 (ix2 q j)
      = Row.half (joined (fun b s j => x0 (ix3 b s j)) (fun s j => x1 (ix2 s j)) b s)
          (fun a => x2 (ix2 0 a)) (fun a c => x3 (ix3 0 a c)) (fun a c => x4 (ix3 0 a c)) (fun a c => x5 (ix3 0 a c)) j := by
  rw [← v28_apply, val_main_v29_apply]
  refine congrArg _ (funext fun a => Fin.ext ?_)
  have hj := j.isLt
  match a with
  | ⟨0, _⟩ => show (q.val * 1024 + j.val) / 8519680 = b.val; omega
  | ⟨1, _⟩ => show (q.val * 1024 + j.val) / 1024 % 8320 = s.val; omega
  | ⟨2, _⟩ => show (q.val * 1024 + j.val) % 1024 = j.val; omega

end Cert.Reference2Ideal.Hand

end
-- ==== Proof.Pre.Value.lean ====
module

public import proofs.«01_k».proof.Proof.Pre.Run
public import proofs.«01_k».proof.Proof.Pre.Pure
public import proofs.«01_k».proof.Proof.Pre.Ref
public import Idealize.ShloMosaic.Lib.Pipeline.ValueKit

@[expose] public section

set_option maxRecDepth 16384

/-! The result array of the run is the reference's. -/

noncomputable section

namespace Cert.Kernel2Ideal.Hand

open Cert.Kernel2Ideal.Gen
open Cert.Reference2Ideal.Hand (joined)
open Idealize.ShloMosaic Idealize.ShloMosaic.TcCoe Idealize.ShloMosaic.Tactic
open Idealize.SL Idealize.SL.RA Idealize.SL.Sem
open Idealize.ShloMosaic.Pipeline (Dat Cfg Window)

/-- Rows laid under one another: row `8192 b + s` is row `s` of batch entry `b`. -/
theorem flat1024 {α : Type} (x : S2x8192x1024.Idx → α) (q : Fin 16384) (a : Fin 1024) (b : Fin 2) (s : Fin 8192) (h : q.val = b.val * 8192 + s.val) :
    shapeCast S16384x1024 x shapeCasts_S2x8192x1024_S16384x1024 (ix2 q a) = x (ix3 b s a) := by
  refine shapeCast_apply x _ _ _ ?_
  rw [Shape.rowMajor_val_two, Shape.rowMajor_val_three]
  show (b.val * 8192 + s.val) * 1024 + a.val = q.val * 1024 + a.val
  rw [h]

/-- A weight without its leading unit axis, at an index. -/
theorem drop1024x2816 {α : Type} (x : S1x1024x2816.Idx → α) (a : Fin 1024) (b : Fin 2816) :
    shapeCast S1024x2816 x (show S1x1024x2816.ShapeCasts S1024x2816 by decide) (ix2 a b) = x (ix3 0 a b) := by
  refine shapeCast_apply x _ _ _ ?_
  rw [Shape.rowMajor_val_two, Shape.rowMajor_val_three]
  show (0 * 1024 + a.val) * 2816 + b.val = a.val * 2816 + b.val
  omega

/-- A weight without its leading unit axis, at an index. -/
theorem drop2816x1024 {α : Type} (x : S1x2816x1024.Idx → α) (a : Fin 2816) (b : Fin 1024) :
    shapeCast S2816x1024 x (show S1x2816x1024.ShapeCasts S2816x1024 by decide) (ix2 a b) = x (ix3 0 a b) := by
  refine shapeCast_apply x _ _ _ ?_
  rw [Shape.rowMajor_val_two, Shape.rowMajor_val_three]
  show (0 * 2816 + a.val) * 1024 + b.val = a.val * 1024 + b.val
  omega

variable (m : (ℓ : Loc nD τ sig) → Buf (Elt Ideal) ℓ) (ρ : Dev nD → PrngReg)

/-- The input the region finds is the argument laid flat. -/
theorem V_v0 (c : Dev nD) : (V m c main_v0 : Vec Ideal S16384x1024 .f32)
    = shapeCast S16384x1024 (m ((c : Thread nD τ).loc main_arg0) : Vec Ideal S2x8192x1024 .f32) shapeCasts_S2x8192x1024_S16384x1024 := by
  show StableHlo.after hostOps0 _ (Proc.devRef .tc main_v0) = _
  after_results
  rfl

/-- The norm's gain the region finds is the argument. -/
theorem V_v2 (c : Dev nD) : (V m c main_v2 : Vec Ideal S1x1024 .f32) = (m ((c : Thread nD τ).loc main_arg2) : Vec Ideal S1x1024 .f32) := by
  have e : (V m c main_v2 : Vec Ideal S1x1024 .f32) = shapeCast S1x1024 (shapeCast S1024 (m ((c : Thread nD τ).loc main_arg2) : Vec Ideal S1x1024 .f32) shapeCasts_S1x1024_S1024) shapeCasts_S1024_S1x1024 := by
    show StableHlo.after hostOps0 _ (Proc.devRef .tc main_v2) = _
    after_results
    rfl
  rw [e, shapeCast_shapeCast]

/-! Where the windows lie at each point. -/

/-- The grid's one coordinate is the point's number. -/
theorem coord : ∀ t : Fin cfg0.N, ((grid0.coords t) 0).val = t.val :=
  (by decide +kernel : ∀ t : Fin grid0.N, _)

/-- Window 0's place at a point: it starts 16 rows early, kept inside the batch entry. -/
theorem idx0 : ∀ t : Fin cfg0.N, win0_0.index t = ![t.val / 13 * 8192 + min (t.val % 13 * 640 - 16) 7552, 0] :=
  (by decide +kernel : ∀ t : Fin grid0.N, _)

/-- Window 1's place at a point. -/
theorem idx1 : ∀ t : Fin cfg0.N, win0_1.index t = ![0, 0] :=
  (by decide +kernel : ∀ t : Fin grid0.N, _)

/-- Window 2's place at a point. -/
theorem idx2 : ∀ t : Fin cfg0.N, win0_2.index t = ![0, 0] :=
  (by decide +kernel : ∀ t : Fin grid0.N, _)

/-- Window 3's place at a point. -/
theorem idx3 : ∀ t : Fin cfg0.N, win0_3.index t = ![t.val, 0] :=
  (by decide +kernel : ∀ t : Fin grid0.N, _)

/-- The rows of the input the body meets at a point. -/
theorem iblk0_apply (c : Dev nD) (t : Fin cfg0.N) (r : Fin 640) (a : Fin 1024) (b : Fin 2) (s : Fin 8192)
    (hb : b.val = t.val / 13) (hs : s.val = min (t.val % 13 * 640 - 16) 7552 + r.val) :
    (iblk m c 0 t : Vec Ideal S640x1024 .f32) (ix2 r a) = (m ((c : Thread nD τ).loc main_arg0) : Vec Ideal S2x8192x1024 .f32) (ix3 b s a) := by
  refine Eq.trans ?_ ((congrFun (V_v0 m c) (ix2 ⟨b.val * 8192 + s.val, by omega⟩ a)).trans (flat1024 _ _ a b s rfl))
  show (V m c main_v0 : Vec Ideal S16384x1024 .f32) ((win0_0.rect t).emb (ix2 r a)) = _
  refine congrArg (V m c main_v0 : Vec Ideal S16384x1024 .f32) (funext fun k => Fin.ext ?_)
  rw [Window.rect_emb_val_off, idx0]
  match k with
  | ⟨0, _⟩ => show (t.val / 13 * 8192 + min (t.val % 13 * 640 - 16) 7552) + r.val = b.val * 8192 + s.val; omega
  | ⟨1, _⟩ => exact Nat.zero_add _

/-- The prefix rows the body meets. -/
theorem iblk1_apply (c : Dev nD) (t : Fin cfg0.N) (r : Fin 16) (a : Fin 1024) :
    (iblk m c 1 t : Vec Ideal S16x1024 .f32) (ix2 r a) = (m ((c : Thread nD τ).loc main_arg1) : Vec Ideal S16x1024 .f32) (ix2 r a) := by
  refine Eq.trans ?_ (congrFun (V_main_arg1 m c) (ix2 r a))
  show (V m c main_arg1 : Vec Ideal S16x1024 .f32) ((win0_1.rect t).emb (ix2 r a)) = _
  refine congrArg (V m c main_arg1 : Vec Ideal S16x1024 .f32) (funext fun k => Fin.ext ?_)
  rw [Window.rect_emb_val win0_1, idx1]
  match k with
  | ⟨0, _⟩ => show 0 * 16 + r.val = r.val; omega
  | ⟨1, _⟩ => show 0 * 1024 + a.val = a.val; omega

/-- The gain the body meets. -/
theorem iblk2_apply (c : Dev nD) (t : Fin cfg0.N) (a : Fin 1024) :
    (iblk m c 2 t : Vec Ideal S1x1024 .f32) (ix2 0 a) = (m ((c : Thread nD τ).loc main_arg2) : Vec Ideal S1x1024 .f32) (ix2 0 a) := by
  refine Eq.trans ?_ (congrFun (V_v2 m c) (ix2 0 a))
  show (V m c main_v2 : Vec Ideal S1x1024 .f32) ((win0_2.rect t).emb (ix2 0 a)) = _
  refine congrArg (V m c main_v2 : Vec Ideal S1x1024 .f32) (funext fun k => Fin.ext ?_)
  rw [Window.rect_emb_val win0_2, idx2]
  match k with
  | ⟨0, _⟩ => rfl
  | ⟨1, _⟩ => show 0 * 1024 + a.val = a.val; omega

/-- The gate weight in scratch is the argument's. -/
theorem wg_apply (c : Dev nD) (a : Fin 1024) (b : Fin 2816) :
    wg16 (F := Ideal) c (V m c main_arg3) (ix2 a b) = (m ((c : Thread nD τ).loc main_arg3) : Vec Ideal S1x1024x2816 .f32) (ix3 0 a b) := by
  rw [V_main_arg3 m c]
  generalize (m ((c : Thread nD τ).loc main_arg3) : Vec Ideal S1x1024x2816 .f32) = f
  show wg32 (F := Ideal) c f (ix2 a b) = f (ix3 0 a b)
  refine Eq.trans ?_ (drop1024x2816 (f : Vec Ideal S1x1024x2816 .f32) a b)
  refine congrArg (f : Vec Ideal S1x1024x2816 .f32) (funext fun k => Fin.ext ?_)
  refine (ValueKit.rect_emb_unit_val (s := S1x1024x2816) ![0, 0, 0] S1x1024x2816.size inb_S1x1024x2816_S1x1024x2816_0_0_0 _ k).trans ?_
  match k with
  | ⟨0, _⟩ => exact Nat.zero_add _
  | ⟨1, _⟩ => exact Nat.zero_add _
  | ⟨2, _⟩ => exact Nat.zero_add _

/-- The up weight in scratch is the argument's. -/
theorem wu_apply (c : Dev nD) (a : Fin 1024) (b : Fin 2816) :
    wu16 (F := Ideal) c (V m c main_arg4) (ix2 a b) = (m ((c : Thread nD τ).loc main_arg4) : Vec Ideal S1x1024x2816 .f32) (ix3 0 a b) := by
  rw [V_main_arg4 m c]
  generalize (m ((c : Thread nD τ).loc main_arg4) : Vec Ideal S1x1024x2816 .f32) = f
  show wu32 (F := Ideal) c f (ix2 a b) = f (ix3 0 a b)
  refine Eq.trans ?_ (drop1024x2816 (f : Vec Ideal S1x1024x2816 .f32) a b)
  refine congrArg (f : Vec Ideal S1x1024x2816 .f32) (funext fun k => Fin.ext ?_)
  refine (ValueKit.rect_emb_unit_val (s := S1x1024x2816) ![0, 0, 0] S1x1024x2816.size inb_S1x1024x2816_S1x1024x2816_0_0_0 _ k).trans ?_
  match k with
  | ⟨0, _⟩ => exact Nat.zero_add _
  | ⟨1, _⟩ => exact Nat.zero_add _
  | ⟨2, _⟩ => exact Nat.zero_add _

/-- The down weight in scratch is the argument's. -/
theorem wd_apply (c : Dev nD) (a : Fin 2816) (b : Fin 1024) :
    wd16 (F := Ideal) c (V m c main_arg5) (ix2 a b) = (m ((c : Thread nD τ).loc main_arg5) : Vec Ideal S1x2816x1024 .f32) (ix3 0 a b) := by
  rw [V_main_arg5 m c]
  generalize (m ((c : Thread nD τ).loc main_arg5) : Vec Ideal S1x2816x1024 .f32) = f
  show wd32 (F := Ideal) c f (ix2 a b) = f (ix3 0 a b)
  refine Eq.trans ?_ (drop2816x1024 (f : Vec Ideal S1x2816x1024 .f32) a b)
  refine congrArg (f : Vec Ideal S1x2816x1024 .f32) (funext fun k => Fin.ext ?_)
  refine (ValueKit.rect_emb_unit_val (s := S1x2816x1024) ![0, 0, 0] S1x2816x1024.size inb_S1x2816x1024_S1x2816x1024_0_0_0 _ k).trans ?_
  match k with
  | ⟨0, _⟩ => exact Nat.zero_add _
  | ⟨1, _⟩ => exact Nat.zero_add _
  | ⟨2, _⟩ => exact Nat.zero_add _

/-- The rows the body assembles at a point are those of the assembled sequence. -/
theorem hid_rows (c : Dev nD) (t : Fin cfg0.N) (r : Fin 640) (a : Fin 1024) (b : Fin 2) (s : Fin 8320)
    (hb : b.val = t.val / 13) (hs : s.val = t.val % 13 * 640 + r.val) :
    hid (F := Ideal) (grid0.coords t) (iblk m c 0 t) (iblk m c 1 t) (ix2 r a)
      = joined (fun b s j => (m ((c : Thread nD τ).loc main_arg0) : Vec Ideal S2x8192x1024 .f32) (ix3 b s j))
          (fun s j => (m ((c : Thread nD τ).loc main_arg1) : Vec Ideal S16x1024 .f32) (ix2 s j)) b s a := by
  have ht : t.val < 26 := lt_of_lt_of_eq t.isLt (show cfg0.N = 26 from N_0)
  have hr := r.isLt
  rw [hid_bits (grid0.coords t) ⟨t.val, ht⟩ (coord t)]
  unfold joined
  dsimp only
  by_cases p : t.val % 13 = 0
  · rw [if_neg (by omega)]
    by_cases q : r.val < 16
    · rw [dif_pos ⟨p, q⟩, dif_pos (by omega), iblk1_apply]
      exact congrArg (fun k => (m ((c : Thread nD τ).loc main_arg1) : Vec Ideal S16x1024 .f32) (ix2 k a)) (Fin.ext (by show r.val = s.val; omega))
    · rw [dif_neg (by omega), if_pos p, dif_neg (by omega), dif_pos (by omega)]
      exact iblk0_apply m c t _ a b _ hb (by show s.val - 16 = min (t.val % 13 * 640 - 16) 7552 + (r.val + 624) % 640; omega)
  · by_cases p' : t.val % 13 = 12
    · by_cases q : 528 ≤ r.val
      · rw [if_pos ⟨p', q⟩, dif_neg (by omega), dif_neg (by omega)]
      · rw [if_neg (by omega), dif_neg (by omega), if_neg p, if_pos p', dif_neg (by omega), dif_pos (by omega)]
        exact iblk0_apply m c t _ a b _ hb (by show s.val - 16 = min (t.val % 13 * 640 - 16) 7552 + (r.val + 112) % 640; omega)
    · rw [if_neg (by omega), dif_neg (by omega), if_neg p, if_neg p', dif_neg (by omega), dif_pos (by omega)]
      exact iblk0_apply m c t _ a b _ hb (by show s.val - 16 = min (t.val % 13 * 640 - 16) 7552 + r.val; omega)

/-- What the reference computes of the launch's arguments. -/
def outG (c : Dev nD) : Vec Ideal S16640x1024 .f32 :=
  Cert.Reference2Ideal.Read.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- A row of the block left at a point is the reference's row. -/
theorem outB_apply (c : Dev nD) (t : Fin cfg0.N) (r : Fin 640) (j : Fin 1024) (q : Fin 16640) (hq : q.val = 640 * t.val + r.val) :
    outB m c t (ix2 r j) = outG m c (ix2 q j) := by
  have ht : t.val < 26 := lt_of_lt_of_eq t.isLt (show cfg0.N = 26 from N_0)
  have hr := r.isLt
  unfold outB outG
  rw [outv_apply, Cert.Reference2Ideal.Hand.v29_apply _ _ _ _ _ _ q j ⟨q.val / 8320, by omega⟩ ⟨q.val % 8320, by omega⟩ rfl rfl]
  have e0 := fun a => hid_rows m c t r a ⟨q.val / 8320, by omega⟩ ⟨q.val % 8320, by omega⟩ (by show q.val / 8320 = _; omega) (by show q.val % 8320 = _; omega)
  have e2 := iblk2_apply m c t
  have eg := wg_apply m c
  have eu := wu_apply m c
  have ed := wd_apply m c
  rw [show (fun a => hid (F := Ideal) (grid0.coords t) (iblk m c 0 t) (iblk m c 1 t) (ix2 r a)) = _ from funext e0,
    show (fun a => (iblk m c 2 t : Vec Ideal S1x1024 .f32) (ix2 0 a)) = _ from funext e2,
    show (fun a b => wg16 (F := Ideal) c (V m c main_arg3) (ix2 a b)) = _ from funext fun a => funext (eg a),
    show (fun a b => wu16 (F := Ideal) c (V m c main_arg4) (ix2 a b)) = _ from funext fun a => funext (eu a),
    show (fun a b => wd16 (F := Ideal) c (V m c main_arg5) (ix2 a b)) = _ from funext fun a => funext (ed a)]

/-- The result array after every write-back. -/
theorem final (c : Dev nD) : (dats m 0 c).arrAt 3 cfg0.N = outG m c := by
  refine (dats m 0 c).arrAt_eq_of_covers 3 _ (by decide +kernel) fun t hf y => ?_
  have ht : t.val < 26 := lt_of_lt_of_eq t.isLt (show cfg0.N = 26 from N_0)
  rw [after0_3]
  have hy0 : (y 0).val < 640 := (y 0).isLt
  show outB m c t y = outG m c ((win0_3.rect t).emb y)
  have ey : y = ix2 (y 0) (y 1) := Shape.idx_ext₂ rfl rfl
  have ee : (win0_3.rect t).emb y = ix2 (⟨640 * t.val + (y 0).val, by omega⟩ : Fin 16640) (y 1) := by
    refine funext fun k => Fin.ext ?_
    rw [Window.rect_emb_val win0_3, idx3]
    match k with
    | ⟨0, _⟩ => show t.val * 640 + (y 0).val = 640 * t.val + (y 0).val; omega
    | ⟨1, _⟩ => show 0 * 1024 + (y 1).val = (y 1).val; omega
  rw [ee]
  exact (congrArg (outB m c t) ey).trans (outB_apply m c t (y 0) (y 1) _ rfl)

/-- The launch with its result named: the reference's value, the arguments unchanged. -/
theorem run_value : θ_run defs (onTc (τ := τ) (main (F := Ideal))) ⟨m, fun _ => 0, ρ⟩ (fun r => ∀ c : Dev nD,
      r.2.mem ((c.tc : Thread nD τ).loc main_v3) = outG m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h.1 c).1 3).trans (final m c), h.2.1 c⟩)
    (θ_run_and ((θ_run defs _ _).mono (fun _ h => h.1) (run_main m ρ)) (frame_quiet m ρ))

end Cert.Kernel2Ideal.Hand

end
-- ==== Proof.In.Kit.lean ====
module

public import proofs.«01_k».proof.Proof.Gen.Kernel3Ideal.Frame
public import proofs.«01_k».proof.Proof.Gen.Kernel3Ideal.Skeleton

@[expose] public section

set_option maxRecDepth 16384

/-! The set-up of the second call's launch: names of the staging memrefs, the scratch, the array left in HBM and the
    body's own semaphores, and the invariant of the launch conjunct by conjunct. -/

noncomputable section

namespace Cert.Kernel3Ideal.Hand

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 800000 in
/-- The program up to its one region, for a proof whose body makes transfers of its own. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- An input window's staging buffer holds its block at every point, fetched there or not, for any proof data whose array
    is the one the region finds and whose body leaves the block in place. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same of window 1. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The same of window 2. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- The same of window 3. -/
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- The same of window 4. -/
theorem before0_4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- The same of window 5. -/
theorem before0_5_of {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- The same of window 6. -/
theorem before0_6_of {c : Dev nD} (dat : Dat τ (Elt F) Unit ℕ (Pipeline.UD sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- The same of window 7. -/
theorem before0_7_of {c : Dev nD} (dat : Dat τ (Elt F) Unit ℕ (Pipeline.UD sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 26 = 0 :=
  (fun t => by
    have ht : t.val < 26 := Nat.lt_of_lt_of_eq t.isLt N_0
    have e0 : (grid0.coords t 0).val = t.val / 1 % 26 := Pipeline.Grid.coords_val t 0 (by decide) rfl
    simp only [cond0_0, e0]
    word_cmp
   : ∀ t : Fin grid0.N, cond0_0 (grid0.coords t) ↔ t.val % 26 = 0)

/-- Each window's current staging memref at point `t`, and its wholeness. -/
abbrev ms0_0 (t : Fin cfg0.N) : Memref sig .tc .vmem S640x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S640x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S640x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S640x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x256 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S640x512 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S640x512 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S640x512 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S640x1920 .f32 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S1024x3456 .bf16 := Memref.whole cc0_scratch0
abbrev scM0_1 : Memref sig .tc .vmem S2x256x3360 .f32 := Memref.whole cc0_scratch1
/-- The operand left in HBM that the body copies into scratch itself, whole. -/
abbrev hbM0_0 : Memref sig .tc .hbm S1x1024x3360 .f32 := Memref.whole main_arg2
/-- A memref's buffer on core `c`: the type of its contents, and it held whole at `f`. -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own semaphores, cell by cell. -/
abbrev osem0 : Fin 2 → SemLoc sig := fun j => (![SemLoc.dma 20, SemLoc.dma 21] : Fin 2 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 20) 0 ∗ semVal ((c : Thread nD τ), SemLoc.dma 21) 0) := by
  rw [Pipeline.ownSems0_eq_of_list c osem0 [0, 1] (by decide) (by decide)]; rfl
/-- The HBM operand the body moves, as a reference. -/
def H0 : Finset (Ref sig .tc) := {main_arg2}
theorem H0_sub : H0 ⊆ Pipeline.restRefs sig spec0 := by decide
/-- Its points-to at the launch contents. -/
theorem hbmPts0_eq (c : Dev nD) :
    (bigSep H0 (fun b => ((c : Thread nD τ).loc b) ↦{fullShare} V m c b) : sProp 𝕄) = iprop(hbPt0 c hbM0_0 (V m c main_arg2)) := by
  rw [BI.bigSep_eq_bigSepL_of_eq [main_arg2] (by decide) (by decide)]; rfl

/-- The invariant of a body with transfers of its own, conjunct by conjunct. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d)) ∗ (∃ r, prngReg c r) ∗ iprop(semVal ((c : Thread nD τ), SemLoc.dma 20) 0 ∗ semVal ((c : Thread nD τ), SemLoc.dma 21) 0) ∗ iprop(hbPt0 c hbM0_0 (V m c main_arg2))) := by
  rw [Pipeline.ΦD_eq, scopedRest0_eq, ownSems00_eq, hbmPts0_eq]; simp only [scM0_0, scM0_1, owns_whole]; try rfl

end Cert.Kernel3Ideal.Hand

end
-- ==== Proof.In.Fetch.lean ====
module

public import proofs.«01_k».proof.Proof.In.Kit
public import proofs.«01_k».proof.Proof.Mix.Slab

@[expose] public section

set_option maxRecDepth 16384

/-! The first point's fetch of the weight, as a program of its own, and its run. -/

noncomputable section

namespace Cert.Kernel3Ideal.Hand

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- What the first point does before the rest of the body: the weight copied in slabs from HBM, narrowed and stored into
    its scratch, the columns past it zeroed. -/
def fetchP (i : grid0.Coords) (arg1 : Memref sig .tc .vmem S640x1024 .f32) (harg1 : arg1.IsWhole) (arg2 : Memref sig .tc .vmem S1x1024 .f32) (harg2 : arg2.IsWhole) (arg3 : Memref sig .tc .hbm S1x1024x3360 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S640x128 .f32) (harg6 : arg6.IsWhole) (arg7 : Memref sig .tc .vmem S640x128 .f32) (harg7 : arg7.IsWhole) (arg8 : Memref sig .tc .vmem S640x128 .f32) (harg8 : arg8.IsWhole) (arg9 : Memref sig .tc .vmem S256x256 .bf16) (harg9 : arg9.IsWhole) (arg10 : Memref sig .tc .vmem S640x512 .bf16) (harg10 : arg10.IsWhole) (arg11 : Memref sig .tc .vmem S640x512 .bf16) (harg11 : arg11.IsWhole) (arg12 : Memref sig .tc .vmem S640x512 .bf16) (harg12 : arg12.IsWhole) (arg13 : Memref sig .tc .vmem S640x1920 .f32) (harg13 : arg13.IsWhole) (arg14 : Memref sig .tc .vmem S1024x3456 .bf16) (harg14 : arg14.IsWhole) (arg15 : Memref sig .tc .vmem S2x256x3360 .f32) (harg15 : arg15.IsWhole) (arg16 : DmaSems sig S2) :
    Prog (TpuEff nD τ sig (Elt F) Λ₀ .tc) PUnit := do
  let ⟨v168, v169⟩ : Σ' (v168 : FVec F S256x3360 .bf16), Vec F S256x3360 .bf16 ← k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16
  k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v168 v169
  let v221 : FVec F S256x3360 .bf16 ← k0_part3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16
  let v222 : Vec F S256x3360 .bf16 ← Prog.lift (.load arg14 (Rect.unit (s := S1024x3456) ![768, 0] S256x3360.size inb_S1024x3456_S256x3360_768_0).toLoadRect (View.loadsAt_vmem h_S256x3360))
  Prog.lift (.store arg14 (Rect.unit (s := S1024x3456) ![768, 0] S256x3360.size inb_S1024x3456_S256x3360_768_0) (k0_pay9 v221) Finset.univ (View.stores_vmem h_S256x3360 (harg14.storeExact_slice rfl _ packedbf16_S1024x3456_S256x3360_768_0) (fun _ => rfl)) (.inl rfl))
  let v226 : Vec F S1024x96 .bf16 ← Prog.lift (.load arg14 (Rect.unit (s := S1024x3456) ![0, 3360] S1024x96.size inb_S1024x3456_S1024x96_0_3360).toLoadRect (View.loadsAt_vmem h_S1024x96))
  Prog.lift (.store arg14 (Rect.unit (s := S1024x3456) ![0, 3360] S1024x96.size inb_S1024x3456_S1024x96_0_3360) (k0_pay10 (F := F)) Finset.univ (View.stores_vmem h_S1024x96 (harg14.storeExact_slice rfl _ packedbf16_S1024x3456_S1024x96_0_3360) (fun _ => rfl)) (.inl rfl))
  pure ⟨⟩

/-- What every point does once the weight is in scratch. -/
def restP (i : grid0.Coords) (arg1 : Memref sig .tc .vmem S640x1024 .f32) (harg1 : arg1.IsWhole) (arg2 : Memref sig .tc .vmem S1x1024 .f32) (harg2 : arg2.IsWhole) (arg3 : Memref sig .tc .hbm S1x1024x3360 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S640x128 .f32) (harg6 : arg6.IsWhole) (arg7 : Memref sig .tc .vmem S640x128 .f32) (harg7 : arg7.IsWhole) (arg8 : Memref sig .tc .vmem S640x128 .f32) (harg8 : arg8.IsWhole) (arg9 : Memref sig .tc .vmem S256x256 .bf16) (harg9 : arg9.IsWhole) (arg10 : Memref sig .tc .vmem S640x512 .bf16) (harg10 : arg10.IsWhole) (arg11 : Memref sig .tc .vmem S640x512 .bf16) (harg11 : arg11.IsWhole) (arg12 : Memref sig .tc .vmem S640x512 .bf16) (harg12 : arg12.IsWhole) (arg13 : Memref sig .tc .vmem S640x1920 .f32) (harg13 : arg13.IsWhole) (arg14 : Memref sig .tc .vmem S1024x3456 .bf16) (harg14 : arg14.IsWhole) (arg15 : Memref sig .tc .vmem S2x256x3360 .f32) (harg15 : arg15.IsWhole) (arg16 : DmaSems sig S2) :
    Prog (TpuEff nD τ sig (Elt F) Λ₀ .tc) PUnit := do
  let v3 : Vec F S640x1024 .f32 ← Prog.lift (.load arg1 (Rect.unit (s := S640x1024) ![0, 0] S640x1024.size inb_S640x1024_S640x1024_0_0).toLoadRect (View.loadsAt_vmem h_S640x1024))
  let v5 : Vec F S1x1024 .f32 ← Prog.lift (.load arg2 (Rect.unit (s := S1x1024) ![0, 0] S1x1024.size inb_S1x1024_S1x1024_0_0).toLoadRect (View.loadsAt_vmem h_S1x1024))
  let v20 : Vec F S640x128 .f32 ← Prog.lift (.load arg6 (Rect.unit (s := S640x128) ![0, 0] S640x128.size inb_S640x128_S640x128_0_0).toLoadRect (View.loadsAt_vmem h_S640x128))
  let v22 : Vec F S640x128 .f32 ← Prog.lift (.load arg7 (Rect.unit (s := S640x128) ![0, 0] S640x128.size inb_S640x128_S640x128_0_0).toLoadRect (View.loadsAt_vmem h_S640x128))
  let v24 : Vec F S640x128 .f32 ← Prog.lift (.load arg8 (Rect.unit (s := S640x128) ![0, 0] S640x128.size inb_S640x128_S640x128_0_0).toLoadRect (View.loadsAt_vmem h_S640x128))
  let v26 : Vec F S256x256 .bf16 ← Prog.lift (.load arg9 (Rect.unit (s := S256x256) ![0, 0] S256x256.size inb_S256x256_S256x256_0_0).toLoadRect (View.loadsAt_vmem h_S256x256))
  let v28 : Vec F S1024x512 .bf16 ← Prog.lift (.load arg14 (Rect.unit (s := S1024x3456) ![0, 0] S1024x512.size inb_S1024x3456_S1024x512_0_0).toLoadRect (View.loadsAt_vmem h_S1024x512))
  let v30 : Vec F S1024x512 .bf16 ← Prog.lift (.load arg14 (Rect.unit (s := S1024x3456) ![0, 512] S1024x512.size inb_S1024x3456_S1024x512_0_512).toLoadRect (View.loadsAt_vmem h_S1024x512))
  let ⟨v73, v77⟩ : Σ' (v73 : FVec F S640x256 .f32), FVec F S640x256 .f32 ← k0_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 (k0_pay15 v26) (k0_pay16 v3 v5 v28) (k0_pay18 v20) (k0_pay19 v22) (k0_pay20 v24)
  let ⟨v85, v86, v87, v113, v118, cst_48⟩ : Σ' (v85 : FVec F S640x256 .f32) (v86 : FVec F S640x256 .f32) (v87 : FVec F S640x256 .f32) (v113 : FVec F S640x256 .f32) (v118 : FVec F S640x256 .f32), F .f32 ← k0_part6 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 (k0_pay12 v20) (k0_pay13 v22) (k0_pay14 v24) (k0_pay15 v26) (k0_pay17 v3 v5 v30) (k0_pay20 v24) v73 v77
  let v123 : Vec F S1x256 .f32 ← Prog.lift (.load arg5 (Rect.unit (s := S1x512) ![0, 256] S1x256.size inb_S1x512_S1x256_0_256).toLoadRect (View.loadsAt_vmem h_S1x256))
  let v137 : Vec F S640x256 .bf16 ← Prog.lift (.load arg11 (Rect.unit (s := S640x512) ![0, 256] S640x256.size inb_S640x512_S640x256_0_256).toLoadRect (View.loadsAt_vmem h_S640x256))
  Prog.lift (.store arg11 (Rect.unit (s := S640x512) ![0, 256] S640x256.size inb_S640x512_S640x256_0_256) (k0_pay1 v85 v86 v87 v113 v118 cst_48 v123) Finset.univ (View.stores_vmem h_S640x256 (harg11.storeExact_slice rfl _ packedbf16_S640x512_S640x256_0_256) (fun _ => rfl)) (.inl rfl))
  let v138 : Vec F S1024x512 .bf16 ← Prog.lift (.load arg14 (Rect.unit (s := S1024x3456) ![0, 1024] S1024x512.size inb_S1024x3456_S1024x512_0_1024).toLoadRect (View.loadsAt_vmem h_S1024x512))
  let v141 : Vec F S640x512 .bf16 ← Prog.lift (.load arg12 (Rect.unit (s := S640x512) ![0, 0] S640x512.size inb_S640x512_S640x512_0_0).toLoadRect (View.loadsAt_vmem h_S640x512))
  Prog.lift (.store arg12 (Rect.unit (s := S640x512) ![0, 0] S640x512.size inb_S640x512_S640x512_0_0) (k0_pay2 (k0_pay11 v3 v5) v138) Finset.univ (View.stores_vmem h_S640x512 (harg12.storeExact_slice rfl _ packedbf16_S640x512_S640x512_0_0) (fun _ => rfl)) (.inl rfl))
  let v142 : Vec F S1024x1920 .bf16 ← Prog.lift (.load arg14 (Rect.unit (s := S1024x3456) ![0, 1536] S1024x1920.size inb_S1024x3456_S1024x1920_0_1536).toLoadRect (View.loadsAt_vmem h_S1024x1920))
  let v144 : Vec F S640x1920 .f32 ← Prog.lift (.load arg13 (Rect.unit (s := S640x1920) ![0, 0] S640x1920.size inb_S640x1920_S640x1920_0_0).toLoadRect (View.loadsAt_vmem h_S640x1920))
  Prog.lift (.store arg13 (Rect.unit (s := S640x1920) ![0, 0] S640x1920.size inb_S640x1920_S640x1920_0_0) (k0_pay3 (k0_pay11 v3 v5) v142) Finset.univ (View.stores_vmem_bits_univ h_S640x1920 rfl) (.inl rfl))
  pure ⟨⟩

/-- At the first point the body is the fetch, then the rest. -/
theorem body_first (i : grid0.Coords) (arg1 : Memref sig .tc .vmem S640x1024 .f32) (harg1 : arg1.IsWhole) (arg2 : Memref sig .tc .vmem S1x1024 .f32) (harg2 : arg2.IsWhole) (arg3 : Memref sig .tc .hbm S1x1024x3360 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S640x128 .f32) (harg6 : arg6.IsWhole) (arg7 : Memref sig .tc .vmem S640x128 .f32) (harg7 : arg7.IsWhole) (arg8 : Memref sig .tc .vmem S640x128 .f32) (harg8 : arg8.IsWhole) (arg9 : Memref sig .tc .vmem S256x256 .bf16) (harg9 : arg9.IsWhole) (arg10 : Memref sig .tc .vmem S640x512 .bf16) (harg10 : arg10.IsWhole) (arg11 : Memref sig .tc .vmem S640x512 .bf16) (harg11 : arg11.IsWhole) (arg12 : Memref sig .tc .vmem S640x512 .bf16) (harg12 : arg12.IsWhole) (arg13 : Memref sig .tc .vmem S640x1920 .f32) (harg13 : arg13.IsWhole) (arg14 : Memref sig .tc .vmem S1024x3456 .bf16) (harg14 : arg14.IsWhole) (arg15 : Memref sig .tc .vmem S2x256x3360 .f32) (harg15 : arg15.IsWhole) (arg16 : DmaSems sig S2) (hi : cond0_0 i) :
    cc0_mix_in (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 = (fetchP i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 >>= fun _ => restP i arg1 harg1 arg2 harg2 arg3 harg3 arg4 harg4 arg5 harg5 arg6 harg6 arg7 harg7 arg8 harg8 arg9 harg9 arg10 harg10 arg11 harg11 arg12 harg12 arg13 harg13 arg14 harg14 arg15 harg15 arg16) := by
  simp only [cc0_mix_in_eq_skeleton]; unfold cc0_mix_in_skel
  simp only [k0_part4_eq_skeleton]; unfold k0_part4_skel
  simp only [dif_pos hi]
  rfl

/-- At a later point it is the rest alone. -/
theorem body_later (i : grid0.Coords) (arg1 : Memref sig .tc .vmem S640x1024 .f32) (harg1 : arg1.IsWhole) (arg2 : Memref sig .tc .vmem S1x1024 .f32) (harg2 : arg2.IsWhole) (arg3 : Memref sig .tc .hbm S1x1024x3360 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S640x128 .f32) (harg6 : arg6.IsWhole) (arg7 : Memref sig .tc .vmem S640x128 .f32) (harg7 : arg7.IsWhole) (arg8 : Memref sig .tc .vmem S640x128 .f32) (harg8 : arg8.IsWhole) (arg9 : Memref sig .tc .vmem S256x256 .bf16) (harg9 : arg9.IsWhole) (arg10 : Memref sig .tc .vmem S640x512 .bf16) (harg10 : arg10.IsWhole) (arg11 : Memref sig .tc .vmem S640x512 .bf16) (harg11 : arg11.IsWhole) (arg12 : Memref sig .tc .vmem S640x512 .bf16) (harg12 : arg12.IsWhole) (arg13 : Memref sig .tc .vmem S640x1920 .f32) (harg13 : arg13.IsWhole) (arg14 : Memref sig .tc .vmem S1024x3456 .bf16) (harg14 : arg14.IsWhole) (arg15 : Memref sig .tc .vmem S2x256x3360 .f32) (harg15 : arg15.IsWhole) (arg16 : DmaSems sig S2) (hi : ¬cond0_0 i) :
    cc0_mix_in (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 = restP i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 := by
  simp only [cc0_mix_in_eq_skeleton]; unfold cc0_mix_in_skel
  simp only [k0_part4_eq_skeleton]; unfold k0_part4_skel
  simp only [dif_neg hi]
  rfl

/-- The weight as a matrix: the array the launch left in HBM without its leading unit axis. -/
def win32 (c : Dev nD) (fh : HbBuf0 (F := F) c hbM0_0) : Vec F S1024x3360 .f32 :=
  ((hbM0_0.slice (Rect.unit (s := S1x1024x3360) ![0, 0, 0] S1x1024x3360.size inb_S1x1024x3360_S1x1024x3360_0_0_0) (fun _ => rfl)).squeeze S1024x3360 squeezes_S1x1024x3360_S1024x3360).view.read (Elt F) fh

/-- The weight narrowed, with columns of zeros after its own: what its scratch holds from the first point on. -/
def win16 (c : Dev nD) (fh : HbBuf0 (F := F) c hbM0_0) : Vec F S1024x3456 .bf16 := fun y =>
  if h : (y 1).val < 3360 then truncf .bf16 (φ := .f32) (win32 c fh) bitsLt_bf16_f32 (fun a => match a with
    | ⟨0, _⟩ => y 0
    | ⟨1, _⟩ => ⟨(y 1).val, h⟩)
  else Scalar.ofBits .bf16 0x0000#16

/-- A slab of rows of the weight, as the scratch holds it. -/
theorem slab_rows (c : Dev nD) (fh : HbBuf0 (F := F) c hbM0_0) (k : ℕ) (inb : ∀ a, (![k, 0] : Fin 2 → ℕ) a + S256x3360.size a ≤ S1024x3456.size a)
    (inb' : ∀ a, (![k, 0] : Fin 2 → ℕ) a + S256x3360.size a ≤ S1024x3360.size a) (x : S256x3360.Idx) :
    truncf .bf16 (φ := .f32) (win32 c fh) bitsLt_bf16_f32 ((Rect.unit (s := S1024x3360) ![k, 0] S256x3360.size inb').emb x)
      = win16 c fh ((Rect.unit (s := S1024x3456) ![k, 0] S256x3360.size inb).emb x) := by
  have hx : (x 1).val < 3360 := (x 1).isLt
  have e : (((Rect.unit (s := S1024x3456) ![k, 0] S256x3360.size inb).emb x) 1).val = (x 1).val := by
    show 0 + 1 * (x 1).val = _; omega
  unfold win16
  rw [dif_pos (by rw [e]; exact hx)]
  refine congrArg _ (Shape.idx_ext₂ ?_ ?_)
  · rfl
  · show 0 + 1 * (x 1).val = 0 + 1 * (x 1).val; rfl

/-- The columns past the weight, as the scratch holds them. -/
theorem pad_cols (c : Dev nD) (fh : HbBuf0 (F := F) c hbM0_0) (x : S1024x96.Idx) :
    k0_pay10 (F := F) x = win16 c fh ((Rect.unit (s := S1024x3456) ![0, 3360] S1024x96.size inb_S1024x3456_S1024x96_0_3360).emb x) := by
  unfold win16
  rw [dif_neg (by show ¬ (3360 + 1 * (x 1).val < 3360); omega)]
  rfl

/-- A place between a rectangle's corners is in it. -/
theorem in_rect {a b n k : ℕ} (y : S1024x3456.Idx) (inb : ∀ x, (![a, b] : Fin 2 → ℕ) x + (![n, k] : Fin 2 → ℕ) x ≤ S1024x3456.size x)
    (h0 : a ≤ (y 0).val ∧ (y 0).val < a + n) (h1 : b ≤ (y 1).val ∧ (y 1).val < b + k) :
    y ∈ (Rect.unit (s := S1024x3456) ![a, b] ![n, k] inb).set :=
  Rect.mem_set_unit.mpr (Fin.forall_fin_two.mpr ⟨h0, h1⟩)

set_option maxHeartbeats 20000000 in
set_option sl_exec.dmaWindow true in
set_option sl_exec.dmaWindowSet true in
/-- The fetch's run: from any contents of the weight's scratch and of the staging buffer, the scratch ends at the weight
    narrowed, the array in HBM and the semaphores as they were. -/
theorem fetch_run (c : Dev nD) (i : grid0.Coords) (arg1 : Memref sig .tc .vmem S640x1024 .f32) (harg1 : arg1.IsWhole) (arg2 : Memref sig .tc .vmem S1x1024 .f32) (harg2 : arg2.IsWhole) (arg4 : Memref sig .tc .vmem S1x512 .f32) (harg4 : arg4.IsWhole) (arg5 : Memref sig .tc .vmem S1x512 .f32) (harg5 : arg5.IsWhole) (arg6 : Memref sig .tc .vmem S640x128 .f32) (harg6 : arg6.IsWhole) (arg7 : Memref sig .tc .vmem S640x128 .f32) (harg7 : arg7.IsWhole) (arg8 : Memref sig .tc .vmem S640x128 .f32) (harg8 : arg8.IsWhole) (arg9 : Memref sig .tc .vmem S256x256 .bf16) (harg9 : arg9.IsWhole) (arg10 : Memref sig .tc .vmem S640x512 .bf16) (harg10 : arg10.IsWhole) (arg11 : Memref sig .tc .vmem S640x512 .bf16) (harg11 : arg11.IsWhole) (arg12 : Memref sig .tc .vmem S640x512 .bf16) (harg12 : arg12.IsWhole) (arg13 : Memref sig .tc .vmem S640x1920 .f32) (harg13 : arg13.IsWhole) (arg14 : Memref sig .tc .vmem S1024x3456 .bf16) (harg14 : arg14.IsWhole) (arg15 : Memref sig .tc .vmem S2x256x3360 .f32) (harg15 : arg15.IsWhole) (fh0 : HbBuf0 (F := F) c hbM0_0)
    (W : Waits sig Unit) (K : PUnit → sProp 𝕄) :
    iprop((∃ d, owns (c : Thread nD τ) arg14 fullShare d) ∗ (∃ d, owns (c : Thread nD τ) arg15 fullShare d) ∗ semVal ((c : Thread nD τ), SemLoc.dma 20) 0 ∗ semVal ((c : Thread nD τ), SemLoc.dma 21) 0 ∗ hbPt0 c hbM0_0 fh0 ∗ owes (c : Thread nD τ) 0 W ∗ (iprop(owns (c : Thread nD τ) arg14 fullShare (win16 c fh0) ∗ (∃ d, owns (c : Thread nD τ) arg15 fullShare d) ∗ semVal ((c : Thread nD τ), SemLoc.dma 20) 0 ∗ semVal ((c : Thread nD τ), SemLoc.dma 21) 0 ∗ hbPt0 c hbM0_0 fh0 ∗ (∃ W', owes (c : Thread nD τ) 0 W')) -∗ K ⟨⟩))
      ⊢ wp frame (wpE (defs₀ (F := F)) Variants.none c none) Set.univ (fetchP i arg1 harg1 arg2 harg2 (Memref.whole main_arg2) (Memref.isWhole_whole _) arg4 harg4 arg5 harg5 arg6 harg6 arg7 harg7 arg8 harg8 arg9 harg9 arg10 harg10 arg11 harg11 arg12 harg12 arg13 harg13 arg14 harg14 arg15 harg15 cc0_scratch2) K := by
  unfold fetchP
  simp only [k0_part1_eq_skeleton, k0_part2_eq_skeleton, k0_part3_eq_skeleton]
  unfold owns
  iintro ⟨⟨%ds0, %fs0, -, HS0⟩, ⟨%ds1, %fs1, -, HS1⟩, Hq0, Hq1, Hh0, HW, Hk⟩
  sl_exec
  sl_step
  iapply Hk
  isplitl [HS0]
  · iexists _; isplitr
    swap; · iexact HS0
    ipureintro
    refine funext fun y => View.read_writes_apply_of_pieces _ _ _ _ ?_ y ?_
    · refine List.forall_mem_cons.mpr ⟨fun x => pad_cols c fh0 x, ?_⟩
      iterate 4 refine List.forall_mem_cons.mpr ⟨by (
        intro x
        simp only [k0_pay5, k0_pay6, k0_pay7, k0_pay9, shapeCast_self]
        try (first | delta fetch_run.sl.r | delta fetch_run.sl.r_2); simp only [k0_pay4, k0_pay8]
        first | delta fetch_run.sl.v166 | delta fetch_run.sl.v186 | delta fetch_run.sl.v206 | delta fetch_run.sl.v219
        first
          | (rw [Cert.Slab.read_miss, Cert.Slab.cast_read_hit]; swap; · exact Rect.unit_disjoint 0 (by decide))
          | rw [Cert.Slab.cast_read_hit]
        first | delta fetch_run.sl.dma0 | delta fetch_run.sl.dma0_1 | delta fetch_run.sl.dma3 | delta fetch_run.sl.dma6
        exact (Cert.Slab.narrow_rows _ _ _ _ _ _).trans (slab_rows c fh0 _ _ _ x))
, ?_⟩
      exact fun _ h => absurd h List.not_mem_nil
    · have h0 : (y 0).val < 1024 := (y 0).isLt
      have h1 : (y 1).val < 3456 := (y 1).isLt
      have hp : (3360 ≤ (y 1).val ∨ ((y 1).val < 3360 ∧ 768 ≤ (y 0).val)) ∨ ((y 1).val < 3360 ∧ 512 ≤ (y 0).val ∧ (y 0).val < 768)
          ∨ ((y 1).val < 3360 ∧ 256 ≤ (y 0).val ∧ (y 0).val < 512) ∨ ((y 1).val < 3360 ∧ (y 0).val < 256) := by omega
      rcases hp with (h | h) | h | h | h
      · exact ⟨_, .head _, in_rect y inb_S1024x3456_S1024x96_0_3360 (by omega) (by omega)⟩
      · exact ⟨_, .tail _ (.head _), in_rect y inb_S1024x3456_S256x3360_768_0 (by omega) (by omega)⟩
      · exact ⟨_, .tail _ (.tail _ (.head _)), in_rect y inb_S1024x3456_S256x3360_512_0 (by omega) (by omega)⟩
      · exact ⟨_, .tail _ (.tail _ (.tail _ (.head _))), in_rect y inb_S1024x3456_S256x3360_256_0 (by omega) (by omega)⟩
      · exact ⟨_, .tail _ (.tail _ (.tail _ (.tail _ (.head _)))), in_rect y inb_S1024x3456_S256x3360_0_0 (by omega) (by omega)⟩
  isplitl [HS1]
  · iexists _, _; isplitr; swap; · iexact HS1
    ipureintro; rfl
  isplitl [Hq0]; · iexact Hq0
  isplitl [Hq1]; · iexact Hq1
  isplitl [Hh0]; · iexact Hh0
  iexists _; iexact HW

end Cert.Kernel3Ideal.Hand

end
-- ==== Proof.In.Tail.lean ====
module

public import proofs.«01_k».proof.Proof.In.Fetch

@[expose] public section

set_option maxRecDepth 16384

/-! The rest of the body at every point: what it stores into the four output blocks, as functions of the input blocks and
    of the weight, and its run. -/

noncomputable section

namespace Cert.Kernel3Ideal.Hand

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Half `k` of 512 columns of the block, -/
def half (w : Vec F S640x512 .f32) (k : Fin 2) : Vec F S640x256 .f32 := fun p =>
  w fun a => match a with
    | ⟨0, _⟩ => p 0
    | ⟨1, _⟩ => ⟨256 * k.val + (p 1).val, by have h1 : (p 1).val < 256 := (p 1).isLt; have := k.isLt; show _ < 512; omega⟩

/-- and of a row. -/
def halfg (w : Vec F S1x512 .f32) (k : Fin 2) : Vec F S1x256 .f32 := fun p =>
  w fun a => match a with
    | ⟨0, _⟩ => p 0
    | ⟨1, _⟩ => ⟨256 * k.val + (p 1).val, by have h1 : (p 1).val < 256 := (p 1).isLt; have := k.isLt; show _ < 512; omega⟩

/-- The rows normalised, times columns `0 … 511` of the weight, -/
def prodq (x0 : Vec F S640x1024 .f32) (x1 : Vec F S1x1024 .f32) (w : Vec F S1024x3456 .bf16) : FVec F S640x512 .f32 :=
  k0_pay16 x0 x1 (View.ld w (Rect.unit (s := S1024x3456) ![0, 0] S1024x512.size inb_S1024x3456_S1024x512_0_0))

/-- and times columns `512 … 1023`. -/
def prodk (x0 : Vec F S640x1024 .f32) (x1 : Vec F S1x1024 .f32) (w : Vec F S1024x3456 .bf16) : FVec F S640x512 .f32 :=
  k0_pay16 x0 x1 (View.ld w (Rect.unit (s := S1024x3456) ![0, 512] S1024x512.size inb_S1024x3456_S1024x512_0_512))

/-- Four heads of 64 columns, each normalised by its own mean square and scaled by the gain. -/
def headNorm (x7 : Vec F S256x256 .bf16) (y : FVec F S640x256 .f32) (g : Vec F S1x256 .f32) : FVec F S640x256 .f32 :=
  mulf (mulf y (rsqrt (addf (mulf (matmul dot_S640x256_S256x256_S640x256_1_0_0_1_n_n none (truncf .bf16 (mulf y y) bitsLt_bf16_f32) (shapeCast S256x256 x7 shapeCasts_S256x256_S256x256) (constant S640x256 .f32 0x00000000#32))
    (broadcast S640x256 (Scalar.ofBits .f32 0x3C800000#32))) (broadcast S640x256 (Scalar.ofBits .f32 0x358637BD#32)))))
    (broadcastTo S640x256 (shapeCast S1x256 g shapeCasts_S1x256_S1x256) broadcasts_S1x256_S640x256)

/-- The rotary turn of four heads by the tables' terms, and the scale `s`. -/
def turn (s : BitVec 32) (x4 x5 x6 : Vec F S640x128 .f32) (y : FVec F S640x256 .f32) : FVec F S640x256 .bf16 :=
  truncf .bf16 (mulf (addf (addf (mulf y (k0_pay18 x4)) (mulf (dynamicRotate 1 248#32 none y rotates_S640x256_d1) (k0_pay19 x5)))
    (mulf (dynamicRotate 1 8#32 none y rotates_S640x256_d1) (k0_pay20 x6))) (broadcast S640x256 (Scalar.ofBits .f32 s))) bitsLt_bf16_f32

/-- Eight heads: the two halves of four, each normalised, turned and scaled. -/
def heads (s : BitVec 32) (y : FVec F S640x512 .f32) (g : Vec F S1x512 .f32) (x4 x5 x6 : Vec F S640x128 .f32) (x7 : Vec F S256x256 .bf16) :
    Vec F S640x512 .bf16 := fun p =>
  have hy : (p 1).val < 512 := (p 1).isLt
  turn s x4 x5 x6 (headNorm x7 (half y ⟨(p 1).val / 256, by omega⟩) (halfg g ⟨(p 1).val / 256, by omega⟩)) fun a => match a with
    | ⟨0, _⟩ => p 0
    | ⟨1, _⟩ => ⟨(p 1).val % 256, Nat.mod_lt _ (by show 0 < 256; omega)⟩

/-- The four output blocks. -/
def outq (x0 : Vec F S640x1024 .f32) (x1 : Vec F S1x1024 .f32) (g : Vec F S1x512 .f32) (x4 x5 x6 : Vec F S640x128 .f32) (x7 : Vec F S256x256 .bf16)
    (w : Vec F S1024x3456 .bf16) : Vec F S640x512 .bf16 := heads 0x3E38AA3B#32 (prodq x0 x1 w) g x4 x5 x6 x7
def outk (x0 : Vec F S640x1024 .f32) (x1 : Vec F S1x1024 .f32) (g : Vec F S1x512 .f32) (x4 x5 x6 : Vec F S640x128 .f32) (x7 : Vec F S256x256 .bf16)
    (w : Vec F S1024x3456 .bf16) : Vec F S640x512 .bf16 := heads 0x3F800000#32 (prodk x0 x1 w) g x4 x5 x6 x7
def outvv (x0 : Vec F S640x1024 .f32) (x1 : Vec F S1x1024 .f32) (w : Vec F S1024x3456 .bf16) : Vec F S640x512 .bf16 :=
  k0_pay2 (k0_pay11 x0 x1) (View.ld w (Rect.unit (s := S1024x3456) ![0, 1024] S1024x512.size inb_S1024x3456_S1024x512_0_1024))
def outu (x0 : Vec F S640x1024 .f32) (x1 : Vec F S1x1024 .f32) (w : Vec F S1024x3456 .bf16) : Vec F S640x1920 .f32 :=
  k0_pay3 (k0_pay11 x0 x1) (View.ld w (Rect.unit (s := S1024x3456) ![0, 1536] S1024x1920.size inb_S1024x3456_S1024x1920_0_1536))

/-- The slice of a product the body takes is a half of it. -/
theorem slice_half (y : FVec F S640x512 .f32) (k : Fin 2) (off : Fin 2 → ℕ) (hoff : off = ![0, 256 * k.val]) (h : S640x512.Slices off S640x256) :
    extractStridedSlice S640x256 off y h = half y k := by
  subst hoff
  refine funext fun p => congrArg y (Shape.idx_ext₂ ?_ ?_)
  · show 0 + (p 0).val = (p 0).val; omega
  · show 256 * k.val + (p 1).val = 256 * k.val + (p 1).val; omega

/-- A stored half, its operands named, is those heads. -/
theorem heads_piece (s : BitVec 32) {y : FVec F S640x512 .f32} {g : Vec F S1x512 .f32} {x4 x5 x6 : Vec F S640x128 .f32} {x7 : Vec F S256x256 .bf16}
    (k : Fin 2) (off : Fin 2 → ℕ) (hoff : off = ![0, 256 * k.val]) (hs : S640x512.Slices off S640x256)
    (inb : ∀ a, off a + S640x256.size a ≤ S640x512.size a) (inb' : ∀ a, off a + S1x256.size a ≤ S1x512.size a) (x : S640x256.Idx) :
    turn s x4 x5 x6 (headNorm x7 (extractStridedSlice S640x256 off y hs) (View.ld g (Rect.unit (s := S1x512) off S1x256.size inb'))) x
      = heads s y g x4 x5 x6 x7 ((Rect.unit (s := S640x512) off S640x256.size inb).emb x) := by
  rw [slice_half y k off hoff]
  subst hoff
  have hk : View.ld g (Rect.unit (s := S1x512) ![0, 256 * k.val] S1x256.size inb') = halfg g k := by
    refine funext fun p => congrArg g (Shape.idx_ext₂ ?_ ?_)
    · show 0 + 1 * (p 0).val = (p 0).val; omega
    · show 256 * k.val + 1 * (p 1).val = 256 * k.val + (p 1).val; omega
  rw [hk]
  have hx : (x 1).val < 256 := (x 1).isLt
  have e1 : (((Rect.unit (s := S640x512) ![0, 256 * k.val] S640x256.size inb).emb x) 1).val = 256 * k.val + (x 1).val := by
    show 256 * k.val + 1 * (x 1).val = _; omega
  have e0 : (((Rect.unit (s := S640x512) ![0, 256 * k.val] S640x256.size inb).emb x) 0).val = (x 0).val := by
    show 0 + 1 * (x 0).val = _; omega
  have ek : ∀ h, (⟨(((Rect.unit (s := S640x512) ![0, 256 * k.val] S640x256.size inb).emb x) 1).val / 256, h⟩ : Fin 2) = k := fun h =>
    Fin.ext (by show _ / 256 = k.val; rw [e1]; omega)
  unfold heads
  simp only [ek]
  refine congrArg _ (Shape.idx_ext₂ ?_ ?_)
  · exact e0.symm
  · show (x 1).val = _ % 256; rw [e1]; omega

set_option maxHeartbeats 20000000 in
/-- The rest's run: the four output blocks end at their functions of the inputs and of the weight in scratch. -/
theorem tail_run (c : Dev nD) (i : grid0.Coords) (arg1 : Memref sig .tc .vmem S640x1024 .f32) (harg1 : arg1.IsWhole) (arg2 : Memref sig .tc .vmem S1x1024 .f32) (harg2 : arg2.IsWhole) (arg4 : Memref sig .tc .vmem S1x512 .f32) (harg4 : arg4.IsWhole) (arg5 : Memref sig .tc .vmem S1x512 .f32) (harg5 : arg5.IsWhole) (arg6 : Memref sig .tc .vmem S640x128 .f32) (harg6 : arg6.IsWhole) (arg7 : Memref sig .tc .vmem S640x128 .f32) (harg7 : arg7.IsWhole) (arg8 : Memref sig .tc .vmem S640x128 .f32) (harg8 : arg8.IsWhole) (arg9 : Memref sig .tc .vmem S256x256 .bf16) (harg9 : arg9.IsWhole) (arg10 : Memref sig .tc .vmem S640x512 .bf16) (harg10 : arg10.IsWhole) (arg11 : Memref sig .tc .vmem S640x512 .bf16) (harg11 : arg11.IsWhole) (arg12 : Memref sig .tc .vmem S640x512 .bf16) (harg12 : arg12.IsWhole) (arg13 : Memref sig .tc .vmem S640x1920 .f32) (harg13 : arg13.IsWhole) (arg14 : Memref sig .tc .vmem S1024x3456 .bf16) (harg14 : arg14.IsWhole) (arg15 : Memref sig .tc .vmem S2x256x3360 .f32) (harg15 : arg15.IsWhole)
    (x0 : Vec F S640x1024 .f32) (x1 : Vec F S1x1024 .f32) (x2 : Vec F S1x512 .f32) (x3 : Vec F S1x512 .f32) (x4 : Vec F S640x128 .f32) (x5 : Vec F S640x128 .f32) (x6 : Vec F S640x128 .f32) (x7 : Vec F S256x256 .bf16)
    (w : Vec F S1024x3456 .bf16) (K : PUnit → sProp 𝕄) :
    iprop(owns (c : Thread nD τ) arg1 fullShare x0 ∗ owns (c : Thread nD τ) arg2 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare w ∗ (iprop(owns (c : Thread nD τ) arg1 fullShare x0 ∗ owns (c : Thread nD τ) arg2 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (outq x0 x1 x2 x4 x5 x6 x7 w) ∗ owns (c : Thread nD τ) arg11 fullShare (outk x0 x1 x3 x4 x5 x6 x7 w) ∗ owns (c : Thread nD τ) arg12 fullShare (outvv x0 x1 w) ∗ owns (c : Thread nD τ) arg13 fullShare (outu x0 x1 w) ∗ owns (c : Thread nD τ) arg14 fullShare w) -∗ K ⟨⟩))
      ⊢ wp frame (wpE (defs₀ (F := F)) Variants.none c none) Set.univ (restP i arg1 harg1 arg2 harg2 (Memref.whole main_arg2) (Memref.isWhole_whole _) arg4 harg4 arg5 harg5 arg6 harg6 arg7 harg7 arg8 harg8 arg9 harg9 arg10 harg10 arg11 harg11 arg12 harg12 arg13 harg13 arg14 harg14 arg15 harg15 cc0_scratch2) K := by
  unfold restP
  simp only [k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%fs0, %hfs0, HS0⟩, Hk⟩
  obtain rfl := harg1.eq_unread hf0; obtain rfl := harg2.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg14.eq_unread hfs0
  sl_exec
  sl_step
  iapply Hk
  have e0 : View.readAt (Elt F) arg1.view (Rect.unit (s := S640x1024) ![0, 0] S640x1024.size inb_S640x1024_S640x1024_0_0).toLoadRect (harg1.unread x0) = x0 :=
    (View.readAt_full _ _ _).trans (harg1.read_unread _)
  have e1 : View.readAt (Elt F) arg2.view (Rect.unit (s := S1x1024) ![0, 0] S1x1024.size inb_S1x1024_S1x1024_0_0).toLoadRect (harg2.unread x1) = x1 :=
    (View.readAt_full _ _ _).trans (harg2.read_unread _)
  have e4 : View.readAt (Elt F) arg6.view (Rect.unit (s := S640x128) ![0, 0] S640x128.size inb_S640x128_S640x128_0_0).toLoadRect (harg6.unread x4) = x4 :=
    (View.readAt_full _ _ _).trans (harg6.read_unread _)
  have e5 : View.readAt (Elt F) arg7.view (Rect.unit (s := S640x128) ![0, 0] S640x128.size inb_S640x128_S640x128_0_0).toLoadRect (harg7.unread x5) = x5 :=
    (View.readAt_full _ _ _).trans (harg7.read_unread _)
  have e6 : View.readAt (Elt F) arg8.view (Rect.unit (s := S640x128) ![0, 0] S640x128.size inb_S640x128_S640x128_0_0).toLoadRect (harg8.unread x6) = x6 :=
    (View.readAt_full _ _ _).trans (harg8.read_unread _)
  have e7 : View.readAt (Elt F) arg9.view (Rect.unit (s := S256x256) ![0, 0] S256x256.size inb_S256x256_S256x256_0_0).toLoadRect (harg9.unread x7) = x7 :=
    (View.readAt_full _ _ _).trans (harg9.read_unread _)
  have eq : View.readAt (Elt F) arg14.view (Rect.unit (s := S1024x3456) ![0, 0] S1024x512.size inb_S1024x3456_S1024x512_0_0).toLoadRect (harg14.unread w) = View.ld w (Rect.unit (s := S1024x3456) ![0, 0] S1024x512.size inb_S1024x3456_S1024x512_0_0) :=
    congrArg (fun z => View.ld z _) (harg14.read_unread _)
  have ek : View.readAt (Elt F) arg14.view (Rect.unit (s := S1024x3456) ![0, 512] S1024x512.size inb_S1024x3456_S1024x512_0_512).toLoadRect (harg14.unread w) = View.ld w (Rect.unit (s := S1024x3456) ![0, 512] S1024x512.size inb_S1024x3456_S1024x512_0_512) :=
    congrArg (fun z => View.ld z _) (harg14.read_unread _)
  have ev : View.readAt (Elt F) arg14.view (Rect.unit (s := S1024x3456) ![0, 1024] S1024x512.size inb_S1024x3456_S1024x512_0_1024).toLoadRect (harg14.unread w) = View.ld w (Rect.unit (s := S1024x3456) ![0, 1024] S1024x512.size inb_S1024x3456_S1024x512_0_1024) :=
    congrArg (fun z => View.ld z _) (harg14.read_unread _)
  have eu : View.readAt (Elt F) arg14.view (Rect.unit (s := S1024x3456) ![0, 1536] S1024x1920.size inb_S1024x3456_S1024x1920_0_1536).toLoadRect (harg14.unread w) = View.ld w (Rect.unit (s := S1024x3456) ![0, 1536] S1024x1920.size inb_S1024x3456_S1024x1920_0_1536) :=
    congrArg (fun z => View.ld z _) (harg14.read_unread _)
  have egq0 : View.readAt (Elt F) arg4.view (Rect.unit (s := S1x512) ![0, 0] S1x256.size inb_S1x512_S1x256_0_0).toLoadRect (harg4.unread x2) = View.ld x2 (Rect.unit (s := S1x512) ![0, 0] S1x256.size inb_S1x512_S1x256_0_0) :=
    congrArg (fun z => View.ld z _) (harg4.read_unread _)
  have egq1 : View.readAt (Elt F) arg4.view (Rect.unit (s := S1x512) ![0, 256] S1x256.size inb_S1x512_S1x256_0_256).toLoadRect (harg4.unread x2) = View.ld x2 (Rect.unit (s := S1x512) ![0, 256] S1x256.size inb_S1x512_S1x256_0_256) :=
    congrArg (fun z => View.ld z _) (harg4.read_unread _)
  have egk0 : View.readAt (Elt F) arg5.view (Rect.unit (s := S1x512) ![0, 0] S1x256.size inb_S1x512_S1x256_0_0).toLoadRect (harg5.unread x3) = View.ld x3 (Rect.unit (s := S1x512) ![0, 0] S1x256.size inb_S1x512_S1x256_0_0) :=
    congrArg (fun z => View.ld z _) (harg5.read_unread _)
  have egk1 : View.readAt (Elt F) arg5.view (Rect.unit (s := S1x512) ![0, 256] S1x256.size inb_S1x512_S1x256_0_256).toLoadRect (harg5.unread x3) = View.ld x3 (Rect.unit (s := S1x512) ![0, 256] S1x256.size inb_S1x512_S1x256_0_256) :=
    congrArg (fun z => View.ld z _) (harg5.read_unread _)
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr
    swap; · iexact H8
    ipureintro
    refine funext fun y => View.read_writes_apply_of_pieces _ _ _ _ ?_ y (View.cover_of_tiledL (s := S640x512) _ S640x256.size (by sl_kernel_rfl) y)
    refine List.forall_mem_cons.mpr ⟨fun x => ?_, List.forall_mem_cons.mpr ⟨fun x => ?_, fun _ h => absurd h List.not_mem_nil⟩⟩
    · dsimp only; delta tail_run.sl.r tail_run.sl.r_1
      rw [e0, e1, e4, e5, e6, e7, eq, egq1]
      exact heads_piece 0x3E38AA3B#32 (y := prodq x0 x1 w) (g := x2) 1 ![0, 256] rfl slices_S640x512_o0_256_S640x256 inb_S640x512_S640x256_0_256 inb_S1x512_S1x256_0_256 x
    · dsimp only
      rw [e0, e1, e4, e5, e6, e7, eq, egq0]
      exact heads_piece 0x3E38AA3B#32 (y := prodq x0 x1 w) (g := x2) 0 ![0, 0] rfl slices_S640x512_o0_0_S640x256 inb_S640x512_S640x256_0_0 inb_S1x512_S1x256_0_0 x
  isplitl [H9]
  · iexists _; isplitr
    swap; · iexact H9
    ipureintro
    refine funext fun y => View.read_writes_apply_of_pieces _ _ _ _ ?_ y (View.cover_of_tiledL (s := S640x512) _ S640x256.size (by sl_kernel_rfl) y)
    refine List.forall_mem_cons.mpr ⟨fun x => ?_, List.forall_mem_cons.mpr ⟨fun x => ?_, fun _ h => absurd h List.not_mem_nil⟩⟩
    · dsimp only; delta tail_run.sl.r_2 tail_run.sl.r_3 tail_run.sl.r_4 tail_run.sl.r_5 tail_run.sl.r_6 tail_run.sl.cst_48
      rw [e0, e1, e4, e5, e6, e7, ek, egk1]
      exact heads_piece 0x3F800000#32 (y := prodk x0 x1 w) (g := x3) 1 ![0, 256] rfl slices_S640x512_o0_256_S640x256 inb_S640x512_S640x256_0_256 inb_S1x512_S1x256_0_256 x
    · dsimp only
      rw [e0, e1, e4, e5, e6, e7, ek, egk0]
      exact heads_piece 0x3F800000#32 (y := prodk x0 x1 w) (g := x3) 0 ![0, 0] rfl slices_S640x512_o0_0_S640x256 inb_S640x512_S640x256_0_0 inb_S1x512_S1x256_0_0 x
  isplitl [H10]
  · iexists _; isplitr
    swap; · iexact H10
    ipureintro
    refine (Cert.Slab.read_writes_full _ _ (by decide) _ _ _).trans ?_
    rw [e0, e1, ev]; rfl
  isplitl [H11]
  · iexists _; isplitr
    swap; · iexact H11
    ipureintro
    refine (Cert.Slab.read_writes_full _ _ (by decide) _ _ _).trans ?_
    rw [e0, e1, eu]; rfl
  · iexists _; isplitr; · ipureintro; exact harg14.read_unread _
    iexact HS0

end Cert.Kernel3Ideal.Hand

end
-- ==== Proof.In.Run.lean ====
module

public import proofs.«01_k».proof.Proof.In.Tail
public import Idealize.ShloMosaic.Lib.Claim

@[expose] public section

set_option maxRecDepth 16384

/-! The body at every point, the proof data with the output blocks named, and the launch. -/

noncomputable section

namespace Cert.Kernel3Ideal.Hand

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 2000000 in
/-- The body at the first point: the weight fetched into scratch, the outputs' blocks named. -/
theorem first_run (c : Dev nD) (i : grid0.Coords) (arg1 : Memref sig .tc .vmem S640x1024 .f32) (harg1 : arg1.IsWhole) (arg2 : Memref sig .tc .vmem S1x1024 .f32) (harg2 : arg2.IsWhole) (arg4 : Memref sig .tc .vmem S1x512 .f32) (harg4 : arg4.IsWhole) (arg5 : Memref sig .tc .vmem S1x512 .f32) (harg5 : arg5.IsWhole) (arg6 : Memref sig .tc .vmem S640x128 .f32) (harg6 : arg6.IsWhole) (arg7 : Memref sig .tc .vmem S640x128 .f32) (harg7 : arg7.IsWhole) (arg8 : Memref sig .tc .vmem S640x128 .f32) (harg8 : arg8.IsWhole) (arg9 : Memref sig .tc .vmem S256x256 .bf16) (harg9 : arg9.IsWhole) (arg10 : Memref sig .tc .vmem S640x512 .bf16) (harg10 : arg10.IsWhole) (arg11 : Memref sig .tc .vmem S640x512 .bf16) (harg11 : arg11.IsWhole) (arg12 : Memref sig .tc .vmem S640x512 .bf16) (harg12 : arg12.IsWhole) (arg13 : Memref sig .tc .vmem S640x1920 .f32) (harg13 : arg13.IsWhole) (arg14 : Memref sig .tc .vmem S1024x3456 .bf16) (harg14 : arg14.IsWhole) (arg15 : Memref sig .tc .vmem S2x256x3360 .f32) (harg15 : arg15.IsWhole) (hc0 : cond0_0 i)
    (x0 : Vec F S640x1024 .f32) (x1 : Vec F S1x1024 .f32) (x2 : Vec F S1x512 .f32) (x3 : Vec F S1x512 .f32) (x4 : Vec F S640x128 .f32) (x5 : Vec F S640x128 .f32) (x6 : Vec F S640x128 .f32) (x7 : Vec F S256x256 .bf16)
    (fh0 : HbBuf0 (F := F) c hbM0_0)
    (W : Waits sig Unit) (K : PUnit → sProp 𝕄) :
    iprop(owns (c : Thread nD τ) arg1 fullShare x0 ∗ owns (c : Thread nD τ) arg2 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ semVal ((c : Thread nD τ), SemLoc.dma 20) 0 ∗ semVal ((c : Thread nD τ), SemLoc.dma 21) 0 ∗ hbPt0 c hbM0_0 fh0 ∗ owes (c : Thread nD τ) 0 W ∗ (iprop(owns (c : Thread nD τ) arg1 fullShare x0 ∗ owns (c : Thread nD τ) arg2 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (outq x0 x1 x2 x4 x5 x6 x7 (win16 c fh0)) ∗ owns (c : Thread nD τ) arg11 fullShare (outk x0 x1 x3 x4 x5 x6 x7 (win16 c fh0)) ∗ owns (c : Thread nD τ) arg12 fullShare (outvv x0 x1 (win16 c fh0)) ∗ owns (c : Thread nD τ) arg13 fullShare (outu x0 x1 (win16 c fh0)) ∗ owns (c : Thread nD τ) arg14 fullShare (win16 c fh0) ∗ (∃ d, owns (c : Thread nD τ) arg15 fullShare d) ∗ semVal ((c : Thread nD τ), SemLoc.dma 20) 0 ∗ semVal ((c : Thread nD τ), SemLoc.dma 21) 0 ∗ hbPt0 c hbM0_0 fh0 ∗ (∃ W', owes (c : Thread nD τ) 0 W')) -∗ K ⟨⟩))
      ⊢ wp frame (wpE (defs₀ (F := F)) Variants.none c none) Set.univ (cc0_mix_in i arg1 harg1 arg2 harg2 (Memref.whole main_arg2) (Memref.isWhole_whole _) arg4 harg4 arg5 harg5 arg6 harg6 arg7 harg7 arg8 harg8 arg9 harg9 arg10 harg10 arg11 harg11 arg12 harg12 arg13 harg13 arg14 harg14 arg15 harg15 cc0_scratch2) K := by
  rw [body_first i arg1 harg1 arg2 harg2 (Memref.whole main_arg2) (Memref.isWhole_whole _) arg4 harg4 arg5 harg5 arg6 harg6 arg7 harg7 arg8 harg8 arg9 harg9 arg10 harg10 arg11 harg11 arg12 harg12 arg13 harg13 arg14 harg14 arg15 harg15 cc0_scratch2 hc0, wp_bind]
  iintro ⟨H0, H1, H2, H3, H4, H5, H6, H7, H8, H9, H10, H11, HS0, HS1, Hq0, Hq1, Hh0, HW, Hk⟩
  iapply (fetch_run c i arg1 harg1 arg2 harg2 arg4 harg4 arg5 harg5 arg6 harg6 arg7 harg7 arg8 harg8 arg9 harg9 arg10 harg10 arg11 harg11 arg12 harg12 arg13 harg13 arg14 harg14 arg15 harg15 fh0 W _)
  isplitl [HS0]; · iexact HS0
  isplitl [HS1]; · iexact HS1
  isplitl [Hq0]; · iexact Hq0
  isplitl [Hq1]; · iexact Hq1
  isplitl [Hh0]; · iexact Hh0
  isplitl [HW]; · iexact HW
  iintro ⟨HS0, HS1, Hq0, Hq1, Hh0, HW⟩
  iapply (tail_run c i arg1 harg1 arg2 harg2 arg4 harg4 arg5 harg5 arg6 harg6 arg7 harg7 arg8 harg8 arg9 harg9 arg10 harg10 arg11 harg11 arg12 harg12 arg13 harg13 arg14 harg14 arg15 harg15 x0 x1 x2 x3 x4 x5 x6 x7 (win16 c fh0) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS0]; · iexact HS0
  iintro ⟨H0, H1, H2, H3, H4, H5, H6, H7, H8, H9, H10, H11, HS0⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS0]; · iexact HS0
  isplitl [HS1]; · iexact HS1
  isplitl [Hq0]; · iexact Hq0
  isplitl [Hq1]; · iexact Hq1
  isplitl [Hh0]; · iexact Hh0
  iexact HW

set_option maxHeartbeats 2000000 in
/-- The body at a later point: the weight is in scratch and stays there. -/
theorem later_run (c : Dev nD) (i : grid0.Coords) (arg1 : Memref sig .tc .vmem S640x1024 .f32) (harg1 : arg1.IsWhole) (arg2 : Memref sig .tc .vmem S1x1024 .f32) (harg2 : arg2.IsWhole) (arg4 : Memref sig .tc .vmem S1x512 .f32) (harg4 : arg4.IsWhole) (arg5 : Memref sig .tc .vmem S1x512 .f32) (harg5 : arg5.IsWhole) (arg6 : Memref sig .tc .vmem S640x128 .f32) (harg6 : arg6.IsWhole) (arg7 : Memref sig .tc .vmem S640x128 .f32) (harg7 : arg7.IsWhole) (arg8 : Memref sig .tc .vmem S640x128 .f32) (harg8 : arg8.IsWhole) (arg9 : Memref sig .tc .vmem S256x256 .bf16) (harg9 : arg9.IsWhole) (arg10 : Memref sig .tc .vmem S640x512 .bf16) (harg10 : arg10.IsWhole) (arg11 : Memref sig .tc .vmem S640x512 .bf16) (harg11 : arg11.IsWhole) (arg12 : Memref sig .tc .vmem S640x512 .bf16) (harg12 : arg12.IsWhole) (arg13 : Memref sig .tc .vmem S640x1920 .f32) (harg13 : arg13.IsWhole) (arg14 : Memref sig .tc .vmem S1024x3456 .bf16) (harg14 : arg14.IsWhole) (arg15 : Memref sig .tc .vmem S2x256x3360 .f32) (harg15 : arg15.IsWhole) (hc0 : ¬cond0_0 i)
    (x0 : Vec F S640x1024 .f32) (x1 : Vec F S1x1024 .f32) (x2 : Vec F S1x512 .f32) (x3 : Vec F S1x512 .f32) (x4 : Vec F S640x128 .f32) (x5 : Vec F S640x128 .f32) (x6 : Vec F S640x128 .f32) (x7 : Vec F S256x256 .bf16)
    (w : Vec F S1024x3456 .bf16) (K : PUnit → sProp 𝕄) :
    iprop(owns (c : Thread nD τ) arg1 fullShare x0 ∗ owns (c : Thread nD τ) arg2 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare w ∗ (iprop(owns (c : Thread nD τ) arg1 fullShare x0 ∗ owns (c : Thread nD τ) arg2 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (outq x0 x1 x2 x4 x5 x6 x7 w) ∗ owns (c : Thread nD τ) arg11 fullShare (outk x0 x1 x3 x4 x5 x6 x7 w) ∗ owns (c : Thread nD τ) arg12 fullShare (outvv x0 x1 w) ∗ owns (c : Thread nD τ) arg13 fullShare (outu x0 x1 w) ∗ owns (c : Thread nD τ) arg14 fullShare w) -∗ K ⟨⟩))
      ⊢ wp frame (wpE (defs₀ (F := F)) Variants.none c none) Set.univ (cc0_mix_in i arg1 harg1 arg2 harg2 (Memref.whole main_arg2) (Memref.isWhole_whole _) arg4 harg4 arg5 harg5 arg6 harg6 arg7 harg7 arg8 harg8 arg9 harg9 arg10 harg10 arg11 harg11 arg12 harg12 arg13 harg13 arg14 harg14 arg15 harg15 cc0_scratch2) K := by
  rw [body_later i arg1 harg1 arg2 harg2 (Memref.whole main_arg2) (Memref.isWhole_whole _) arg4 harg4 arg5 harg5 arg6 harg6 arg7 harg7 arg8 harg8 arg9 harg9 arg10 harg10 arg11 harg11 arg12 harg12 arg13 harg13 arg14 harg14 arg15 harg15 cc0_scratch2 hc0]
  exact tail_run c i arg1 harg1 arg2 harg2 arg4 harg4 arg5 harg5 arg6 harg6 arg7 harg7 arg8 harg8 arg9 harg9 arg10 harg10 arg11 harg11 arg12 harg12 arg13 harg13 arg14 harg14 arg15 harg15 x0 x1 x2 x3 x4 x5 x6 x7 w K

/-! ## The proof data -/

/-- The output blocks after point `t`. -/
def outBq (c : Dev nD) (t : Fin cfg0.N) : Vec F S640x512 .bf16 :=
  outq (iblk m c 0 t) (iblk m c 1 t) (iblk m c 2 t) (iblk m c 4 t) (iblk m c 5 t) (iblk m c 6 t) (iblk m c 7 t) (win16 c (V m c main_arg2))
def outBk (c : Dev nD) (t : Fin cfg0.N) : Vec F S640x512 .bf16 :=
  outk (iblk m c 0 t) (iblk m c 1 t) (iblk m c 3 t) (iblk m c 4 t) (iblk m c 5 t) (iblk m c 6 t) (iblk m c 7 t) (win16 c (V m c main_arg2))
def outBv (c : Dev nD) (t : Fin cfg0.N) : Vec F S640x512 .bf16 :=
  outvv (iblk m c 0 t) (iblk m c 1 t) (win16 c (V m c main_arg2))
def outBu (c : Dev nD) (t : Fin cfg0.N) : Vec F S640x1920 .f32 :=
  outu (iblk m c 0 t) (iblk m c 1 t) (win16 c (V m c main_arg2))

/-- The invariant before position `n`: before the first point the launch's own; afterwards the same with the weight's
    scratch at the weight narrowed. -/
def PhiS (c : Dev nD) : ℕ → sProp 𝕄
  | 0 => Pipeline.ΦD osem0 spec0 H0 (V m) c
  | _ + 1 => iprop(iprop(owns (c : Thread nD τ) scM0_0 fullShare (win16 c (V m c main_arg2)) ∗ (∃ d, owns (c : Thread nD τ) scM0_1 fullShare d)) ∗ (∃ r, prngReg c r) ∗ iprop(semVal ((c : Thread nD τ), SemLoc.dma 20) 0 ∗ semVal ((c : Thread nD τ), SemLoc.dma 21) 0) ∗ iprop(hbPt0 c hbM0_0 (V m c main_arg2)))

/-- Before a point that is not the first the weight is in scratch. -/
theorem PhiS_pos (c : Dev nD) (n : ℕ) (hz : n ≠ 0) : PhiS m c n = iprop(iprop(owns (c : Thread nD τ) scM0_0 fullShare (win16 c (V m c main_arg2)) ∗ (∃ d, owns (c : Thread nD τ) scM0_1 fullShare d)) ∗ (∃ r, prngReg c r) ∗ iprop(semVal ((c : Thread nD τ), SemLoc.dma 20) 0 ∗ semVal ((c : Thread nD τ), SemLoc.dma 21) 0) ∗ iprop(hbPt0 c hbM0_0 (V m c main_arg2))) := by
  cases n with
  | zero => exact absurd rfl hz
  | succ n => rfl

/-- The proof data: each input's buffer left at its block, the outputs' at the blocks named, nothing owed. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outBq m c t
    | ⟨9, _⟩ => outBk m c t
    | ⟨10, _⟩ => outBv m c t
    | ⟨11, _⟩ => outBu m c t
  Φ t := PhiS m c t.val
  q _ := fullShare
  owed _ := 0

/-- The proof data's arrays are what the region finds. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = outBq m c t := by dsimp only [dats]
theorem after0_9 (c : Dev nD) (t : Fin cfg0.N) : (dats m 0 c).after 9 t = outBk m c t := by dsimp only [dats]
theorem after0_10 (c : Dev nD) (t : Fin cfg0.N) : (dats m 0 c).after 10 t = outBv m c t := by dsimp only [dats]
theorem after0_11 (c : Dev nD) (t : Fin cfg0.N) : (dats m 0 c).after 11 t = outBu m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t))

set_option maxHeartbeats 4000000 in
/-- The body at any point takes the one to the other: the first point fetches the weight, a later one finds it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = PhiS m c (t.val + 1) from rfl, PhiS_pos m c _ (Nat.succ_ne_zero _),
    after0_0, after0_1, after0_2, after0_3, after0_4, after0_5, after0_6, after0_7, after0_8, after0_9, after0_10, after0_11, show (dats m 0 c).Φ t.castSucc = PhiS m c t.val from rfl]
  unfold Dat.owesAt Pipeline.owesWithin
  rw [show (dats m 0 c).owed t.castSucc = 0 from rfl, show (dats m 0 c).owed t.succ = 0 from rfl]
  have hN : t.val < 26 := lt_of_lt_of_eq t.isLt (show cfg0.N = 26 from N_0)
  by_cases hz : t.val = 0
  · rw [show PhiS m c t.val = Pipeline.ΦD osem0 spec0 H0 (V m) c by rw [hz]; rfl, PhiD0_eq]
    iintro ⟨⟨⟨HS0, HS1⟩, Hg, ⟨Hq0, Hq1⟩, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (first_run c (grid0.coords t) _ _ _ _ _ _ _ _ _ _ _ _ _ _ _ _ _ _ _ _ _ _ _ _ _ _ _ _ ((hcond0_0 t).mpr (by omega)) (iblk m c 0 t) (iblk m c 1 t) (iblk m c 2 t) (iblk m c 3 t) (iblk m c 4 t) (iblk m c 5 t) (iblk m c 6 t) (iblk m c 7 t) (V m c main_arg2) W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [HS0]; · iexact HS0
    isplitl [HS1]; · iexact HS1
    isplitl [Hq0]; · iexact Hq0
    isplitl [Hq1]; · iexact Hq1
    isplitl [Hh0]; · iexact Hh0
    isplitl [HW]; · iexact HW
    iintro ⟨H0, H1, H2, H3, H4, H5, H6, H7, H8, H9, H10, H11, HS0, HS1, Hq0, Hq1, Hh0, ⟨%W', HW'⟩⟩
    isplitl [HS0 HS1 Hg Hq0 Hq1 Hh0]
    · isplitl [HS0 HS1]
      · isplitl [HS0]; · iexact HS0
        iexact HS1
      isplitl [Hg]; · iexact Hg
      isplitl [Hq0 Hq1]
      · isplitl [Hq0]; · iexact Hq0
        iexact Hq1
      iexact Hh0
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · rw [PhiS_pos m c _ hz]
    iintro ⟨⟨⟨HS0, HS1⟩, Hg, ⟨Hq0, Hq1⟩, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (later_run c (grid0.coords t) _ _ _ _ _ _ _ _ _ _ _ _ _ _ _ _ _ _ _ _ _ _ _ _ _ _ _ _ (fun h => absurd ((hcond0_0 t).mp h) (by omega)) (iblk m c 0 t) (iblk m c 1 t) (iblk m c 2 t) (iblk m c 3 t) (iblk m c 4 t) (iblk m c 5 t) (iblk m c 6 t) (iblk m c 7 t) (win16 c (V m c main_arg2)) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [HS0]; · iexact HS0
    iintro ⟨H0, H1, H2, H3, H4, H5, H6, H7, H8, H9, H10, H11, HS0⟩
    isplitl [HS0 HS1 Hg Hq0 Hq1 Hh0]
    · isplitl [HS0 HS1]
      · isplitl [HS0]; · iexact HS0
        iexact HS1
      isplitl [Hg]; · iexact Hg
      isplitl [Hq0 Hq1]
      · isplitl [Hq0]; · iexact Hq0
        iexact Hq1
      iexact Hh0
    isplitl [HW]
    · iexists W; isplitr; · ipureintro; exact fun _ _ => Or.inl trivial
      iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

/-- The body table's row at point `t` is the body there. -/
theorem row_body (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, row_body]
  exact triple_restated (sound_body m c t) rfl .rfl fun _ => .rfl

/-- What the launch hands the region is the invariant before the first point. -/
theorem hin (c : Dev nD) : Pipeline.ΦD osem0 spec0 H0 (V m) c ⊢ (dats m 0 c).Φ 0 := by
  rw [show (dats m 0 c).Φ 0 = Pipeline.ΦD osem0 spec0 H0 (V m) c from rfl]
  try exact Idealize.SL.BI.Entails.refl _

/-- After the last point the invariant gives the launch's back: the weight's scratch is forgotten. -/
theorem hout (c : Dev nD) : (dats m 0 c).Φ (Fin.last cfg0.N) ⊢ Pipeline.ΦD osem0 spec0 H0 (V m) c := by
  rw [show (dats m 0 c).Φ (Fin.last cfg0.N) = PhiS m c cfg0.N from rfl,
    PhiS_pos m c _ (by rw [show cfg0.N = 26 from N_0]; decide), PhiD0_eq]
  iintro ⟨⟨HS0, HS1⟩, Hg, Hq, Hh⟩
  isplitl [HS0 HS1]
  · isplitl [HS0]; · iexists _; iexact HS0
    iexact HS1
  isplitl [Hg]; · iexact Hg
  isplitl [Hq]; · iexact Hq
  iexact Hh

set_option backward.isDefEq.respectTransparency.types false in
/-- THE LAUNCH: it terminates without fault, every array ends at what the proof data says, every counter at zero. -/
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- Any final state of the launch has the argument arrays unchanged. -/
theorem unchanged_of (h : θ_run defs (onTc (τ := τ) (main (F := F))) (s₀ m ρ) (Pipeline.FramePost cfgs (dats m) 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-- The program runs, leaves its argument arrays unchanged and every semaphore counter at zero. -/
theorem frame_quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged_of m ρ ((θ_run defs _ _).mono (fun _ h => h.1) (run_main m ρ))) ((θ_run defs _ _).mono (fun _ h => h.2) (run_main m ρ))

end Cert.Kernel3Ideal.Hand

end
-- ==== Proof.Row.Head.lean ====
module

public import proofs.«01_k».proof.Proof.Row.Basic
public import Idealize.ShloMosaic.Lib.IdealHost

@[expose] public section

/-! One head of 64 columns over the extended reals: normalised by its own mean square, and turned by the rotary tables.
    The reference says both of one head; the kernel says both of four heads side by side, by a product with a matrix of
    ones and zeros, and by tables of the same length. -/

noncomputable section

namespace Cert.Row

open Idealize.ShloMosaic

/-- A head divided by the root of its mean square (a small constant added) and scaled by the gain. -/
def headNormed (v γ : Fin 64 → EReal) (l : Fin 64) : EReal :=
  v l * Ideal.rsqrt (Ideal.div (∑ b : Fin 64, v b * v b) (Ideal.ofBits .f32 0x42800000#32) + Ideal.ofBits .f32 0x358637BD#32) * γ l

/-- The rotary turn of a head: its first eight columns against its next eight, the rest as they are. -/
def turned (x : Fin 64 → EReal) (cs sn : Fin 8 → EReal) (l : Fin 64) : EReal :=
  if h : l.val < 8 then x l * cs ⟨l.val, h⟩ - x ⟨l.val + 8, by omega⟩ * sn ⟨l.val, h⟩
  else if h : l.val < 16 then x l * cs ⟨l.val - 8, by omega⟩ + x ⟨l.val - 8, by omega⟩ * sn ⟨l.val - 8, by omega⟩
  else x l

/-- Column `l` of the cosine table of a head. -/
def tabC (cs : Fin 8 → EReal) (l : Fin 64) : EReal :=
  if h : l.val < 8 then cs ⟨l.val, h⟩ else if h : l.val < 16 then cs ⟨l.val - 8, by omega⟩ else 1

/-- Column `l` of the table of sines against the column eight later. -/
def tabS (sn : Fin 8 → EReal) (l : Fin 64) : EReal := if h : l.val < 8 then -sn ⟨l.val, h⟩ else 0

/-- Column `l` of the table of sines against the column eight earlier. -/
def tabT (sn : Fin 8 → EReal) (l : Fin 64) : EReal :=
  if l.val < 8 then 0 else if h : l.val < 16 then sn ⟨l.val - 8, by omega⟩ else 0

/-- Head `k` of four side by side. -/
def headOf (v : Fin 256 → EReal) (k : Fin 4) (l : Fin 64) : EReal := v ⟨64 * k.val + l.val, by omega⟩

/-- A product with the word for a sixty-fourth is the quotient by the word for 64. -/
theorem mul_sixtyfourth (x : EReal) : x * Ideal.ofBits .f32 0x3C800000#32 = Ideal.div x (Ideal.ofBits .f32 0x42800000#32) := by
  have h1 : Ideal.ofBits .f32 0x3C800000#32 = (((1 : ℝ) / 64 : ℝ) : EReal) := by
    simp [Ideal.ofBits, Ideal.ieee, -EReal.coe_mul]; norm_num
  have h2 : Ideal.ofBits .f32 0x42800000#32 = ((64 : ℝ) : EReal) := by
    simp [Ideal.ofBits, Ideal.ieee, -EReal.coe_mul]; norm_num
  have h3 : ((64 : ℝ) : EReal) ≠ 0 := by
    rw [← EReal.coe_zero]; exact fun h => absurd (EReal.coe_eq_coe_iff.mp h) (by norm_num)
  rw [h1, h2]
  unfold Ideal.div
  rw [if_neg h3, ← EReal.coe_inv, one_div]

/-- A sum over four heads against the ones of one head is the sum over that head. -/
theorem sum_head (f : Fin 256 → EReal) (k : Fin 4) :
    (∑ a : Fin 256, f a * if a.val / 64 = k.val then 1 else 0) = ∑ b : Fin 64, f ⟨64 * k.val + b.val, by omega⟩ := by
  have e : ∀ a : Fin 256, (f a * if a.val / 64 = k.val then 1 else 0) = if a.val / 64 = k.val then f a else 0 := fun a => by
    by_cases h : a.val / 64 = k.val
    · rw [if_pos h, if_pos h, mul_one]
    · rw [if_neg h, if_neg h, mul_zero]
  rw [Finset.sum_congr rfl fun a _ => e a, ← Finset.sum_filter]
  refine (Finset.sum_nbij (fun b : Fin 64 => (⟨64 * k.val + b.val, by omega⟩ : Fin 256)) ?_ ?_ ?_ ?_).symm
  · intro b _
    have := b.isLt
    simp only [Finset.mem_filter, Finset.mem_univ, true_and]
    omega
  · intro b _ b' _ h
    exact Fin.ext (by have := congrArg Fin.val h; simp only at this; omega)
  · intro a ha
    have h : a.val / 64 = k.val := by simpa using ha
    exact ⟨⟨a.val % 64, Nat.mod_lt _ (by omega)⟩, Finset.mem_coe.mpr (Finset.mem_univ _), Fin.ext (by show 64 * k.val + a.val % 64 = a.val; omega)⟩
  · intro b _
    rfl

/-- Four heads normalised by the product with the ones, read at one column of one head. -/
theorem headNormed_of_ones (v γ : Fin 256 → EReal) (o : Fin 256 → EReal) (g : Fin 64 → EReal) (k : Fin 4) (l : Fin 64)
    (ho : ∀ a : Fin 256, o a = if a.val / 64 = k.val then 1 else 0) (hγ : headOf γ k l = g l) :
    headOf v k l * Ideal.rsqrt ((∑ a : Fin 256, v a * v a * o a) * Ideal.ofBits .f32 0x3C800000#32 + Ideal.ofBits .f32 0x358637BD#32) * headOf γ k l
      = headNormed (headOf v k) g l := by
  unfold headNormed
  rw [hγ, mul_sixtyfourth, Finset.sum_congr rfl fun a _ => congrArg (v a * v a * ·) (ho a), sum_head (fun a => v a * v a) k]
  rfl

/-- The turn by the tables is the turn. -/
theorem turned_of_tabs (x : Fin 64 → EReal) (cs sn : Fin 8 → EReal) (l : Fin 64) (p q : EReal)
    (hp : ∀ h : l.val < 8, p = x ⟨l.val + 8, by omega⟩) (hq : ∀ h : 8 ≤ l.val, q = x ⟨l.val - 8, by omega⟩) :
    x l * tabC cs l + p * tabS sn l + q * tabT sn l = turned x cs sn l := by
  unfold turned tabC tabS tabT
  by_cases h : l.val < 8
  · rw [dif_pos h, dif_pos h, if_pos h, dif_pos h, hp h, mul_zero, add_zero, mul_neg, sub_eq_add_neg]
  · rw [dif_neg h, dif_neg h, if_neg h, dif_neg h, mul_zero, add_zero]
    by_cases h' : l.val < 16
    · rw [dif_pos h', dif_pos h', dif_pos h', hq (by omega)]
    · rw [dif_neg h', dif_neg h', dif_neg h', mul_one, mul_zero, add_zero]

end Cert.Row

end
-- ==== Proof.In.Pure.lean ====
module

public import proofs.«01_k».proof.Proof.In.Tail
public import proofs.«01_k».proof.Proof.Row.Head
public import Idealize.ShloMosaic.Lib.KernelVsHost

@[expose] public section

set_option maxRecDepth 16384

/-! The four output blocks of the body, row by row, over the extended reals. -/

noncomputable section

namespace Cert.Kernel3Ideal.Hand

open Cert.Kernel3Ideal.Gen
open Idealize.ShloMosaic Idealize.ShloMosaic.TcCoe

/-- The normalised rows. -/
theorem pay11_apply (x0 : Vec Ideal S640x1024 .f32) (x1 : Vec Ideal S1x1024 .f32) (r : Fin 640) (j : Fin 1024) :
    k0_pay11 (F := Ideal) x0 x1 (ix2 r j) = Row.normed (fun a => x0 (ix2 r a)) (fun a => x1 (ix2 0 a)) j := by
  unfold Row.normed k0_pay11
  pointwise []

/-- Columns of the weight from `o` on, at an index. -/
theorem cols_apply (w : Vec Ideal S1024x3456 .bf16) (n o : ℕ) (inb : ∀ a, ![0, o] a + (⟨2, ![1024, n]⟩ : Shape).size a ≤ S1024x3456.size a)
    (a : Fin 1024) (j : Fin n) (h : o + j.val < 3456) :
    View.ld w (Rect.unit (s := S1024x3456) ![0, o] (⟨2, ![1024, n]⟩ : Shape).size inb) (ix2 a j) = w (ix2 a ⟨o + j.val, h⟩) :=
  congrArg w (Shape.idx_ext₂ (by show 0 + 1 * a.val = a.val; omega) (by show o + 1 * j.val = o + j.val; omega))

/-- The row of a block's product with the weight. -/
abbrev rowOf (x0 : Vec Ideal S640x1024 .f32) (x1 : Vec Ideal S1x1024 .f32) (w : Vec Ideal S1024x3456 .bf16) (r : Fin 640) (j : Fin 3456) : EReal :=
  Row.prod (Row.normed (fun a => x0 (ix2 r a)) (fun a => x1 (ix2 0 a))) (fun a b => w (ix2 a b)) j

/-- The first 512 columns of the product, -/
theorem prodq_apply (x0 : Vec Ideal S640x1024 .f32) (x1 : Vec Ideal S1x1024 .f32) (w : Vec Ideal S1024x3456 .bf16) (r : Fin 640) (j : Fin 512) :
    prodq (F := Ideal) x0 x1 w (ix2 r j) = rowOf x0 x1 w r ⟨0 + j.val, by omega⟩ := by
  unfold prodq rowOf k0_pay16 Row.prod
  simp only [← pay11_apply, ← cols_apply w 512 0 inb_S1024x3456_S1024x512_0_0]
  generalize k0_pay11 (F := Ideal) x0 x1 = y
  generalize View.ld _ _ = v
  pointwise []

/-- the next 512, -/
theorem prodk_apply (x0 : Vec Ideal S640x1024 .f32) (x1 : Vec Ideal S1x1024 .f32) (w : Vec Ideal S1024x3456 .bf16) (r : Fin 640) (j : Fin 512) :
    prodk (F := Ideal) x0 x1 w (ix2 r j) = rowOf x0 x1 w r ⟨512 + j.val, by omega⟩ := by
  unfold prodk rowOf k0_pay16 Row.prod
  simp only [← pay11_apply, ← cols_apply w 512 512 inb_S1024x3456_S1024x512_0_512]
  generalize k0_pay11 (F := Ideal) x0 x1 = y
  generalize View.ld _ _ = v
  pointwise []

/-- the 512 after them, -/
theorem outvv_apply (x0 : Vec Ideal S640x1024 .f32) (x1 : Vec Ideal S1x1024 .f32) (w : Vec Ideal S1024x3456 .bf16) (r : Fin 640) (j : Fin 512) :
    outvv (F := Ideal) x0 x1 w (ix2 r j) = rowOf x0 x1 w r ⟨1024 + j.val, by omega⟩ := by
  unfold outvv rowOf k0_pay2 Row.prod
  simp only [← pay11_apply, ← cols_apply w 512 1024 inb_S1024x3456_S1024x512_0_1024]
  generalize k0_pay11 (F := Ideal) x0 x1 = y
  generalize View.ld _ _ = v
  pointwise []

/-- and the rest. -/
theorem outu_apply (x0 : Vec Ideal S640x1024 .f32) (x1 : Vec Ideal S1x1024 .f32) (w : Vec Ideal S1024x3456 .bf16) (r : Fin 640) (j : Fin 1920) :
    outu (F := Ideal) x0 x1 w (ix2 r j) = rowOf x0 x1 w r ⟨1536 + j.val, by omega⟩ := by
  unfold outu rowOf k0_pay3 Row.prod
  simp only [← pay11_apply, ← cols_apply w 1920 1536 inb_S1024x3456_S1024x1920_0_1536]
  generalize k0_pay11 (F := Ideal) x0 x1 = y
  generalize View.ld _ _ = v
  pointwise []

/-- Columns rotated by 248 places, at an index. -/
theorem rot248 (x : FVec Ideal S640x256 .f32) (r : Fin 640) (j : Fin 256) :
    dynamicRotate 1 248#32 none x rotates_S640x256_d1 (ix2 r j) = x (ix2 r ⟨(j.val + 8) % 256, Nat.mod_lt _ (by omega)⟩) := by
  refine Idealize.ShloMosaic.dynamicRotate_apply _ _ _ _ _ _ fun b => ?_
  match b with
  | ⟨0, _⟩ => rfl
  | ⟨1, _⟩ => show (j.val + 8) % 256 = (j.val + 256 - 248) % 256; rfl

/-- Columns rotated by 8 places, at an index. -/
theorem rot8 (x : FVec Ideal S640x256 .f32) (r : Fin 640) (j : Fin 256) :
    dynamicRotate 1 8#32 none x rotates_S640x256_d1 (ix2 r j) = x (ix2 r ⟨(j.val + 248) % 256, Nat.mod_lt _ (by omega)⟩) := by
  refine Idealize.ShloMosaic.dynamicRotate_apply _ _ _ _ _ _ fun b => ?_
  match b with
  | ⟨0, _⟩ => rfl
  | ⟨1, _⟩ => show (j.val + 248) % 256 = (j.val + 256 - 8) % 256; rfl

/-- A table twice side by side, at a column whose place in its head is `l`. -/
theorem pay18_apply (x : Vec Ideal S640x128 .f32) (f : Fin 64 → EReal) (r : Fin 640) (hf : ∀ i : Fin 128, x (ix2 r i) = f ⟨i.val % 64, Nat.mod_lt _ (by omega)⟩)
    (k : Fin 4) (l : Fin 64) : k0_pay18 (F := Ideal) x (ix2 r ⟨64 * k.val + l.val, by omega⟩) = f l := by
  have e : k0_pay18 (F := Ideal) x (ix2 r ⟨64 * k.val + l.val, by omega⟩)
      = if h : 64 * k.val + l.val < 128 then x (ix2 r ⟨64 * k.val + l.val, h⟩) else x (ix2 r ⟨64 * k.val + l.val - 128, by omega⟩) := by
    pointwise [k0_pay18, k0_pay12]
  rw [e]
  by_cases h : 64 * k.val + l.val < 128
  · rw [dif_pos h, hf]; exact congrArg f (Fin.ext (by show (64 * k.val + l.val) % 64 = l.val; omega))
  · rw [dif_neg h, hf]; exact congrArg f (Fin.ext (by show (64 * k.val + l.val - 128) % 64 = l.val; omega))

/-- Four heads normalised, at one column of one head. -/
theorem headNorm_apply (x7 : Vec Ideal S256x256 .bf16) (y : FVec Ideal S640x256 .f32) (g : Vec Ideal S1x256 .f32) (γ : Fin 64 → EReal) (r : Fin 640)
    (h7 : ∀ a c : Fin 256, x7 (ix2 a c) = if a.val / 64 = c.val / 64 then 1 else 0) (hg : ∀ c : Fin 256, g (ix2 0 c) = γ ⟨c.val % 64, Nat.mod_lt _ (by omega)⟩)
    (k : Fin 4) (l : Fin 64) :
    headNorm (F := Ideal) x7 y g (ix2 r ⟨64 * k.val + l.val, by omega⟩) = Row.headNormed (Row.headOf (fun c => y (ix2 r c)) k) γ l := by
  have hl := l.isLt
  refine Eq.trans ?_ (Row.headNormed_of_ones (fun c => y (ix2 r c)) (fun c => g (ix2 0 c)) (fun a => x7 (ix2 a ⟨64 * k.val + l.val, by omega⟩)) γ k l ?_ ?_)
  · unfold headNorm Row.headOf
    pointwise []
  · intro a
    refine (h7 a _).trans ?_
    show (if a.val / 64 = (64 * k.val + l.val) / 64 then (1 : EReal) else 0) = _
    rw [show (64 * k.val + l.val) / 64 = k.val from by omega]
  · show g _ = _
    rw [hg]
    exact congrArg γ (Fin.ext (by show (64 * k.val + l.val) % 64 = l.val; omega))

/-- The turn of four heads, at one column of one head. -/
theorem turn_apply (s : BitVec 32) (x4 x5 x6 : Vec Ideal S640x128 .f32) (y : FVec Ideal S640x256 .f32) (cs sn : Fin 8 → EReal) (r : Fin 640)
    (h4 : ∀ i : Fin 128, x4 (ix2 r i) = Row.tabC cs ⟨i.val % 64, Nat.mod_lt _ (by omega)⟩)
    (h5 : ∀ i : Fin 128, x5 (ix2 r i) = Row.tabS sn ⟨i.val % 64, Nat.mod_lt _ (by omega)⟩)
    (h6 : ∀ i : Fin 128, x6 (ix2 r i) = Row.tabT sn ⟨i.val % 64, Nat.mod_lt _ (by omega)⟩) (k : Fin 4) (l : Fin 64) :
    turn (F := Ideal) s x4 x5 x6 y (ix2 r ⟨64 * k.val + l.val, by omega⟩)
      = Row.turned (Row.headOf (fun c => y (ix2 r c)) k) cs sn l * Ideal.ofBits .f32 s := by
  have hl := l.isLt
  have e4 := pay18_apply x4 _ r h4 k l
  have e5 : k0_pay19 (F := Ideal) x5 (ix2 r ⟨64 * k.val + l.val, by omega⟩) = Row.tabS sn l := pay18_apply x5 _ r h5 k l
  have e6 : k0_pay20 (F := Ideal) x6 (ix2 r ⟨64 * k.val + l.val, by omega⟩) = Row.tabT sn l := pay18_apply x6 _ r h6 k l
  have e1 := rot248 y r ⟨64 * k.val + l.val, by omega⟩
  have e2 := rot8 y r ⟨64 * k.val + l.val, by omega⟩
  unfold turn
  generalize k0_pay18 (F := Ideal) x4 = a4 at *
  generalize k0_pay19 (F := Ideal) x5 = a5 at *
  generalize k0_pay20 (F := Ideal) x6 = a6 at *
  generalize dynamicRotate 1 248#32 none y rotates_S640x256_d1 = b1 at *
  generalize dynamicRotate 1 8#32 none y rotates_S640x256_d1 = b2 at *
  pointwise []
  rw [e4, e5, e6, e1, e2]
  refine congrArg (· * _) (Row.turned_of_tabs (Row.headOf (fun c => y (ix2 r c)) k) cs sn l _ _ (fun h => ?_) fun h => ?_)
  · exact congrArg (fun c => y (ix2 r c)) (Fin.ext (by show (64 * k.val + l.val + 8) % 256 = 64 * k.val + (l.val + 8); omega))
  · exact congrArg (fun c => y (ix2 r c)) (Fin.ext (by show (64 * k.val + l.val + 248) % 256 = 64 * k.val + (l.val - 8); omega))

/-- Eight heads, at a column. -/
theorem heads_apply (s : BitVec 32) (y : FVec Ideal S640x512 .f32) (g : Vec Ideal S1x512 .f32) (x4 x5 x6 : Vec Ideal S640x128 .f32) (x7 : Vec Ideal S256x256 .bf16)
    (γ : Fin 64 → EReal) (cs sn : Fin 8 → EReal) (r : Fin 640)
    (h4 : ∀ i : Fin 128, x4 (ix2 r i) = Row.tabC cs ⟨i.val % 64, Nat.mod_lt _ (by omega)⟩)
    (h5 : ∀ i : Fin 128, x5 (ix2 r i) = Row.tabS sn ⟨i.val % 64, Nat.mod_lt _ (by omega)⟩)
    (h6 : ∀ i : Fin 128, x6 (ix2 r i) = Row.tabT sn ⟨i.val % 64, Nat.mod_lt _ (by omega)⟩)
    (h7 : ∀ a c : Fin 256, x7 (ix2 a c) = if a.val / 64 = c.val / 64 then 1 else 0)
    (hg : ∀ c : Fin 512, g (ix2 0 c) = γ ⟨c.val % 64, Nat.mod_lt _ (by omega)⟩) (j : Fin 512) :
    heads (F := Ideal) s y g x4 x5 x6 x7 (ix2 r j)
      = Row.turned (Row.headNormed (fun l => y (ix2 r ⟨64 * (j.val / 64) + l.val, by omega⟩)) γ) cs sn ⟨j.val % 64, Nat.mod_lt _ (by omega)⟩ * Ideal.ofBits .f32 s := by
  have hj := j.isLt
  have e : heads (F := Ideal) s y g x4 x5 x6 x7 (ix2 r j)
      = turn (F := Ideal) s x4 x5 x6 (headNorm x7 (half (F := Ideal) y ⟨j.val / 256, by omega⟩) (halfg (F := Ideal) g ⟨j.val / 256, by omega⟩))
          (ix2 r ⟨64 * (j.val % 256 / 64) + j.val % 64, by omega⟩) := by
    unfold heads
    exact congrArg (turn (F := Ideal) s x4 x5 x6 (headNorm x7 (half (F := Ideal) y ⟨j.val / 256, by omega⟩) (halfg (F := Ideal) g ⟨j.val / 256, by omega⟩)))
      (Shape.idx_ext₂ rfl (by show j.val % 256 = 64 * (j.val % 256 / 64) + j.val % 64; omega))
  rw [e, turn_apply s x4 x5 x6 _ cs sn r h4 h5 h6 ⟨j.val % 256 / 64, by omega⟩ ⟨j.val % 64, Nat.mod_lt _ (by omega)⟩]
  refine congrArg (fun v => Row.turned v cs sn ⟨j.val % 64, Nat.mod_lt _ (by omega)⟩ * Ideal.ofBits .f32 s) (funext fun l => ?_)
  refine (headNorm_apply x7 _ _ γ r h7 (fun c => ?_) ⟨j.val % 256 / 64, by omega⟩ l).trans ?_
  · have e' : halfg (F := Ideal) g ⟨j.val / 256, by omega⟩ (ix2 0 c) = g (ix2 0 ⟨256 * (j.val / 256) + c.val, by omega⟩) :=
      congrArg g (Shape.idx_ext₂ rfl rfl)
    rw [e', hg]
    exact congrArg γ (Fin.ext (by show (256 * (j.val / 256) + c.val) % 64 = c.val % 64; omega))
  · refine congrArg (fun v => Row.headNormed v γ l) (funext fun l' => congrArg y (Shape.idx_ext₂ rfl ?_))
    show 256 * (j.val / 256) + (64 * (j.val % 256 / 64) + l'.val) = 64 * (j.val / 64) + l'.val
    omega

end Cert.Kernel3Ideal.Hand

end
-- ==== Proof.In.Host.lean ====
module

public import proofs.«01_k».proof.Proof.In.Run
public import proofs.«01_k».proof.Proof.Gen.Reference3Ideal.Read
public import proofs.«01_k».proof.Proof.Row.Head

@[expose] public section

set_option maxRecDepth 16384

/-! The arrays the region finds, which the host prepares of the launch's arguments. -/

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.Sem
open Idealize.ShloMosaic.Pipeline (Dat Cfg Window)

/-- The cosines and the sines of the positions' angles are the reference's. -/
abbrev cosT : Vec Ideal S8320x8 .f32 := Cert.Reference3Ideal.Read.val_main_v16 (F := Ideal)
abbrev sinT : Vec Ideal S8320x8 .f32 := Cert.Reference3Ideal.Read.val_main_v17 (F := Ideal)

/-- The table of 64 columns twice side by side. -/
def twice (x : Vec Ideal S8320x64 .f32) : Vec Ideal S8320x128 .f32 :=
  shapeCast S8320x128 (broadcastInDim S1x8320x2x64 ![0, 1, 2, 3] bcast_S1x8320x1x64_S1x8320x2x64_0_1_2_3 (shapeCast S1x8320x1x64 x shapeCasts_S8320x64_S1x8320x1x64)) shapeCasts_S1x8320x2x64_S8320x128

/-- A gain of 64 columns eight times side by side. -/
def eight (x : Vec Ideal S1x64 .f32) : Vec Ideal S1x512 .f32 :=
  shapeCast S1x512 (shapeCast S512 (broadcastInDim S8x64 ![0, 1] bcast_S1x64_S8x64_0_1 (shapeCast S1x64 (shapeCast S64 x shapeCasts_S1x64_S64) shapeCasts_S64_S1x64)) shapeCasts_S8x64_S512) shapeCasts_S512_S1x512

/-- The tables of 64 columns. -/
def tab19 : Vec Ideal S8320x64 .f32 :=
  concatenate S8320x64 1 [⟨S8320x8, cosT⟩, ⟨S8320x8, cosT⟩, ⟨S8320x48, broadcastInDim S8320x48 ![] bcast_S_S8320x48 (constant (F := Ideal) S_ .f32 0x3F800000#32)⟩] concatenates_S8320x8_S8320x8_S8320x48_S8320x64_d1
def tab22 : Vec Ideal S8320x64 .f32 :=
  concatenate S8320x64 1 [⟨S8320x8, (Host.negf (F := Ideal) (φ := .f32) sinT : Vec Ideal S8320x8 .f32)⟩, ⟨S8320x56, broadcastInDim S8320x56 ![] bcast_S_S8320x56 (constant (F := Ideal) S_ .f32 0x00000000#32)⟩] concatenates_S8320x8_S8320x56_S8320x64_d1
def tab25 : Vec Ideal S8320x64 .f32 :=
  concatenate S8320x64 1 [⟨S8320x8, broadcastInDim S8320x8 ![] bcast_S_S8320x8 (constant (F := Ideal) S_ .f32 0x00000000#32)⟩, ⟨S8320x8, sinT⟩, ⟨S8320x48, broadcastInDim S8320x48 ![] bcast_S_S8320x48 (constant (F := Ideal) S_ .f32 0x00000000#32)⟩] concatenates_S8320x8_S8320x8_S8320x48_S8320x64_d1

/-- The head each of 256 columns is of. -/
def lane : Vec Ideal S256 .i32 :=
  let n : Vec Ideal S256 .i32 := iotaInDim S256 32 0
  let d : Vec Ideal S_ .i32 := constantI S_ 32 64#32
  let b : Vec Ideal S256 .i32 := broadcastInDim S256 ![] bcast_S_S256 d
  select (andi (cmpi .ne (signi n) (broadcastInDim S256 ![] bcast_S_S256 (signi d))) (cmpi .ne (Host.remsi n b) (broadcastInDim S256 ![] bcast_S_S256 (constantI S_ 32 0#32))))
    (subi (Host.divsi n b) (broadcastInDim S256 ![] bcast_S_S256 (constantI S_ 32 1#32))) (Host.divsi n b)

/-- The matrix of ones where the row's and the column's heads agree. -/
def onesM : Vec Ideal S256x256 .bf16 :=
  uitofp (F := Ideal) .bf16 (cmpi .eq (broadcastInDim S256x256 ![0, 1] bcast_S256x1_S256x256_0_1 (broadcastInDim S256x1 ![0] bcast_S256_S256x1_0 lane))
    (broadcastInDim S256x256 ![0, 1] bcast_S1x256_S256x256_0_1 (broadcastInDim S1x256 ![1] bcast_S256_S1x256_1 lane)))

variable (m : (ℓ : Loc nD τ sig) → Buf (Elt Ideal) ℓ) (ρ : Dev nD → PrngReg)

set_option maxHeartbeats 20000000 in
/-- What the region finds, array by array: the input laid flat, the norm's gain, the two gains of the heads eight times
    over, the three tables twice over, and the ones. -/
theorem V_all (c : Dev nD) :
    (V m c main_v53 : Vec Ideal S16640x1024 .f32) = shapeCast S16640x1024 (m ((c : Thread nD τ).loc main_arg0) : Vec Ideal S2x8320x1024 .f32) shapeCasts_S2x8320x1024_S16640x1024
    ∧ (V m c main_v55 : Vec Ideal S1x1024 .f32) = shapeCast S1x1024 (shapeCast S1024 (m ((c : Thread nD τ).loc main_arg1) : Vec Ideal S1x1024 .f32) shapeCasts_S1x1024_S1024) shapeCasts_S1024_S1x1024
    ∧ (V m c main_v47 : Vec Ideal S1x512 .f32) = eight (m ((c : Thread nD τ).loc main_arg3))
    ∧ (V m c main_v52 : Vec Ideal S1x512 .f32) = eight (m ((c : Thread nD τ).loc main_arg4))
    ∧ (V m c main_v28 : Vec Ideal S8320x128 .f32) = twice tab19
    ∧ (V m c main_v31 : Vec Ideal S8320x128 .f32) = twice tab22
    ∧ (V m c main_v34 : Vec Ideal S8320x128 .f32) = twice tab25
    ∧ (V m c main_v42 : Vec Ideal S256x256 .bf16) = onesM := by
  refine ⟨?_, ?_, ?_, ?_, ?_, ?_, ?_, ?_⟩ <;> unfold V <;>
    simp only [hostOps0, hostOps0_1, hostOps0_2, List.flatten_cons, List.flatten_nil, List.append_nil, List.cons_append, List.nil_append, StableHlo.TRef.nullary, StableHlo.TRef.ternary, StableHlo.TRef.binary, StableHlo.TRef.unary, StableHlo.TRef.toBuf, StableHlo.TRef.ofBuf, cast_eq] <;>
    after_results <;> rfl

/-- The gain eight times over, at a column. -/
theorem eight_apply (x : Vec Ideal S1x64 .f32) (j : Fin 512) (l : Fin 64) (hl : l.val = j.val % 64) : eight x (ix2 0 j) = x (ix2 0 l) := by
  rw [show l = ⟨j.val % 64, Nat.mod_lt _ (by omega)⟩ from Fin.ext hl]
  unfold eight
  pointwise []

/-- A table twice over, at a column. -/
theorem twice_apply (x : Vec Ideal S8320x64 .f32) (s : Fin 8320) (j : Fin 128) (l : Fin 64) (hl : l.val = j.val % 64) : twice x (ix2 s j) = x (ix2 s l) := by
  rw [show l = ⟨j.val % 64, Nat.mod_lt _ (by omega)⟩ from Fin.ext hl]
  unfold twice
  pointwise []

/-- The three tables of 64 columns, at a column. -/
theorem tab19_apply (s : Fin 8320) (l : Fin 64) : tab19 (ix2 s l) = Row.tabC (fun i => cosT (ix2 s i)) l := by
  unfold tab19 Row.tabC
  generalize cosT = y
  pointwise []
  simp only [show l.val - 8 < 8 ↔ l.val < 16 from by omega]

theorem tab22_apply (s : Fin 8320) (l : Fin 64) : tab22 (ix2 s l) = Row.tabS (fun i => sinT (ix2 s i)) l := by
  unfold tab22 Row.tabS
  generalize sinT = y
  pointwise []

theorem tab25_apply (s : Fin 8320) (l : Fin 64) : tab25 (ix2 s l) = Row.tabT (fun i => sinT (ix2 s i)) l := by
  unfold tab25 Row.tabT
  generalize sinT = y
  pointwise []
  simp only [show l.val - 8 < 8 ↔ l.val < 16 from by omega]
  by_cases h : l.val < 8
  · rw [dif_pos h, if_pos h]
  · rw [dif_neg h, if_neg h]

/-- The head of a column is its number by 64. -/
theorem lane_apply (j : Fin 256) : lane (ix1 j) = BitVec.ofNat 32 (j.val / 64) := by
  revert j
  decide +kernel

/-- Whether two heads agree, as a bit. -/
theorem same_bit : ∀ a b : Fin 4, IntOp.cmpi .eq (BitVec.ofNat 32 a.val) (BitVec.ofNat 32 b.val) = BitVec.ofBool (decide (a.val = b.val)) := by decide +kernel

/-- The matrix of ones at an index. -/
theorem onesM_apply (a l : Fin 256) : onesM (ix2 a l) = if a.val / 64 = l.val / 64 then 1 else 0 := by
  unfold onesM
  have h1 := lane_apply a
  have h2 := lane_apply l
  generalize lane = y at *
  pointwise []
  rw [h1, h2]
  rw [same_bit ⟨a.val / 64, by omega⟩ ⟨l.val / 64, by omega⟩]
  show ((((BitVec.ofBool (decide (a.val / 64 = l.val / 64))).toNat : ℝ)) : EReal) = _
  by_cases h : a.val / 64 = l.val / 64
  · rw [if_pos h, decide_eq_true h]; simp
  · rw [if_neg h, decide_eq_false h]; simp

end Cert.Kernel3Ideal.Hand

end
-- ==== Proof.In.Ref.lean ====
module

public import proofs.«01_k».proof.Proof.Gen.Reference3Ideal.Read
public import proofs.«01_k».proof.Proof.Row.Head

@[expose] public section

set_option maxRecDepth 16384

/-! What the reference of the mixers' input call computes, row by row, over the extended reals. -/

noncomputable section

namespace Cert.Reference3Ideal.Hand

open Cert.Reference3Ideal Cert.Reference3Ideal.Gen Cert.Reference3Ideal.Read
open Idealize.ShloMosaic Idealize.ShloMosaic.TcCoe

/-- Heads normalised, as the reference says it of the queries and of the keys. -/
def normR (y : Vec Ideal S2x8320x4x2x64 .f32) (g : Vec Ideal S1x64 .f32) : Vec Ideal S2x8320x4x2x64 .f32 :=
  mulf (φ := .f32) (mulf (φ := .f32) y (broadcastInDim S2x8320x4x2x64 ![0, 1, 2, 3, 4] bcast_S2x8320x4x2x1_S2x8320x4x2x64_0_1_2_3_4
      (Host.rsqrt (φ := .f32) (addf (φ := .f32) (Host.divf (φ := .f32) (broadcastInDim S2x8320x4x2x1 ![0, 1, 2, 3] bcast_S2x8320x4x2_S2x8320x4x2x1_0_1_2_3
        (Host.reduceAdd (φ := .f32) (mulf (φ := .f32) y y) (constant (F := Ideal) S_ .f32 0x00000000#32) reducesTo_S2x8320x4x2x64_S2x8320x4x2_d4 h_S_)) (val_main_v43 (F := Ideal))) (val_main_v45 (F := Ideal))))))
    (broadcastInDim S2x8320x4x2x64 ![0, 1, 2, 3, 4] bcast_S1x1x1x1x64_S2x8320x4x2x64_0_1_2_3_4 (broadcastInDim S1x1x1x1x64 ![4] bcast_S64_S1x1x1x1x64_4 (shapeCast S64 g shapeCasts_S1x64_S64)))

/-- Heads turned, as the reference says it of the queries and of the keys. -/
def rotR (z : Vec Ideal S2x8320x4x2x64 .f32) : Vec Ideal S2x8320x4x2x64 .f32 :=
  let a : FVec Ideal S2x8320x4x2x8 .f32 := extractStridedSlice S2x8320x4x2x8 ![0, 0, 0, 0, 0] z slices_S2x8320x4x2x64_S2x8320x4x2x8_0_0_0_0_0
  let b : FVec Ideal S2x8320x4x2x8 .f32 := extractStridedSlice S2x8320x4x2x8 ![0, 0, 0, 0, 8] z slices_S2x8320x4x2x64_S2x8320x4x2x8_0_0_0_0_8
  let p : FVec Ideal S2x8320x4x2x8 .f32 := subf (mulf a (val_main_v58 (F := Ideal))) (mulf b (val_main_v60 (F := Ideal)))
  let q : FVec Ideal S2x8320x4x2x8 .f32 := addf (mulf b (val_main_v63 (F := Ideal))) (mulf a (val_main_v65 (F := Ideal)))
  concatenate S2x8320x4x2x64 4
    [⟨S2x8320x4x2x8, p⟩, ⟨S2x8320x4x2x8, q⟩,
     ⟨S2x8320x4x2x48, extractStridedSlice S2x8320x4x2x48 ![0, 0, 0, 0, 16] z slices_S2x8320x4x2x64_S2x8320x4x2x48_0_0_0_0_16⟩]
    concatenates_S2x8320x4x2x8_S2x8320x4x2x8_S2x8320x4x2x48_S2x8320x4x2x64_d4

variable (x0 : (⟨S2x8320x1024, .f32⟩ : BufTy).Contents (Elt Ideal)) (x1 : (⟨S1x1024, .f32⟩ : BufTy).Contents (Elt Ideal)) (x2 : (⟨S1x1024x3360, .f32⟩ : BufTy).Contents (Elt Ideal))

theorem v68_eq (x3 : (⟨S1x64, .f32⟩ : BufTy).Contents (Elt Ideal)) : val_main_v68 (F := Ideal) x0 x1 x2 x3 = rotR (normR (val_main_v38 (F := Ideal) x0 x1 x2) x3) := rfl
theorem v99_eq (x4 : (⟨S1x64, .f32⟩ : BufTy).Contents (Elt Ideal)) : val_main_v99 (F := Ideal) x0 x1 x2 x4 = rotR (normR (val_main_v69 (F := Ideal) x0 x1 x2) x4) := rfl

/-- A head normalised. -/
theorem normR_apply (y : Vec Ideal S2x8320x4x2x64 .f32) (g : Vec Ideal S1x64 .f32) (b : Fin 2) (s : Fin 8320) (h : Fin 4) (d : Fin 2) (l : Fin 64) :
    normR y g (ix5 b s h d l) = Row.headNormed (fun l => y (ix5 b s h d l)) (fun l => g (ix2 0 l)) l := by
  unfold normR Row.headNormed
  pointwise [val_main_v43, val_main_v45, val_main_cst_7, val_main_cst_8]

/-- A head turned. -/
theorem rotR_apply (z : Vec Ideal S2x8320x4x2x64 .f32) (b : Fin 2) (s : Fin 8320) (h : Fin 4) (d : Fin 2) (l : Fin 64) :
    rotR z (ix5 b s h d l) = Row.turned (fun l => z (ix5 b s h d l)) (fun i => val_main_v16 (F := Ideal) (ix2 s i)) (fun i => val_main_v17 (F := Ideal) (ix2 s i)) l := by
  unfold rotR Row.turned val_main_v58 val_main_v60 val_main_v63 val_main_v65 val_main_v53 val_main_v54
  generalize val_main_v16 (F := Ideal) = c
  generalize val_main_v17 (F := Ideal) = n
  pointwise []
  by_cases p : l.val < 8
  · rw [dif_pos p, dif_pos p]
    simp only [Nat.add_comm 8]
  · rw [dif_neg p, dif_neg p]
    by_cases q : l.val < 16
    · rw [dif_pos (by omega), dif_pos q]
      simp only [show 8 + (l.val - 8) = l.val from by omega]
    · rw [dif_neg (by omega), dif_neg q]
      simp only [show 16 + (l.val - 8 - 8) = l.val from by omega]

/-- The row of the product with the weight. -/
abbrev rowOf (b : Fin 2) (s : Fin 8320) (j : Fin 3360) : EReal :=
  Row.prod (Row.normed (fun a => x0 (ix3 b s a)) (fun a => x1 (ix2 0 a))) (fun a c => x2 (ix3 0 a c)) j

/-- The normalised rows. -/
theorem v31_apply (b : Fin 2) (s : Fin 8320) (j : Fin 1024) :
    val_main_v31 (F := Ideal) x0 x1 (ix3 b s j) = Row.normed (fun a => x0 (ix3 b s a)) (fun a => x1 (ix2 0 a)) j := by
  unfold val_main_v31 val_main_v28 val_main_v27 val_main_v26 val_main_v25 val_main_v23 val_main_v21 val_main_v20 val_main_v19 Row.normed
  pointwise [val_main_v30, val_main_v29, val_main_v18, val_main_v24, val_main_v22, val_main_cst_3, val_main_cst_4, val_main_cst_5]

/-- Their product with the weight. -/
theorem v33_apply (b : Fin 2) (s : Fin 8320) (j : Fin 3360) : val_main_v33 (F := Ideal) x0 x1 x2 (ix3 b s j) = rowOf x0 x1 x2 b s j := by
  unfold val_main_v33 rowOf Row.prod
  simp only [← v31_apply]
  generalize val_main_v31 (F := Ideal) x0 x1 = y
  pointwise [val_main_v32]

/-- The queries' columns head by head, -/
theorem v38_apply (b : Fin 2) (s : Fin 8320) (h : Fin 4) (d : Fin 2) (l : Fin 64) :
    val_main_v38 (F := Ideal) x0 x1 x2 (ix5 b s h d l) = rowOf x0 x1 x2 b s ⟨0 + ((h.val * 2 + d.val) * 64 + l.val), by omega⟩ := by
  rw [← v33_apply, val_main_v38_apply, val_main_v34_apply]
  refine congrArg _ (funext fun a => Fin.ext ?_)
  have hb := b.isLt; have hs := s.isLt; have hh := h.isLt; have hd := d.isLt; have hl := l.isLt
  match a with
  | ⟨0, _⟩ => show ((((b.val * 8320 + s.val) * 4 + h.val) * 2 + d.val) * 64 + l.val) / 4259840 = b.val; omega
  | ⟨1, _⟩ => show ((((b.val * 8320 + s.val) * 4 + h.val) * 2 + d.val) * 64 + l.val) / 512 % 8320 = s.val; omega
  | ⟨2, _⟩ => show ((((b.val * 8320 + s.val) * 4 + h.val) * 2 + d.val) * 64 + l.val) % 512 = 0 + ((h.val * 2 + d.val) * 64 + l.val); omega

/-- and the keys'. -/
theorem v69_apply (b : Fin 2) (s : Fin 8320) (h : Fin 4) (d : Fin 2) (l : Fin 64) :
    val_main_v69 (F := Ideal) x0 x1 x2 (ix5 b s h d l) = rowOf x0 x1 x2 b s ⟨512 + ((h.val * 2 + d.val) * 64 + l.val), by omega⟩ := by
  rw [← v33_apply, val_main_v69_apply, val_main_v35_apply]
  refine congrArg _ (funext fun a => Fin.ext ?_)
  have hb := b.isLt; have hs := s.isLt; have hh := h.isLt; have hd := d.isLt; have hl := l.isLt
  match a with
  | ⟨0, _⟩ => show ((((b.val * 8320 + s.val) * 4 + h.val) * 2 + d.val) * 64 + l.val) / 4259840 = b.val; omega
  | ⟨1, _⟩ => show ((((b.val * 8320 + s.val) * 4 + h.val) * 2 + d.val) * 64 + l.val) / 512 % 8320 = s.val; omega
  | ⟨2, _⟩ => show 512 + ((((b.val * 8320 + s.val) * 4 + h.val) * 2 + d.val) * 64 + l.val) % 512 = 512 + ((h.val * 2 + d.val) * 64 + l.val); omega

/-- What the reference says of column `j` of the 512 from `o` on: that column of its head, normalised and turned. -/
abbrev headRow (g : (⟨S1x64, .f32⟩ : BufTy).Contents (Elt Ideal)) (o : ℕ) (ho : o ≤ 512) (b : Fin 2) (s : Fin 8320) (j : Fin 512) : EReal :=
  Row.turned (Row.headNormed (fun l => rowOf x0 x1 x2 b s ⟨o + (64 * (j.val / 64) + l.val), by omega⟩) (fun l => g (ix2 0 l)))
    (fun i => val_main_v16 (F := Ideal) (ix2 s i)) (fun i => val_main_v17 (F := Ideal) (ix2 s i)) ⟨j.val % 64, Nat.mod_lt _ (by omega)⟩

/-- Heads laid flat: their head and their column in it. -/
theorem turned_flat (y : Vec Ideal S2x8320x4x2x64 .f32) (g : (⟨S1x64, .f32⟩ : BufTy).Contents (Elt Ideal)) (o : ℕ) (ho : o ≤ 512) (b : Fin 2) (s : Fin 8320) (j : Fin 512)
    (hy : ∀ (h : Fin 4) (d : Fin 2) (l : Fin 64), y (ix5 b s h d l) = rowOf x0 x1 x2 b s ⟨o + ((h.val * 2 + d.val) * 64 + l.val), by omega⟩) :
    rotR (normR y g) (ix5 b s ⟨j.val / 128, by omega⟩ ⟨j.val / 64 % 2, Nat.mod_lt _ (by omega)⟩ ⟨j.val % 64, Nat.mod_lt _ (by omega)⟩) = headRow x0 x1 x2 g o ho b s j := by
  have hj := j.isLt
  rw [rotR_apply]
  simp only [normR_apply, hy]
  unfold headRow
  refine congrArg (fun v => Row.turned (Row.headNormed v _) _ _ _) (funext fun l => congrArg (rowOf x0 x1 x2 b s) (Fin.ext ?_))
  show o + ((j.val / 128 * 2 + j.val / 64 % 2) * 64 + l.val) = o + (64 * (j.val / 64) + l.val)
  omega

/-- The index of the heads a flat index is. -/
theorem idx_flat (q : Fin 16640) (j : Fin 512) (b : Fin 2) (s : Fin 8320) (hb : b.val = q.val / 8320) (hs : s.val = q.val % 8320) :
    idx_main_v103 (ix2 q j) = ix5 b s ⟨j.val / 128, by omega⟩ ⟨j.val / 64 % 2, Nat.mod_lt _ (by omega)⟩ ⟨j.val % 64, Nat.mod_lt _ (by omega)⟩ := by
  refine funext fun a => Fin.ext ?_
  have hj := j.isLt; have hq := q.isLt
  match a with
  | ⟨0, _⟩ => show (q.val * 512 + j.val) / 4259840 = b.val; omega
  | ⟨1, _⟩ => show (q.val * 512 + j.val) / 512 % 8320 = s.val; omega
  | ⟨2, _⟩ => show (q.val * 512 + j.val) / 128 % 4 = j.val / 128; omega
  | ⟨3, _⟩ => show (q.val * 512 + j.val) / 64 % 2 = j.val / 64 % 2; omega
  | ⟨4, _⟩ => show (q.val * 512 + j.val) % 64 = j.val % 64; omega

/-- The queries: row `8320 b + s` is row `s` of batch entry `b`. -/
theorem v104_apply (x3 : (⟨S1x64, .f32⟩ : BufTy).Contents (Elt Ideal)) (q : Fin 16640) (j : Fin 512) (b : Fin 2) (s : Fin 8320) (hb : b.val = q.val / 8320) (hs : s.val = q.val % 8320) :
    val_main_v104 (F := Ideal) x0 x1 x2 x3 (ix2 q j) = headRow x0 x1 x2 x3 0 (by omega) b s j * Ideal.ofBits .f32 0x3E38AA3B#32 := by
  show val_main_v103 (F := Ideal) x0 x1 x2 x3 (ix2 q j) = _
  rw [val_main_v103_apply, idx_flat q j b s hb hs]
  show val_main_v68 (F := Ideal) x0 x1 x2 x3 _ * Ideal.ofBits .f32 0x3E38AA3B#32 = _
  rw [v68_eq, turned_flat x0 x1 x2 _ x3 0 (by omega) b s j fun h d l => v38_apply x0 x1 x2 b s h d l]

/-- The keys. -/
theorem v106_apply (x4 : (⟨S1x64, .f32⟩ : BufTy).Contents (Elt Ideal)) (q : Fin 16640) (j : Fin 512) (b : Fin 2) (s : Fin 8320) (hb : b.val = q.val / 8320) (hs : s.val = q.val % 8320) :
    val_main_v106 (F := Ideal) x0 x1 x2 x4 (ix2 q j) = headRow x0 x1 x2 x4 512 (by omega) b s j := by
  show val_main_v105 (F := Ideal) x0 x1 x2 x4 (ix2 q j) = _
  rw [val_main_v105_apply, show idx_main_v105 (ix2 q j) = _ from idx_flat q j b s hb hs, v99_eq, turned_flat x0 x1 x2 _ x4 512 (by omega) b s j fun h d l => v69_apply x0 x1 x2 b s h d l]

/-- The values. -/
theorem v108_apply (q : Fin 16640) (j : Fin 512) (b : Fin 2) (s : Fin 8320) (hb : b.val = q.val / 8320) (hs : s.val = q.val % 8320) :
    val_main_v108 (F := Ideal) x0 x1 x2 (ix2 q j) = rowOf x0 x1 x2 b s ⟨1024 + j.val, by omega⟩ := by
  show val_main_v107 (F := Ideal) x0 x1 x2 (ix2 q j) = _
  rw [← v33_apply, val_main_v107_apply, val_main_v36_apply]
  refine congrArg _ (funext fun a => Fin.ext ?_)
  have hj := j.isLt; have hq := q.isLt
  match a with
  | ⟨0, _⟩ => show (q.val * 512 + j.val) / 4259840 = b.val; omega
  | ⟨1, _⟩ => show (q.val * 512 + j.val) / 512 % 8320 = s.val; omega
  | ⟨2, _⟩ => show 1024 + (q.val * 512 + j.val) % 512 = 1024 + j.val; omega

/-- The padding value is zero. -/
theorem pad_zero (y : S_.Idx) : val_main_call0_v0 (F := Ideal) y = 0 := by
  show (((0#32 : BitVec 32).toInt : ℝ) : EReal) = 0
  simp

/-- The input of the second mixer, and the zeros after it. -/
theorem v102_apply (b : Fin 2) (s : Fin 8320) (j : Fin 1920) :
    val_main_v102 (F := Ideal) x0 x1 x2 (ix3 b s j) = if h : j.val < 1824 then rowOf x0 x1 x2 b s ⟨1536 + j.val, by omega⟩ else 0 := by
  have e : ∀ k : Fin 1824, val_main_v37 (F := Ideal) x0 x1 x2 (ix3 b s k) = rowOf x0 x1 x2 b s ⟨1536 + k.val, by omega⟩ := fun k => by
    rw [← v33_apply, val_main_v37_apply]
    refine congrArg _ (funext fun a => Fin.ext ?_)
    match a with
    | ⟨0, _⟩ => rfl
    | ⟨1, _⟩ => rfl
    | ⟨2, _⟩ => rfl
  refine Eq.trans ?_ (show (if h : j.val < 1824 then val_main_v37 (F := Ideal) x0 x1 x2 (ix3 b s ⟨j.val, h⟩) else 0) = _ from by simp only [e])
  unfold val_main_v102
  generalize val_main_v37 (F := Ideal) x0 x1 x2 = y
  pointwise [pad_zero]

theorem v109_apply (q : Fin 16640) (j : Fin 1920) (b : Fin 2) (s : Fin 8320) (hb : b.val = q.val / 8320) (hs : s.val = q.val % 8320) :
    val_main_v109 (F := Ideal) x0 x1 x2 (ix2 q j) = if h : j.val < 1824 then rowOf x0 x1 x2 b s ⟨1536 + j.val, by omega⟩ else 0 := by
  rw [← v102_apply, val_main_v109_apply]
  refine congrArg _ (funext fun a => Fin.ext ?_)
  have hj := j.isLt; have hq := q.isLt
  match a with
  | ⟨0, _⟩ => show (q.val * 1920 + j.val) / 15974400 = b.val; omega
  | ⟨1, _⟩ => show (q.val * 1920 + j.val) / 1920 % 8320 = s.val; omega
  | ⟨2, _⟩ => show (q.val * 1920 + j.val) % 1920 = j.val; omega

end Cert.Reference3Ideal.Hand

end
-- ==== Proof.In.Value.lean ====
module

public import proofs.«01_k».proof.Proof.In.Run
public import proofs.«01_k».proof.Proof.In.Pure
public import proofs.«01_k».proof.Proof.In.Host
public import proofs.«01_k».proof.Proof.In.Ref
public import Idealize.ShloMosaic.Lib.Pipeline.ValueKit

@[expose] public section

set_option maxRecDepth 16384

/-! The result arrays of the run are the reference's. -/

noncomputable section

namespace Cert.Kernel3Ideal.Hand

open Cert.Kernel3Ideal.Gen
open Cert.Reference3Ideal.Hand (headRow)
open Idealize.ShloMosaic Idealize.ShloMosaic.TcCoe Idealize.ShloMosaic.Tactic
open Idealize.SL Idealize.SL.RA Idealize.SL.Sem
open Idealize.ShloMosaic.Pipeline (Dat Cfg Window)

/-- Rows laid under one another: row `8320 b + s` is row `s` of batch entry `b`. -/
theorem flat1024 {α : Type} (x : S2x8320x1024.Idx → α) (q : Fin 16640) (a : Fin 1024) (b : Fin 2) (s : Fin 8320) (h : q.val = b.val * 8320 + s.val) :
    shapeCast S16640x1024 x shapeCasts_S2x8320x1024_S16640x1024 (ix2 q a) = x (ix3 b s a) := by
  refine shapeCast_apply x _ _ _ ?_
  rw [Shape.rowMajor_val_two, Shape.rowMajor_val_three]
  show (b.val * 8320 + s.val) * 1024 + a.val = q.val * 1024 + a.val
  rw [h]

/-- A weight without its leading unit axis, at an index. -/
theorem drop1024x3360 {α : Type} (x : S1x1024x3360.Idx → α) (a : Fin 1024) (b : Fin 3360) :
    shapeCast S1024x3360 x (show S1x1024x3360.ShapeCasts S1024x3360 by decide) (ix2 a b) = x (ix3 0 a b) := by
  refine shapeCast_apply x _ _ _ ?_
  rw [Shape.rowMajor_val_two, Shape.rowMajor_val_three]
  show (0 * 1024 + a.val) * 3360 + b.val = a.val * 3360 + b.val
  omega

variable (m : (ℓ : Loc nD τ sig) → Buf (Elt Ideal) ℓ) (ρ : Dev nD → PrngReg)

/-! Where the windows lie at each point. -/

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx7 : ∀ t : Fin cfg0.N, win0_7.index t = ![0, 0] := (by decide +kernel : ∀ t : Fin grid0.N, _)
theorem idx4 : ∀ t : Fin cfg0.N, win0_4.index t = ![t.val % 13, 0] := (by decide +kernel : ∀ t : Fin grid0.N, _)
theorem idx5 : ∀ t : Fin cfg0.N, win0_5.index t = ![t.val % 13, 0] := (by decide +kernel : ∀ t : Fin grid0.N, _)
theorem idx6 : ∀ t : Fin cfg0.N, win0_6.index t = ![t.val % 13, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![t.val, 0] := (by decide +kernel : ∀ t : Fin grid0.N, _)
theorem idx10 : ∀ t : Fin cfg0.N, win0_10.index t = ![t.val, 0] := (by decide +kernel : ∀ t : Fin grid0.N, _)
theorem idx11 : ∀ t : Fin cfg0.N, win0_11.index t = ![t.val, 0] := (by decide +kernel : ∀ t : Fin grid0.N, _)

/-- The rows of the input the body meets at a point. -/
theorem iblk0_apply (c : Dev nD) (t : Fin cfg0.N) (r : Fin 640) (a : Fin 1024) (b : Fin 2) (s : Fin 8320) (h : 640 * t.val + r.val = b.val * 8320 + s.val) :
    (iblk m c 0 t : Vec Ideal S640x1024 .f32) (ix2 r a) = (m ((c : Thread nD τ).loc main_arg0) : Vec Ideal S2x8320x1024 .f32) (ix3 b s a) := by
  refine Eq.trans ?_ ((congrFun (V_all m c).1 (ix2 ⟨b.val * 8320 + s.val, by omega⟩ a)).trans (flat1024 _ _ a b s rfl))
  show (V m c main_v53 : Vec Ideal S16640x1024 .f32) ((win0_0.rect t).emb (ix2 r a)) = _
  refine congrArg (V m c main_v53 : Vec Ideal S16640x1024 .f32) (funext fun k => Fin.ext ?_)
  rw [Window.rect_emb_val win0_0, idx0]
  match k with
  | ⟨0, _⟩ => show t.val * 640 + r.val = b.val * 8320 + s.val; omega
  | ⟨1, _⟩ => show 0 * 1024 + a.val = a.val; omega

/-- The norm's gain the body meets. -/
theorem iblk1_apply (c : Dev nD) (t : Fin cfg0.N) (a : Fin 1024) :
    (iblk m c 1 t : Vec Ideal S1x1024 .f32) (ix2 0 a) = (m ((c : Thread nD τ).loc main_arg1) : Vec Ideal S1x1024 .f32) (ix2 0 a) := by
  refine Eq.trans ?_ ((congrFun (V_all m c).2.1 (ix2 0 a)).trans (congrFun (shapeCast_shapeCast _ _ _) (ix2 0 a)))
  show (V m c main_v55 : Vec Ideal S1x1024 .f32) ((win0_1.rect t).emb (ix2 0 a)) = _
  refine congrArg (V m c main_v55 : Vec Ideal S1x1024 .f32) (funext fun k => Fin.ext ?_)
  rw [Window.rect_emb_val win0_1, idx1]
  match k with
  | ⟨0, _⟩ => rfl
  | ⟨1, _⟩ => show 0 * 1024 + a.val = a.val; omega

/-- The queries' gain the body meets, -/
theorem iblk2_apply (c : Dev nD) (t : Fin cfg0.N) (j : Fin 512) :
    (iblk m c 2 t : Vec Ideal S1x512 .f32) (ix2 0 j) = (m ((c : Thread nD τ).loc main_arg3) : Vec Ideal S1x64 .f32) (ix2 0 ⟨j.val % 64, Nat.mod_lt _ (by omega)⟩) := by
  refine Eq.trans ?_ ((congrFun (V_all m c).2.2.1 (ix2 0 j)).trans (eight_apply _ j _ rfl))
  show (V m c main_v47 : Vec Ideal S1x512 .f32) ((win0_2.rect t).emb (ix2 0 j)) = _
  refine congrArg (V m c main_v47 : Vec Ideal S1x512 .f32) (funext fun k => Fin.ext ?_)
  rw [Window.rect_emb_val win0_2, idx2]
  match k with
  | ⟨0, _⟩ => rfl
  | ⟨1, _⟩ => show 0 * 512 + j.val = j.val; omega

/-- and the keys'. -/
theorem iblk3_apply (c : Dev nD) (t : Fin cfg0.N) (j : Fin 512) :
    (iblk m c 3 t : Vec Ideal S1x512 .f32) (ix2 0 j) = (m ((c : Thread nD τ).loc main_arg4) : Vec Ideal S1x64 .f32) (ix2 0 ⟨j.val % 64, Nat.mod_lt _ (by omega)⟩) := by
  refine Eq.trans ?_ ((congrFun (V_all m c).2.2.2.1 (ix2 0 j)).trans (eight_apply _ j _ rfl))
  show (V m c main_v52 : Vec Ideal S1x512 .f32) ((win0_3.rect t).emb (ix2 0 j)) = _
  refine congrArg (V m c main_v52 : Vec Ideal S1x512 .f32) (funext fun k => Fin.ext ?_)
  rw [Window.rect_emb_val win0_3, idx3]
  match k with
  | ⟨0, _⟩ => rfl
  | ⟨1, _⟩ => show 0 * 512 + j.val = j.val; omega

/-- The table of cosines the body meets, -/
theorem iblk4_apply (c : Dev nD) (t : Fin cfg0.N) (r : Fin 640) (s : Fin 8320) (h : s.val = t.val % 13 * 640 + r.val) (j : Fin 128) :
    (iblk m c 4 t : Vec Ideal S640x128 .f32) (ix2 r j) = Row.tabC (fun i => cosT (ix2 s i)) ⟨j.val % 64, Nat.mod_lt _ (by omega)⟩ := by
  refine Eq.trans ?_ ((congrFun (V_all m c).2.2.2.2.1 (ix2 s j)).trans ((twice_apply tab19 s j _ rfl).trans (tab19_apply s _)))
  show (V m c main_v28 : Vec Ideal S8320x128 .f32) ((win0_4.rect t).emb (ix2 r j)) = _
  refine congrArg (V m c main_v28 : Vec Ideal S8320x128 .f32) (funext fun k => Fin.ext ?_)
  rw [Window.rect_emb_val win0_4, idx4]
  match k with
  | ⟨0, _⟩ => exact h.symm
  | ⟨1, _⟩ => show 0 * 128 + j.val = j.val; omega

/-- the sines against the column eight later, -/
theorem iblk5_apply (c : Dev nD) (t : Fin cfg0.N) (r : Fin 640) (s : Fin 8320) (h : s.val = t.val % 13 * 640 + r.val) (j : Fin 128) :
    (iblk m c 5 t : Vec Ideal S640x128 .f32) (ix2 r j) = Row.tabS (fun i => sinT (ix2 s i)) ⟨j.val % 64, Nat.mod_lt _ (by omega)⟩ := by
  refine Eq.trans ?_ ((congrFun (V_all m c).2.2.2.2.2.1 (ix2 s j)).trans ((twice_apply tab22 s j _ rfl).trans (tab22_apply s _)))
  show (V m c main_v31 : Vec Ideal S8320x128 .f32) ((win0_5.rect t).emb (ix2 r j)) = _
  refine congrArg (V m c main_v31 : Vec Ideal S8320x128 .f32) (funext fun k => Fin.ext ?_)
  rw [Window.rect_emb_val win0_5, idx5]
  match k with
  | ⟨0, _⟩ => exact h.symm
  | ⟨1, _⟩ => show 0 * 128 + j.val = j.val; omega

/-- and those against the column eight earlier. -/
theorem iblk6_apply (c : Dev nD) (t : Fin cfg0.N) (r : Fin 640) (s : Fin 8320) (h : s.val = t.val % 13 * 640 + r.val) (j : Fin 128) :
    (iblk m c 6 t : Vec Ideal S640x128 .f32) (ix2 r j) = Row.tabT (fun i => sinT (ix2 s i)) ⟨j.val % 64, Nat.mod_lt _ (by omega)⟩ := by
  refine Eq.trans ?_ ((congrFun (V_all m c).2.2.2.2.2.2.1 (ix2 s j)).trans ((twice_apply tab25 s j _ rfl).trans (tab25_apply s _)))
  show (V m c main_v34 : Vec Ideal S8320x128 .f32) ((win0_6.rect t).emb (ix2 r j)) = _
  refine congrArg (V m c main_v34 : Vec Ideal S8320x128 .f32) (funext fun k => Fin.ext ?_)
  rw [Window.rect_emb_val win0_6, idx6]
  match k with
  | ⟨0, _⟩ => exact h.symm
  | ⟨1, _⟩ => show 0 * 128 + j.val = j.val; omega

/-- The blocks of ones the body meets. -/
theorem iblk7_apply (c : Dev nD) (t : Fin cfg0.N) (a l : Fin 256) :
    (iblk m c 7 t : Vec Ideal S256x256 .bf16) (ix2 a l) = (if a.val / 64 = l.val / 64 then (1 : EReal) else 0) := by
  refine Eq.trans ?_ ((congrFun (V_all m c).2.2.2.2.2.2.2 (ix2 a l)).trans (onesM_apply a l))
  show (V m c main_v42 : Vec Ideal S256x256 .bf16) ((win0_7.rect t).emb (ix2 a l)) = _
  refine congrArg (V m c main_v42 : Vec Ideal S256x256 .bf16) (funext fun k => Fin.ext ?_)
  rw [Window.rect_emb_val win0_7, idx7]
  match k with
  | ⟨0, _⟩ => show 0 * 256 + a.val = a.val; omega
  | ⟨1, _⟩ => show 0 * 256 + l.val = l.val; omega

/-- The weight in scratch is the argument's, -/
theorem w_apply (c : Dev nD) (a : Fin 1024) (b : Fin 3456) (h : b.val < 3360) :
    win16 (F := Ideal) c (V m c main_arg2) (ix2 a b) = (m ((c : Thread nD τ).loc main_arg2) : Vec Ideal S1x1024x3360 .f32) (ix3 0 a ⟨b.val, h⟩) := by
  rw [V_main_arg2 m c]
  generalize (m ((c : Thread nD τ).loc main_arg2) : Vec Ideal S1x1024x3360 .f32) = f
  unfold win16
  refine (dif_pos h).trans ?_
  show win32 (F := Ideal) c f _ = f (ix3 0 a ⟨b.val, h⟩)
  refine Eq.trans ?_ (drop1024x3360 (f : Vec Ideal S1x1024x3360 .f32) a ⟨b.val, h⟩)
  refine (congrArg (win32 (F := Ideal) c f) (Shape.idx_ext₂ rfl rfl : _ = ix2 a ⟨b.val, h⟩)).trans ?_
  refine congrArg (f : Vec Ideal S1x1024x3360 .f32) (funext fun k => Fin.ext ?_)
  refine (ValueKit.rect_emb_unit_val (s := S1x1024x3360) ![0, 0, 0] S1x1024x3360.size inb_S1x1024x3360_S1x1024x3360_0_0_0 _ k).trans ?_
  match k with
  | ⟨0, _⟩ => exact Nat.zero_add _
  | ⟨1, _⟩ => exact Nat.zero_add _
  | ⟨2, _⟩ => exact Nat.zero_add _

/-- and zero in the columns after it. -/
theorem w_zero (c : Dev nD) (a : Fin 1024) (b : Fin 3456) (h : ¬b.val < 3360) : win16 (F := Ideal) c (V m c main_arg2) (ix2 a b) = 0 := by
  unfold win16
  refine (dif_neg h).trans ?_
  show Ideal.ofBits .bf16 0x0000#16 = 0
  exact Ideal.ofBits_zero_bf16

/-- The row of the reference's product at the launch's arguments. -/
abbrev refRow (c : Dev nD) (b : Fin 2) (s : Fin 8320) (j : Fin 3360) : EReal :=
  Cert.Reference3Ideal.Hand.rowOf (m ((c : Thread nD τ).loc main_arg0)) (m ((c : Thread nD τ).loc main_arg1)) (m ((c : Thread nD τ).loc main_arg2)) b s j

/-- A row of the block's product is the reference's, -/
theorem row_eq (c : Dev nD) (t : Fin cfg0.N) (r : Fin 640) (b : Fin 2) (s : Fin 8320) (h : 640 * t.val + r.val = b.val * 8320 + s.val) (j : Fin 3456) (hj : j.val < 3360) :
    rowOf (iblk m c 0 t) (iblk m c 1 t) (win16 (F := Ideal) c (V m c main_arg2)) r j = refRow m c b s ⟨j.val, hj⟩ := by
  unfold rowOf refRow Cert.Reference3Ideal.Hand.rowOf
  rw [show (fun a => (iblk m c 0 t : Vec Ideal S640x1024 .f32) (ix2 r a)) = _ from funext fun a => iblk0_apply m c t r a b s h,
    show (fun a => (iblk m c 1 t : Vec Ideal S1x1024 .f32) (ix2 0 a)) = _ from funext fun a => iblk1_apply m c t a]
  unfold Row.prod
  exact Finset.sum_congr rfl fun a _ => congrArg (_ * ·) (w_apply m c a j hj)

/-- and zero in the columns after them. -/
theorem row_zero (c : Dev nD) (t : Fin cfg0.N) (r : Fin 640) (j : Fin 3456) (hj : ¬j.val < 3360) :
    rowOf (iblk m c 0 t) (iblk m c 1 t) (win16 (F := Ideal) c (V m c main_arg2)) r j = 0 := by
  unfold rowOf Row.prod
  exact Finset.sum_eq_zero fun a _ => (congrArg (_ * ·) (w_zero m c a j hj)).trans (mul_zero _)

/-- A gain of a head, as the launch's arguments hold it. -/
abbrev gain (f : Vec Ideal S1x64 .f32) : Fin 64 → EReal := fun l => f (ix2 0 l)

/-- The heads of a block: those of the reference, by the scale. -/
theorem heads_eq (c : Dev nD) (t : Fin cfg0.N) (sc : BitVec 32) (y : FVec Ideal S640x512 .f32) (g : Vec Ideal S1x512 .f32) (f : Vec Ideal S1x64 .f32)
    (o : ℕ) (ho : o ≤ 512) (r : Fin 640) (b : Fin 2) (s : Fin 8320) (h : 640 * t.val + r.val = b.val * 8320 + s.val)
    (hy : ∀ j : Fin 512, y (ix2 r j) = rowOf (iblk m c 0 t) (iblk m c 1 t) (win16 (F := Ideal) c (V m c main_arg2)) r ⟨o + j.val, by omega⟩)
    (hg : ∀ j : Fin 512, g (ix2 0 j) = f (ix2 0 ⟨j.val % 64, Nat.mod_lt _ (by omega)⟩)) (j : Fin 512) :
    heads (F := Ideal) sc y g (iblk m c 4 t) (iblk m c 5 t) (iblk m c 6 t) (iblk m c 7 t) (ix2 r j)
      = headRow (m ((c : Thread nD τ).loc main_arg0)) (m ((c : Thread nD τ).loc main_arg1)) (m ((c : Thread nD τ).loc main_arg2)) f o ho b s j * Ideal.ofBits .f32 sc := by
  have ht : t.val < 26 := lt_of_lt_of_eq t.isLt (show cfg0.N = 26 from N_0)
  have hs : s.val = t.val % 13 * 640 + r.val := by omega
  refine (heads_apply sc y g _ _ _ _ (gain f) (fun i => cosT (ix2 s i)) (fun i => sinT (ix2 s i)) r (iblk4_apply m c t r s hs) (iblk5_apply m c t r s hs)
    (iblk6_apply m c t r s hs) (iblk7_apply m c t) hg j).trans ?_
  unfold headRow
  refine congrArg (fun v => Row.turned (Row.headNormed v _) _ _ _ * _) (funext fun l => ?_)
  exact (hy _).trans (row_eq m c t r b s h _ (by show o + (64 * (j.val / 64) + l.val) < 3360; omega))

/-- What the reference computes of the launch's arguments: the queries. -/
def outGq (c : Dev nD) : Vec Ideal S16640x512 .bf16 :=
  Cert.Reference3Ideal.Read.val_main_v104 (F := Ideal) (m ((c : Thread nD τ).loc main_arg0)) (m ((c : Thread nD τ).loc main_arg1)) (m ((c : Thread nD τ).loc main_arg2)) (m ((c : Thread nD τ).loc main_arg3))

/-- What the reference computes of the launch's arguments: the keys. -/
def outGk (c : Dev nD) : Vec Ideal S16640x512 .bf16 :=
  Cert.Reference3Ideal.Read.val_main_v106 (F := Ideal) (m ((c : Thread nD τ).loc main_arg0)) (m ((c : Thread nD τ).loc main_arg1)) (m ((c : Thread nD τ).loc main_arg2)) (m ((c : Thread nD τ).loc main_arg4))

/-- What the reference computes of the launch's arguments: the values. -/
def outGv (c : Dev nD) : Vec Ideal S16640x512 .bf16 :=
  Cert.Reference3Ideal.Read.val_main_v108 (F := Ideal) (m ((c : Thread nD τ).loc main_arg0)) (m ((c : Thread nD τ).loc main_arg1)) (m ((c : Thread nD τ).loc main_arg2))

/-- What the reference computes of the launch's arguments: the input of the second mixer. -/
def outGu (c : Dev nD) : Vec Ideal S16640x1920 .f32 :=
  Cert.Reference3Ideal.Read.val_main_v109 (F := Ideal) (m ((c : Thread nD τ).loc main_arg0)) (m ((c : Thread nD τ).loc main_arg1)) (m ((c : Thread nD τ).loc main_arg2))

section
variable (c : Dev nD) (t : Fin cfg0.N) (r : Fin 640) (q : Fin 16640) (hq : q.val = 640 * t.val + r.val)
include hq

/-- A row of each block left at a point is the reference's row: the queries', -/
theorem outBq_apply (j : Fin 512) : outBq m c t (ix2 r j) = outGq m c (ix2 q j) := by
  unfold outBq outGq outq
  rw [Cert.Reference3Ideal.Hand.v104_apply _ _ _ _ q j ⟨q.val / 8320, by omega⟩ ⟨q.val % 8320, by omega⟩ rfl rfl]
  exact heads_eq m c t _ _ _ _ 0 (by omega) r _ _ (by show 640 * t.val + r.val = q.val / 8320 * 8320 + q.val % 8320; omega)
    (prodq_apply _ _ _ r) (iblk2_apply m c t) j

/-- the keys', -/
theorem outBk_apply (j : Fin 512) : outBk m c t (ix2 r j) = outGk m c (ix2 q j) := by
  unfold outBk outGk outk
  rw [Cert.Reference3Ideal.Hand.v106_apply _ _ _ _ q j ⟨q.val / 8320, by omega⟩ ⟨q.val % 8320, by omega⟩ rfl rfl]
  refine (heads_eq m c t _ _ _ _ 512 (by omega) r ⟨q.val / 8320, by omega⟩ ⟨q.val % 8320, by omega⟩ (by show 640 * t.val + r.val = q.val / 8320 * 8320 + q.val % 8320; omega)
    (prodk_apply _ _ _ r) (iblk3_apply m c t) j).trans ?_
  rw [Ideal.ofBits_one_f32, mul_one]

/-- the values', -/
theorem outBv_apply (j : Fin 512) : outBv m c t (ix2 r j) = outGv m c (ix2 q j) := by
  unfold outBv outGv
  rw [Cert.Reference3Ideal.Hand.v108_apply _ _ _ q j ⟨q.val / 8320, by omega⟩ ⟨q.val % 8320, by omega⟩ rfl rfl]
  exact (outvv_apply _ _ _ r j).trans (row_eq m c t r _ _ (by show 640 * t.val + r.val = q.val / 8320 * 8320 + q.val % 8320; omega) _ (by show 1024 + j.val < 3360; omega))

/-- the second mixer's input. -/
theorem outBu_apply (j : Fin 1920) : outBu m c t (ix2 r j) = outGu m c (ix2 q j) := by
  unfold outBu outGu
  rw [Cert.Reference3Ideal.Hand.v109_apply _ _ _ q j ⟨q.val / 8320, by omega⟩ ⟨q.val % 8320, by omega⟩ rfl rfl]
  refine (outu_apply _ _ _ r j).trans ?_
  by_cases p : j.val < 1824
  · rw [dif_pos p]
    exact row_eq m c t r _ _ (by show 640 * t.val + r.val = q.val / 8320 * 8320 + q.val % 8320; omega) _ (by show 1536 + j.val < 3360; omega)
  · rw [dif_neg p]
    exact row_zero m c t r _ (by show ¬1536 + j.val < 3360; omega)

end

/-- Blocks of 640 rows that agree with an array row by row agree with it at every index. -/
theorem at_row {α : Type} {n : ℕ} (G : (⟨2, ![16640, n]⟩ : Shape).Idx → α) (B : (⟨2, ![640, n]⟩ : Shape).Idx → α) (t : ℕ)
    (h : ∀ (r : Fin 640) (q : Fin 16640) (j : Fin n), q.val = 640 * t + r.val → B (ix2 r j) = G (ix2 q j)) (y : (⟨2, ![640, n]⟩ : Shape).Idx)
    (i : (⟨2, ![16640, n]⟩ : Shape).Idx) (h0 : (i 0).val = t * 640 + (y 0).val) (h1 : (i 1).val = 0 * n + (y 1).val) : B y = G i :=
  (congrArg B (Shape.idx_ext₂ rfl rfl : y = ix2 (y 0) (y 1))).trans ((h (y 0) (i 0) (y 1) (by omega)).trans
    (congrArg G (Shape.idx_ext₂ rfl (by show (y 1).val = (i 1).val; omega) : ix2 (i 0) (y 1) = i)))

/-- The result array after every write-back: the queries. -/
theorem finalq (c : Dev nD) : (dats m 0 c).arrAt 8 cfg0.N = outGq m c := by
  refine (dats m 0 c).arrAt_eq_of_covers 8 _ (by decide +kernel) fun t hf y => ?_
  rw [after0_8]
  refine at_row (outGq m c) (outBq m c t) t.val (fun r q j hq => outBq_apply m c t r q hq j) y ((win0_8.rect t).emb y) ?_ ?_ <;>
    rw [Window.rect_emb_val win0_8, idx8] <;> rfl

/-- The result array after every write-back: the keys. -/
theorem finalk (c : Dev nD) : (dats m 0 c).arrAt 9 cfg0.N = outGk m c := by
  refine (dats m 0 c).arrAt_eq_of_covers 9 _ (by decide +kernel) fun t hf y => ?_
  rw [after0_9]
  refine at_row (outGk m c) (outBk m c t) t.val (fun r q j hq => outBk_apply m c t r q hq j) y ((win0_9.rect t).emb y) ?_ ?_ <;>
    rw [Window.rect_emb_val win0_9, idx9] <;> rfl

/-- The result array after every write-back: the values. -/
theorem finalv (c : Dev nD) : (dats m 0 c).arrAt 10 cfg0.N = outGv m c := by
  refine (dats m 0 c).arrAt_eq_of_covers 10 _ (by decide +kernel) fun t hf y => ?_
  rw [after0_10]
  refine at_row (outGv m c) (outBv m c t) t.val (fun r q j hq => outBv_apply m c t r q hq j) y ((win0_10.rect t).emb y) ?_ ?_ <;>
    rw [Window.rect_emb_val win0_10, idx10] <;> rfl

/-- The result array after every write-back: the input of the second mixer. -/
theorem finalu (c : Dev nD) : (dats m 0 c).arrAt 11 cfg0.N = outGu m c := by
  refine (dats m 0 c).arrAt_eq_of_covers 11 _ (by decide +kernel) fun t hf y => ?_
  rw [after0_11]
  refine at_row (outGu m c) (outBu m c t) t.val (fun r q j hq => outBu_apply m c t r q hq j) y ((win0_11.rect t).emb y) ?_ ?_ <;>
    rw [Window.rect_emb_val win0_11, idx11] <;> rfl

/-- The launch with its results named: the reference's values, the arguments unchanged. -/
theorem run_value : θ_run defs (onTc (τ := τ) (main (F := Ideal))) ⟨m, fun _ => 0, ρ⟩ (fun r => ∀ c : Dev nD,
      r.2.mem ((c.tc : Thread nD τ).loc main_v56_0) = outGq m c
      ∧ r.2.mem ((c.tc : Thread nD τ).loc main_v56_1) = outGk m c
      ∧ r.2.mem ((c.tc : Thread nD τ).loc main_v56_2) = outGv m c
      ∧ r.2.mem ((c.tc : Thread nD τ).loc main_v56_3) = outGu m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).1 8).trans (finalq m c), ((h.1 c).1 9).trans (finalk m c), ((h.1 c).1 10).trans (finalv m c), ((h.1 c).1 11).trans (finalu m c), h.2.1 c⟩)
    (θ_run_and ((θ_run defs _ _).mono (fun _ h => h.1) (run_main m ρ)) (frame_quiet m ρ))

end Cert.Kernel3Ideal.Hand

end
-- ==== Proof.lean ====
/- The proof of the certificate's claim: the frames, the idealizations, and that each call and the plain mathematics of
   its part of the layer end with equal results over the extended reals. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Mix.Value
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.Gen.Reference2Ideal.Read
public import proofs.«01_k».proof.Proof.Pre.Value
public import proofs.«01_k».proof.Proof.Gen.Kernel3
public import proofs.«01_k».proof.Proof.Gen.Kernel3Ideal
public import proofs.«01_k».proof.Proof.Gen.Reference3Ideal
public import proofs.«01_k».proof.Proof.Gen.Reference3Ideal.Run
public import proofs.«01_k».proof.Proof.Gen.Reference3Ideal.Read
public import proofs.«01_k».proof.Proof.In.Value
public import Idealize.ShloMosaic.Adequacy
public import Idealize.ShloMosaic.Init

@[expose] public section

noncomputable section

namespace Cert.Proof

open Idealize.ShloMosaic Idealize.SL.Sem

/-- The body tables of the bit-exact last call and of the idealized one are the same. -/
theorem bodies_Kernel : Cert.Kernel.defs₀ (F := Bits) = Cert.KernelIdeal.defs₀ := by
  refine congrArg Defs.onTc (funext fun l => funext fun a => ?_)
  match l, a with
  | 0, (t, s) => rfl

/-- So are the tables with the pipelines in them. -/
theorem tables_Kernel : Cert.Kernel.defs (F := Bits) = Cert.KernelIdeal.defs :=
  congrArg (Pipeline.defs (Cert.KernelIdeal.pcfgs (F := Bits))) bodies_Kernel

/-- The bit-exact last call runs, leaves its arguments unchanged and every counter at zero: its text is the idealized one's,
    whose run holds over any float values. -/
theorem frame_Kernel : Cert.quiescent_Kernel := fun m ρ _ => by
  rw [tables_Kernel]
  exact Cert.KernelIdeal.Hand.frame_quiet (F := Bits) m ρ

/-- The same over the extended reals. -/
theorem frame_KernelIdeal : Cert.quiescent_KernelIdeal := fun m ρ _ => Cert.KernelIdeal.Hand.frame_quiet (F := Ideal) m ρ

/-- The plain mathematics of the last call runs and leaves its arguments unchanged; it declares no semaphore. -/
theorem frame_ReferenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The last call and its plain mathematics end with equal results from equal arguments. -/
theorem algebraic_Kernel : Cert.algebraic_KernelIdeal_ReferenceIdeal := by
  intro m ρ m' ρ' _ hagree
  refine ⟨fun c => Cert.KernelIdeal.Hand.outG m c, Cert.KernelIdeal.Hand.run_value m ρ,
    (θ_run Cert.ReferenceIdeal.defs _ _).mono (fun r h c => ⟨(h c).1.trans ?_, (h c).2⟩) (Cert.ReferenceIdeal.Value.run (F := Ideal) m' ρ')⟩
  rw [Cert.ReferenceIdeal.Read.val_main_v32_eq m' c]
  obtain ⟨h0, h1, h2, h3, h4, h5, h6, h7⟩ := hagree c
  unfold Cert.KernelIdeal.Hand.outG
  rw [h0, h1, h2, h3, h4, h5, h6, h7]

/-- The body tables of the bit-exact first call and of the idealized one are the same. -/
theorem bodies_Kernel2 : Cert.Kernel2.defs₀ (F := Bits) = Cert.Kernel2Ideal.defs₀ := by
  refine congrArg Defs.onTc (funext fun l => funext fun a => ?_)
  match l, a with
  | 0, (t, s) => rfl

/-- So are the tables with the pipelines in them. -/
theorem tables_Kernel2 : Cert.Kernel2.defs (F := Bits) = Cert.Kernel2Ideal.defs :=
  congrArg (Pipeline.defs (Cert.Kernel2Ideal.pcfgs (F := Bits))) bodies_Kernel2

/-- The bit-exact first call runs, leaves its arguments unchanged and every counter at zero: its text is the idealized one's,
    whose run holds over any float values. -/
theorem frame_Kernel2 : Cert.quiescent_Kernel2 := fun m ρ _ => by
  rw [tables_Kernel2]
  exact Cert.Kernel2Ideal.Hand.frame_quiet (F := Bits) m ρ

/-- The same over the extended reals. -/
theorem frame_Kernel2Ideal : Cert.quiescent_Kernel2Ideal := fun m ρ _ => Cert.Kernel2Ideal.Hand.frame_quiet (F := Ideal) m ρ

/-- The plain mathematics of the first call runs and leaves its arguments unchanged; it declares no semaphore. -/
theorem frame_Reference2Ideal : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The first call and its plain mathematics end with equal results from equal arguments. -/
theorem algebraic_Kernel2 : Cert.algebraic_Kernel2Ideal_Reference2Ideal := by
  intro m ρ m' ρ' _ hagree
  refine ⟨fun c => Cert.Kernel2Ideal.Hand.outG m c, Cert.Kernel2Ideal.Hand.run_value m ρ,
    (θ_run Cert.Reference2Ideal.defs _ _).mono (fun r h c => ⟨(h c).1.trans ?_, (h c).2⟩) (Cert.Reference2Ideal.Value.run (F := Ideal) m' ρ')⟩
  rw [Cert.Reference2Ideal.Read.val_main_v29_eq m' c]
  obtain ⟨h0, h1, h2, h3, h4, h5⟩ := hagree c
  unfold Cert.Kernel2Ideal.Hand.outG
  rw [h0, h1, h2, h3, h4, h5]

set_option maxHeartbeats 4000000 in
/-- The body tables of the bit-exact mixers' input call and of the idealized one are the same. -/
theorem bodies_Kernel3 : Cert.Kernel3.defs₀ (F := Bits) = Cert.Kernel3Ideal.defs₀ := by
  refine congrArg Defs.onTc (funext fun l => funext fun a => ?_)
  match l, a with
  | 0, (t, s) => rfl

/-- So are the tables with the pipelines in them. -/
theorem tables_Kernel3 : Cert.Kernel3.defs (F := Bits) = Cert.Kernel3Ideal.defs :=
  congrArg (Pipeline.defs (Cert.Kernel3Ideal.pcfgs (F := Bits))) bodies_Kernel3

set_option maxHeartbeats 4000000 in
/-- The bit-exact mixers' input call runs, leaves its arguments unchanged and every counter at zero: its text is the idealized one's,
    whose run holds over any float values. -/
theorem frame_Kernel3 : Cert.quiescent_Kernel3 := fun m ρ _ => by
  rw [tables_Kernel3]
  exact Cert.Kernel3Ideal.Hand.frame_quiet (F := Bits) m ρ

/-- The same over the extended reals. -/
theorem frame_Kernel3Ideal : Cert.quiescent_Kernel3Ideal := fun m ρ _ => Cert.Kernel3Ideal.Hand.frame_quiet (F := Ideal) m ρ

/-- The plain mathematics of the mixers' input call runs and leaves its arguments unchanged; it declares no semaphore. -/
theorem frame_Reference3Ideal : Cert.quiescent_Reference3Ideal := fun m ρ _ =>
  (θ_run Cert.Reference3Ideal.defs _ _).mono (fun r h => ⟨fun c => (h c).2.2.2.2, sem_eq_zero_of_no_sems (by decide) r.2⟩)
    (Cert.Reference3Ideal.Value.run (F := Ideal) m ρ)

/-- The mixers' input call and its plain mathematics end with equal results from equal arguments. -/
theorem algebraic_Kernel3 : Cert.algebraic_Kernel3Ideal_Reference3Ideal := by
  intro m ρ m' ρ' _ hagree
  refine ⟨fun c => Cert.Kernel3Ideal.Hand.outGq m c, fun c => Cert.Kernel3Ideal.Hand.outGk m c, fun c => Cert.Kernel3Ideal.Hand.outGv m c, fun c => Cert.Kernel3Ideal.Hand.outGu m c,
    Cert.Kernel3Ideal.Hand.run_value m ρ,
    (θ_run Cert.Reference3Ideal.defs _ _).mono (fun r h c => ⟨(h c).1.trans ?_, (h c).2.1.trans ?_, (h c).2.2.1.trans ?_, (h c).2.2.2.1.trans ?_, (h c).2.2.2.2⟩) (Cert.Reference3Ideal.Value.run (F := Ideal) m' ρ')⟩
  all_goals obtain ⟨h0, h1, h2, h3, h4⟩ := hagree c
  · rw [Cert.Reference3Ideal.Read.val_main_v104_eq m' c]
    unfold Cert.Kernel3Ideal.Hand.outGq
    rw [h0, h1, h2, h3]
  · rw [Cert.Reference3Ideal.Read.val_main_v106_eq m' c]
    unfold Cert.Kernel3Ideal.Hand.outGk
    rw [h0, h1, h2, h4]
  · refine (Cert.Reference3Ideal.Read.val_main_v108_eq (F := Ideal) _ _ _).trans ?_
    unfold Cert.Kernel3Ideal.Hand.outGv
    rw [h0, h1, h2]
  · refine (Cert.Reference3Ideal.Read.val_main_v109_eq (F := Ideal) _ _ _).trans ?_
    unfold Cert.Kernel3Ideal.Hand.outGu
    rw [h0, h1, h2]

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts,
    frame_Kernel, frame_KernelIdeal, frame_ReferenceIdeal, frame_Kernel2, frame_Kernel2Ideal, frame_Reference2Ideal,
    frame_Kernel3, frame_Kernel3Ideal, frame_Reference3Ideal, trivial, algebraic_Kernel, trivial, algebraic_Kernel2, trivial, algebraic_Kernel3⟩

end Cert.Proof

end
